-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3_0) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2_0) = v0 c
          ∧ r.2.mem ((c.tc : Thread Cert.DownRefIdeal.nD Cert.DownRefIdeal.τ).loc Cert.DownRefIdeal.main_v2_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)) (v2 : (c : Dev Cert.OutIdeal.nD) → Buf (Elt Ideal) ((c.tc : Thread Cert.OutIdeal.nD Cert.OutIdeal.τ).loc Cert.OutIdeal.main_v2_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_v2_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3_0) = v0 c
          ∧ r.2.mem ((c.tc : Thread Cert.OutRefIdeal.nD Cert.OutRefIdeal.τ).loc Cert.OutRefIdeal.main_v3_1) = v1 c
          ∧ r.2.mem ((c.tc : Thread Cert.OutRefIdeal.nD Cert.OutRefIdeal.τ).loc Cert.OutRefIdeal.main_v4) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts),
    quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
-- ==== Up.lean ====
abbrev S16384x2048 : Shape := ⟨2, ![16384, 2048]⟩
abbrev S128x128 : Shape := ⟨2, ![128, 128]⟩
abbrev S2048x10752 : Shape := ⟨2, ![2048, 10752]⟩
abbrev S10752 : Shape := ⟨1, ![10752]⟩
abbrev S1x10752 : Shape := ⟨2, ![1, 10752]⟩
abbrev S16384x10752 : Shape := ⟨2, ![16384, 10752]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩
abbrev S1024x128 : Shape := ⟨2, ![1024, 128]⟩
abbrev S1x128 : Shape := ⟨2, ![1, 128]⟩
abbrev S8x128 : Shape := ⟨2, ![8, 128]⟩
abbrev S1024x256 : Shape := ⟨2, ![1024, 256]⟩
abbrev S2048x256 : Shape := ⟨2, ![2048, 256]⟩
abbrev S1x256 : Shape := ⟨2, ![1, 256]⟩

abbrev nBuf : Space → Nat
  | .hbm => 10
  | .vmem => 17
  | .smem => 0
  | _ => 0

abbrev bufTy : (tb : Table) → Fin (tcTables nBuf tb) → BufTy
  | .hbm, ⟨0, _⟩ => ⟨S16384x2048, .i8⟩
  | .hbm, ⟨1, _⟩ => ⟨S128x128, .f32⟩
  | .hbm, ⟨2, _⟩ => ⟨S2048x10752, .i8⟩
  | .hbm, ⟨3, _⟩ => ⟨S10752, .f32⟩
  | .hbm, ⟨4, _⟩ => ⟨S2048x10752, .i8⟩
  | .hbm, ⟨5, _⟩ => ⟨S10752, .f32⟩
  | .hbm, ⟨6, _⟩ => ⟨S1x10752, .f32⟩
  | .hbm, ⟨7, _⟩ => ⟨S1x10752, .f32⟩
  | .hbm, ⟨8, _⟩ => ⟨S16384x10752, .f32⟩
  | .hbm, ⟨9, _⟩ => ⟨S128x128, .f32⟩
  | .local _ .vmem, ⟨0, _⟩ => ⟨S1024x2048, .i8⟩
  | .local _ .vmem, ⟨1, _⟩ => ⟨S1024x2048, .i8⟩
  | .local _ .vmem, ⟨2, _⟩ => ⟨S128x128, .f32⟩
  | .local _ .vmem, ⟨3, _⟩ => ⟨S2048x1536, .i8⟩
  | .local _ .vmem, ⟨4, _⟩ => ⟨S2048x1536, .i8⟩
  | .local _ .vmem, ⟨5, _⟩ => ⟨S1x1536, .f32⟩
  | .local _ .vmem, ⟨6, _⟩ => ⟨S1x1536, .f32⟩
  | .local _ .vmem, ⟨7, _⟩ => ⟨S2048x1536, .i8⟩
  | .local _ .vmem, ⟨8, _⟩ => ⟨S2048x1536, .i8⟩
  | .local _ .vmem, ⟨9, _⟩ => ⟨S1x1536, .f32⟩
  | .local _ .vmem, ⟨10, _⟩ => ⟨S1x1536, .f32⟩
  | .local _ .vmem, ⟨11, _⟩ => ⟨S1024x1536, .f32⟩
  | .local _ .vmem, ⟨12, _⟩ => ⟨S1024x1536, .f32⟩
  | .local _ .vmem, ⟨13, _⟩ => ⟨S128x128, .f32⟩
  | .local _ .vmem, ⟨14, _⟩ => ⟨S1024x2048, .bf16⟩
  | .local _ .vmem, ⟨15, _⟩ => ⟨S1024x128, .f32⟩
  | .local _ .vmem, ⟨16, _⟩ => ⟨S1024x128, .f32⟩
  | _, _ => ⟨S16384x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_119 : BitVec 32) : Fin 2 → Nat :=
  let arg0 : BitVec 32 := BitVec.ofNat 32 (i 0).val
  let c8_i32 : BitVec 32 := 8#32
  let v215 : BitVec 32 := Scalar.muli arg0 c8_i32
  let v216 : BitVec 32 := Scalar.addi v215 c0_i32_119
  let v217 : Index := Scalar.indexCast v216
  let c0_120 : Index := 0#32
  ![v217.toNat, 0]
def k0_cond2 (i : grid0.Coords) : BitVec 1 :=
  let arg1 : BitVec 32 := BitVec.ofNat 32 (i 1).val
  let c6_i32 : BitVec 32 := 6#32
  let v207 : BitVec 1 := Scalar.cmpi .eq arg1 c6_i32
  let v208 : BitVec 32 := Scalar.extui v207
  let c0_i32_114 : BitVec 32 := 0#32
  let v209 : BitVec 1 := Scalar.cmpi .ne v208 c0_i32_114
  v209

def k0_off2 (i : grid0.Coords) (c0_i32_162 : BitVec 32) : Fin 2 → Nat :=
  let arg0 : BitVec 32 := BitVec.ofNat 32 (i 0).val
  let c8_i32 : BitVec 32 := 8#32
  let v572 : BitVec 32 := Scalar.muli arg0 c8_i32
  let v573 : BitVec 32 := Scalar.addi v572 c0_i32_162
  let v574 : Index := Scalar.indexCast v573
  let c0_163 : Index := 0#32
  ![v574.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpRefIdeal.lean ====
abbrev S16384x2048 : Shape := ⟨2, ![16384, 2048]⟩
abbrev S128x128 : Shape := ⟨2, ![128, 128]⟩
abbrev S2048x10752 : Shape := ⟨2, ![2048, 10752]⟩
abbrev S10752 : Shape := ⟨1, ![10752]⟩
abbrev S16384x1 : Shape := ⟨2, ![16384, 1]⟩
abbrev S1x10752 : Shape := ⟨2, ![1, 10752]⟩
abbrev S16384x10752 : Shape := ⟨2, ![16384, 10752]⟩
abbrev S16384 : Shape := ⟨1, ![16384]⟩

abbrev nBuf : Space → Nat
  | .hbm => 12
  | .vmem => 8
  | .smem => 0
  | _ => 0

abbrev bufTy : (tb : Table) → Fin (tcTables nBuf tb) → BufTy
  | .hbm, ⟨0, _⟩ => ⟨S16384x2048, .i8⟩
  | .hbm, ⟨1, _⟩ => ⟨S128x128, .f32⟩
  | .hbm, ⟨2, _⟩ => ⟨S2048x10752, .i8⟩
  | .hbm, ⟨3, _⟩ => ⟨S10752, .f32⟩
  | .hbm, ⟨4, _⟩ => ⟨S2048x10752, .i8⟩
  | .hbm, ⟨5, _⟩ => ⟨S10752, .f32⟩
  | .hbm, ⟨6, _⟩ => ⟨S16384x1, .f32⟩
  | .hbm, ⟨7, _⟩ => ⟨S1x10752, .f32⟩
  | .hbm, ⟨8, _⟩ => ⟨S1x10752, .f32⟩
  | .hbm, ⟨9, _⟩ => ⟨S16384x10752, .f32⟩
  | .hbm, ⟨10, _⟩ => ⟨S16384x1, .f32⟩
  | .hbm, ⟨11, _⟩ => ⟨S128x128, .f32⟩
  | .local _ .vmem, ⟨0, _⟩ => ⟨S16384x2048, .i8⟩
  | .local _ .vmem, ⟨1, _⟩ => ⟨S16384x1, .f32⟩
  | .local _ .vmem, ⟨2, _⟩ => ⟨S2048x10752, .i8⟩
  | .local _ .vmem, ⟨3, _⟩ => ⟨S1x10752, .f32⟩
  | .local _ .vmem, ⟨4, _⟩ => ⟨S2048x10752, .i8⟩
  | .local _ .vmem, ⟨5, _⟩ => ⟨S1x10752, .f32⟩
  | .local _ .vmem, ⟨6, _⟩ => ⟨S16384x10752, .f32⟩
  | .local _ .vmem, ⟨7, _⟩ => ⟨S16384x1, .f32⟩
  | _, _ => ⟨S16384x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16384x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x10752 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10752 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x10752 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10752 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x10752 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S16384x10752 : Shape := ⟨2, ![16384, 10752]⟩
abbrev S128x128 : Shape := ⟨2, ![128, 128]⟩
abbrev S16384x2048 : Shape := ⟨2, ![16384, 2048]⟩
abbrev S10752x2048 : Shape := ⟨2, ![10752, 2048]⟩
abbrev S2048 : Shape := ⟨1, ![2048]⟩
abbrev S1x2048 : Shape := ⟨2, ![1, 2048]⟩
abbrev S512x3584 : Shape := ⟨2, ![512, 3584]⟩
abbrev S512x2048 : Shape := ⟨2, ![512, 2048]⟩
abbrev S3584x2048 : Shape := ⟨2, ![3584, 2048]⟩
abbrev S512x128 : Shape := ⟨2, ![512, 128]⟩
abbrev S1x128 : Shape := ⟨2, ![1, 128]⟩
abbrev S8x128 : Shape := ⟨2, ![8, 128]⟩

abbrev nBuf : Space → Nat
  | .hbm => 8
  | .vmem => 14
  | .smem => 0
  | _ => 0

abbrev bufTy : (tb : Table) → Fin (tcTables nBuf tb) → BufTy
  | .hbm, ⟨0, _⟩ => ⟨S16384x10752, .f32⟩
  | .hbm, ⟨1, _⟩ => ⟨S128x128, .f32⟩
  | .hbm, ⟨2, _⟩ => ⟨S16384x2048, .f32⟩
  | .hbm, ⟨3, _⟩ => ⟨S10752x2048, .i8⟩
  | .hbm, ⟨4, _⟩ => ⟨S2048, .f32⟩
  | .hbm, ⟨5, _⟩ => ⟨S1x2048, .f32⟩
  | .hbm, ⟨6, _⟩ => ⟨S16384x10752, .i8⟩
  | .hbm, ⟨7, _⟩ => ⟨S16384x2048, .bf16⟩
  | .local _ .vmem, ⟨0, _⟩ => ⟨S512x3584, .f32⟩
  | .local _ .vmem, ⟨1, _⟩ => ⟨S512x3584, .f32⟩
  | .local _ .vmem, ⟨2, _⟩ => ⟨S128x128, .f32⟩
  | .local _ .vmem, ⟨3, _⟩ => ⟨S512x2048, .f32⟩
  | .local _ .vmem, ⟨4, _⟩ => ⟨S512x2048, .f32⟩
  | .local _ .vmem, ⟨5, _⟩ => ⟨S3584x2048, .i8⟩
  | .local _ .vmem, ⟨6, _⟩ => ⟨S3584x2048, .i8⟩
  | .local _ .vmem, ⟨7, _⟩ => ⟨S1x2048, .f32⟩
  | .local _ .vmem, ⟨8, _⟩ => ⟨S512x3584, .i8⟩
  | .local _ .vmem, ⟨9, _⟩ => ⟨S512x3584, .i8⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x128, .f32⟩
  | _, _ => ⟨S16384x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_16 : BitVec 32) : Fin 2 → Nat :=
  let arg0 : BitVec 32 := BitVec.ofNat 32 (i 0).val
  let c4_i32 : BitVec 32 := 4#32
  let v32 : BitVec 32 := Scalar.muli arg0 c4_i32
  let v33 : BitVec 32 := Scalar.addi v32 c0_i32_16
  let v34 : Index := Scalar.indexCast v33
  let c0_17 : Index := 0#32
  ![v34.toNat, 0]
def k0_cond2 (i : grid0.Coords) : BitVec 1 :=
  let arg1 : BitVec 32 := BitVec.ofNat 32 (i 1).val
  let c2_i32 : BitVec 32 := 2#32
  let v25 : BitVec 1 := Scalar.cmpi .eq arg1 c2_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3584x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x3584 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S16384x10752 : Shape := ⟨2, ![16384, 10752]⟩
abbrev S128x128 : Shape := ⟨2, ![128, 128]⟩
abbrev S16384x2048 : Shape := ⟨2, ![16384, 2048]⟩
abbrev S10752x2048 : Shape := ⟨2, ![10752, 2048]⟩
abbrev S2048 : Shape := ⟨1, ![2048]⟩
abbrev S16384x1 : Shape := ⟨2, ![16384, 1]⟩
abbrev S1x2048 : Shape := ⟨2, ![1, 2048]⟩

abbrev nBuf : Space → Nat
  | .hbm => 9
  | .vmem => 7
  | .smem => 0
  | _ => 0

abbrev bufTy : (tb : Table) → Fin (tcTables nBuf tb) → BufTy
  | .hbm, ⟨0, _⟩ => ⟨S16384x10752, .f32⟩
  | .hbm, ⟨1, _⟩ => ⟨S128x128, .f32⟩
  | .hbm, ⟨2, _⟩ => ⟨S16384x2048, .f32⟩
  | .hbm, ⟨3, _⟩ => ⟨S10752x2048, .i8⟩
  | .hbm, ⟨4, _⟩ => ⟨S2048, .f32⟩
  | .hbm, ⟨5, _⟩ => ⟨S16384x1, .f32⟩
  | .hbm, ⟨6, _⟩ => ⟨S1x2048, .f32⟩
  | .hbm, ⟨7, _⟩ => ⟨S16384x10752, .i8⟩
  | .hbm, ⟨8, _⟩ => ⟨S16384x2048, .bf16⟩
  | .local _ .vmem, ⟨0, _⟩ => ⟨S16384x10752, .f32⟩
  | .local _ .vmem, ⟨1, _⟩ => ⟨S16384x1, .f32⟩
  | .local _ .vmem, ⟨2, _⟩ => ⟨S16384x2048, .f32⟩
  | .local _ .vmem, ⟨3, _⟩ => ⟨S10752x2048, .i8⟩
  | .local _ .vmem, ⟨4, _⟩ => ⟨S1x2048, .f32⟩
  | .local _ .vmem, ⟨5, _⟩ => ⟨S16384x10752, .i8⟩
  | .local _ .vmem, ⟨6, _⟩ => ⟨S16384x2048, .bf16⟩
  | _, _ => ⟨S16384x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x10752 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10752x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x10752 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Out.lean ====
abbrev S16384x2048 : Shape := ⟨2, ![16384, 2048]⟩
abbrev S128x128 : Shape := ⟨2, ![128, 128]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x128 : Shape := ⟨2, ![1, 128]⟩
abbrev S8x128 : Shape := ⟨2, ![8, 128]⟩
abbrev S512x128 : Shape := ⟨2, ![512, 128]⟩
abbrev S512x256 : Shape := ⟨2, ![512, 256]⟩
abbrev S2048x256 : Shape := ⟨2, ![2048, 256]⟩
abbrev S1x256 : Shape := ⟨2, ![1, 256]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .i8⟩
  | .hbm, ⟨1, _⟩ => ⟨S128x128, .f32⟩
  | .hbm, ⟨2, _⟩ => ⟨S16384x2048, .bf16⟩
  | .hbm, ⟨3, _⟩ => ⟨S2048x2048, .i8⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .i8⟩
  | .hbm, ⟨10, _⟩ => ⟨S128x128, .f32⟩
  | .local _ .vmem, ⟨0, _⟩ => ⟨S512x2048, .i8⟩
  | .local _ .vmem, ⟨1, _⟩ => ⟨S512x2048, .i8⟩
  | .local _ .vmem, ⟨2, _⟩ => ⟨S128x128, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .i8⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .i8⟩
  | .local _ .vmem, ⟨11, _⟩ => ⟨S512x2048, .i8⟩
  | .local _ .vmem, ⟨12, _⟩ => ⟨S128x128, .f32⟩
  | .local _ .vmem, ⟨13, _⟩ => ⟨S512x2048, .bf16⟩
  | _, _ => ⟨S16384x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_off1 (i : grid0.Coords) (c0_i32 : BitVec 32) : Fin 2 → Nat :=
  let arg0 : BitVec 32 := BitVec.ofNat 32 (i 0).val
  let c4_i32 : BitVec 32 := 4#32
  let v5 : BitVec 32 := Scalar.muli arg0 c4_i32
  let v6 : BitVec 32 := Scalar.addi v5 c0_i32
  let v7 : Index := Scalar.indexCast v6
  let c0_3 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutRefIdeal.lean ====
abbrev S16384x2048 : Shape := ⟨2, ![16384, 2048]⟩
abbrev S128x128 : Shape := ⟨2, ![128, 128]⟩
abbrev S2048x2048 : Shape := ⟨2, ![2048, 2048]⟩
abbrev S2048 : Shape := ⟨1, ![2048]⟩
abbrev S16384x1 : Shape := ⟨2, ![16384, 1]⟩
abbrev S1x2048 : Shape := ⟨2, ![1, 2048]⟩
abbrev S16384 : Shape := ⟨1, ![16384]⟩

abbrev nBuf : Space → Nat
  | .hbm => 13
  | .vmem => 9
  | .smem => 0
  | _ => 0

abbrev bufTy : (tb : Table) → Fin (tcTables nBuf tb) → BufTy
  | .hbm, ⟨0, _⟩ => ⟨S16384x2048, .i8⟩
  | .hbm, ⟨1, _⟩ => ⟨S128x128, .f32⟩
  | .hbm, ⟨2, _⟩ => ⟨S16384x2048, .bf16⟩
  | .hbm, ⟨3, _⟩ => ⟨S2048x2048, .i8⟩
  | .hbm, ⟨4, _⟩ => ⟨S2048, .f32⟩
  | .hbm, ⟨5, _⟩ => ⟨S2048, .f32⟩
  | .hbm, ⟨6, _⟩ => ⟨S16384x1, .f32⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .i8⟩
  | .hbm, ⟨11, _⟩ => ⟨S16384x1, .f32⟩
  | .hbm, ⟨12, _⟩ => ⟨S128x128, .f32⟩
  | .local _ .vmem, ⟨0, _⟩ => ⟨S16384x2048, .i8⟩
  | .local _ .vmem, ⟨1, _⟩ => ⟨S16384x1, .f32⟩
  | .local _ .vmem, ⟨2, _⟩ => ⟨S16384x2048, .bf16⟩
  | .local _ .vmem, ⟨3, _⟩ => ⟨S2048x2048, .i8⟩
  | .local _ .vmem, ⟨4, _⟩ => ⟨S1x2048, .f32⟩
  | .local _ .vmem, ⟨5, _⟩ => ⟨S1x2048, .f32⟩
  | .local _ .vmem, ⟨6, _⟩ => ⟨S16384x2048, .f32⟩
  | .local _ .vmem, ⟨7, _⟩ => ⟨S16384x2048, .i8⟩
  | .local _ .vmem, ⟨8, _⟩ => ⟨S16384x1, .f32⟩
  | _, _ => ⟨S16384x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x2048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.UpShared.lean ====
/-
  The gate-and-up call `Up`: the branch conditions of the kernel body over the grid points, and the buffers its runs
  are stated over.
-/
module

public import proofs.«01_k».proof.Proof.Gen.Up.Frame
public import proofs.«01_k».proof.Proof.Gen.Up.Skeleton
public import Idealize.ShloMosaic.Lib.Pipeline.FrameBody
public import Idealize.ShloMosaic.Lib.Ring
public import Idealize.ShloMosaic.Lib.Tactic
public import Idealize.ShloMosaic.Lib.WordCmp

@[expose] public section

-- The cover checks walk long axes one step per coordinate,
-- so the recursion limit is raised.
set_option maxRecDepth 16384

noncomputable section

namespace Cert.Up.Run

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 as a function of the grid coordinates. -/
abbrev cond0_0 (i : grid0.Coords) : Prop := k0_cond1 i = 1#1
/-- It holds at the points ≡ 0 (mod 7). -/
theorem hcond0_0 : ∀ t : Fin cfg0.N, cond0_0 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-- The condition of the body's `scf.if` 1 as a function of the grid coordinates. -/
abbrev cond0_1 (i : grid0.Coords) : Prop := k0_cond2 i = 1#1
/-- It holds at the points ≡ 6 (mod 7). -/
theorem hcond0_1 : ∀ t : Fin cfg0.N, cond0_1 (grid0.coords t) ↔ t.val % 7 = 6 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_1, k0_cond2, e0, e1]
    word_cmp
   : ∀ t : Fin grid0.N, cond0_1 (grid0.coords t) ↔ t.val % 7 = 6)

/-! ## No window is idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The buffers that the runs of the body are stated over -/

/-- Each window's staging buffer at point `t`, and that it is a whole buffer. -/
abbrev ms0_0 (t : Fin cfg0.N) : Memref sig .tc .vmem S1024x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
/-- The scratch buffers, which are passed beside the windows. -/
abbrev scM0_0 : Memref sig .tc .vmem S1024x2048 .bf16 := Memref.whole cc0_scratch0
abbrev scM0_1 : Memref sig .tc .vmem S1024x128 .f32 := Memref.whole cc0_scratch1
abbrev scM0_2 : Memref sig .tc .vmem S1024x128 .f32 := Memref.whole cc0_scratch2
/-- The scratch `arg10` the kernel carries between points, as a view: what it holds is stated through it. -/
abbrev VS0_0 : View sig .tc .vmem S1024x2048 .bf16 := scM0_0.view
/-- The scratch `arg11` the kernel carries between points, as a view: what it holds is stated through it. -/
abbrev VS0_1 : View sig .tc .vmem S1024x128 .f32 := scM0_1.view
/-- The scratch `arg12` the kernel carries between points, as a view: what it holds is stated through it. -/
abbrev VS0_2 : View sig .tc .vmem S1024x128 .f32 := scM0_2.view

/-- The part of the invariant that owns the scratch, buffer by buffer, each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Up.Run

end
-- ==== Proof.UpCaseA.lean ====
/-
  The gate-and-up call `Up`: one run of the kernel body in case A, the first feed-forward tile of a row tile (the branch that fills the scratch is taken).
-/
module

public import proofs.«01_k».proof.Proof.UpShared

@[expose] public section

-- The cover checks walk long axes one step per coordinate,
-- so the recursion limit is raised.
set_option maxRecDepth 16384

noncomputable section

namespace Cert.Up.Run

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The proof term is large, so the step limit is raised.
set_option maxHeartbeats 1000000 in
/-- What the body's stores leave in case A (`scf.if` 0 taken, `scf.if` 1 not taken: points 0, 7, … 105: 16 of 112), as lists of pieces with the last store first,
    together with the run of the body: from staging buffers that hold the input blocks, and scratch that holds what the
    point before left, the body reaches its end with the inputs unchanged and those pieces written. -/
noncomputable def kernelRun0_A (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) :
    Σ' (LS0 : List (View.Piece (Elt F) S1024x2048 .bf16)), Σ' (LS1 : List (View.Piece (Elt F) S1024x128 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gateup_eq_skeleton]; unfold cc0_gateup_skel
    simp only [k0_part10_eq_skeleton, k0_part1_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]; · iexists _; iexact HS1
    iexists _; iexact HS2

end Cert.Up.Run

end
-- ==== Proof.UpCaseB.lean ====
/-
  The gate-and-up call `Up`: one run of the kernel body in case B, a feed-forward tile between the first and the last.
-/
module

public import proofs.«01_k».proof.Proof.UpCaseA

@[expose] public section

-- The cover checks walk long axes one step per coordinate,
-- so the recursion limit is raised.
set_option maxRecDepth 16384

noncomputable section

namespace Cert.Up.Run

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The proof term is large, so the step limit is raised.
set_option maxHeartbeats 1200000 in
/-- What the body's stores leave in case B (`scf.if` 0 not taken, `scf.if` 1 not taken: points 1, 2, … 110: 80 of 112), as lists of pieces with the last store first,
    together with the run of the body: from staging buffers that hold the input blocks, and scratch that holds what the
    point before left, the body reaches its end with the inputs unchanged and those pieces written. -/
noncomputable def kernelRun0_B (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) :
    Σ' (LS0 : List (View.Piece (Elt F) S1024x2048 .bf16)), Σ' (LS1 : List (View.Piece (Elt F) S1024x128 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ f, arg12.view.loc (c : Thread nD τ) ↦[arg12.view.set]{fullShare} arg12.view.writes (Elt F) f LS2)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K } := by
  refine ⟨[], [], ?_, fun E K => ?run⟩
  case run =>
    simp only [cc0_gateup_eq_skeleton]; unfold cc0_gateup_skel
    simp only [k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _; isplitr; · ipureintro; exact harg11.read_unread _
      iexact HS1
    iexists _; iexact HS2

end Cert.Up.Run

end
-- ==== Proof.UpCaseC.lean ====
/-
  The gate-and-up call `Up`: one run of the kernel body in case C, the last feed-forward tile of a row tile (the branch that stores the scales is taken).
-/
module

public import proofs.«01_k».proof.Proof.UpCaseB

@[expose] public section

-- The cover checks walk long axes one step per coordinate,
-- so the recursion limit is raised.
set_option maxRecDepth 16384

noncomputable section

namespace Cert.Up.Run

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The proof term is large, so the step limit is raised.
set_option maxHeartbeats 1200000 in
/-- What the body's stores leave in case C (`scf.if` 0 not taken, `scf.if` 1 taken: points 6, 13, … 111: 16 of 112), as lists of pieces with the last store first,
    together with the run of the body: from staging buffers that hold the input blocks, and scratch that holds what the
    point before left, the body reaches its end with the inputs unchanged and those pieces written. -/
noncomputable def kernelRun0_C (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) :
    Σ' (LS0 : List (View.Piece (Elt F) S1024x2048 .bf16)), Σ' (LS1 : List (View.Piece (Elt F) S1024x128 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ f, arg12.view.loc (c : Thread nD τ) ↦[arg12.view.set]{fullShare} arg12.view.writes (Elt F) f LS2)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K } := by
  refine ⟨[], [], ?_, fun E K => ?run⟩
  case run =>
    simp only [cc0_gateup_eq_skeleton]; unfold cc0_gateup_skel
    simp only [k0_part10_eq_skeleton, k0_part11_eq_skeleton, k0_part12_eq_skeleton, k0_part13_eq_skeleton, k0_part14_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _; isplitr; · ipureintro; exact harg11.read_unread _
      iexact HS1
    iexists _; iexact HS2

end Cert.Up.Run

end
-- ==== Proof.UpFrame.lean ====
/-
  The gate-and-up call `Up`: the body obligation at every grid point, the run of the whole program and its frame.
-/
module

public import proofs.«01_k».proof.Proof.UpCaseC
public import Idealize.ShloMosaic.Lib.Claim

@[expose] public section

-- The cover checks walk long axes one step per coordinate,
-- so the recursion limit is raised.
set_option maxRecDepth 16384

noncomputable section

namespace Cert.Up.Run

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 1 piece of `S1024x2048` tiling it. -/
theorem scover0_A_0 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1 S1024x2048.size (by sl_kernel_rfl) y

/-- What case A leaves in scratch `arg10`: its pieces read back over junk. -/
def sout0_A_0 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for scratch `arg11`, which the kernel carries between points, cover it: 1 piece of `S1024x128` tiling it. -/
theorem scover0_A_1 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1024x128.size (by sl_kernel_rfl) y

/-- What case A leaves in scratch `arg11`: its pieces read back over junk. -/
def sout0_A_1 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A's pieces for scratch `arg12`, which the kernel carries between points, cover it: 2 pieces of `S1024x128` tiling it. -/
theorem scover0_A_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1024x128.size (by sl_kernel_rfl) y

/-- What case A leaves in scratch `arg12`: its pieces read back over junk. -/
def sout0_A_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) : Vec F S1024x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case B stores nothing into scratch `arg10`: it holds what the point before left. -/
def sout0_B_0 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x2048 .bf16 := xs0

/-- Case B stores nothing into scratch `arg11`: it holds what the point before left. -/
def sout0_B_1 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x128 .f32 := xs1

/-- Case B's pieces for scratch `arg12`, which the kernel carries between points, cover it: 1 piece of `S1024x128` tiling it. -/
theorem scover0_B_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x128.size (by sl_kernel_rfl) y

/-- What case B leaves in scratch `arg12`: its pieces read back over junk. -/
def sout0_B_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- Case C stores nothing into scratch `arg10`: it holds what the point before left. -/
def sout0_C_0 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x2048 .bf16 := xs0

/-- Case C stores nothing into scratch `arg11`: it holds what the point before left. -/
def sout0_C_1 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x128 .f32 := xs1

/-- Case C's pieces for scratch `arg12`, which the kernel carries between points, cover it: 1 piece of `S1024x128` tiling it. -/
theorem scover0_C_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x128.size (by sl_kernel_rfl) y

/-- What case C leaves in scratch `arg12`: its pieces read back over junk. -/
def sout0_C_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-! ## What the outputs hold after each point -/

/-- What the output buffers and the carried scratch hold after the body at position `n` (the outputs in window order,
    then the scratch): the contents of the case that `n` falls in, over what position `n - 1` left. -/
def outsAt0 (c : Dev nD) : (n : ℕ) → n < cfg0.N → Vec F S1024x2048 .bf16 × Vec F S1024x128 .f32 × Vec F S1024x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 7 = 0 then
      if h1 : (n + 1) % 7 = 6 then
        False.elim (by have hN : n + 1 < 112 := lt_of_lt_of_eq hn (show cfg0.N = 112 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 7 = 6 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 7 = 0) (h1 : ¬t.val % 7 = 6) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 7 = 0) (h1 : ¬t.val % 7 = 6) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 7 = 0) (h1 : t.val % 7 = 6) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scratch holds anything; afterwards each carried
    scratch holds what the point before left, the other scratch anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The two output windows, of whose contents the frame says nothing. -/
def forgets0 : Fin 8 → Bool := fun w => w.val == 6 || w.val == 7

/-- The proof data of the pipeline on core `c`: the arrays as the call finds them, each input buffer at its block after
    the body at point `t`, and the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The arrays of the proof data are those the call finds, stated so that `V` need not be unfolded. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 9600000 in
/-- The body at any point: the input buffers hold their blocks, the point falls in one of the three cases, and that
    case's run takes the carried scratch from what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 112 := lt_of_lt_of_eq t.isLt (show cfg0.N = 112 from N_0)
  by_cases h0 : t.val % 7 = 0
  · by_cases h1 : t.val % 7 = 6
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · rw [PhiS_castSucc m c t, PhiS_zero m c _ _ hz, PhiA0_eq]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m c t, PhiS_pos m c _ _ hz]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        isplitl [HS1]; · iexists _; iexact HS1
        isplitl [HS2]; · iexists _; iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · by_cases h1 : t.val % 7 = 6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 112 := lt_of_lt_of_eq t.isLt (show cfg0.N = 112 from N_0); omega
      · rw [PhiS_castSucc m c t, PhiS_pos m c _ _ hz]
        rw [outsAt0_C m c t h0 h1]
        unfold sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, H6, H7, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 112 := lt_of_lt_of_eq t.isLt (show cfg0.N = 112 from N_0); omega
      · rw [PhiS_castSucc m c t, PhiS_pos m c _ _ hz]
        rw [outsAt0_B m c t h0 h1]
        unfold sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, H6, H7, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The body that the pipeline runs at point `t`, as `bodyAt0` spells it. -/
theorem defs₀_row (t : Fin cfg0.N) :
    defs₀ (F := F) .tc cfg0.body (cfg0.bodyArgs t (cfg0.slots t)) = bodyAt0 t := by
  unfold defs₀; rw [Defs.onTc_tc]

/-- The same in the form that the pipeline rule asks for, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The invariant at the start follows from what the call finds. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant allows any contents of the scratch. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

/-! ## The run and the frame -/

-- Finding the implicit arguments takes unfolding plain definitions in the types,
-- which this option allows.
set_option backward.isDefEq.respectTransparency.types false in
/-- The run of the whole program, with every semaphore counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters every weakly fair execution of the program ends, the arrays end as the proof data
    say, and every other buffer is unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame claim's post from a run with relational proof data whose arrays are the region-entry contents: a staged
    input ends as the region found it, an array that no window stages is untouched. -/
theorem frame_of_rel (rdat : (c : Dev nD) → Pipeline.RDat τ (Elt F) Unit ℕ (UR sig nD τ) ℕ cfg0 c)
    (hA : ∀ c w, (rdat c).A w = V m c (Pipeline.arrRef spec0 w)) {r : PUnit × MemSt nD τ sig (Elt F)}
    (h : Pipeline.RDat.FramePost cfg0 rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((hA c 0).trans (V_main_arg0 m c)),
    (h.arr_in c 1 rfl).trans ((hA c 1).trans (V_main_arg1 m c)),
    (h.arr_in c 2 rfl).trans ((hA c 2).trans (V_main_arg2 m c)),
    ((h c).2 main_arg3 (Pipeline.mem_restRefs_of main_arg3 (by decide) (by decide))).trans (V_main_arg3 m c),
    (h.arr_in c 4 rfl).trans ((hA c 4).trans (V_main_arg4 m c)),
    ((h c).2 main_arg5 (Pipeline.mem_restRefs_of main_arg5 (by decide) (by decide))).trans (V_main_arg5 m c)⟩

/-- The same without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => frame_of_rel m _ (A_eq m) h c) (run_main m ρ)

/-- The frame: the program ends from any memory and leaves its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Up.Run

end
-- ==== Proof.UpIdealShared.lean ====
/-
  The gate-and-up call `UpIdeal`: the branch conditions of the kernel body over the grid points, and the buffers its runs
  are stated over.
-/
module

public import proofs.«01_k».proof.Proof.Gen.UpIdeal.Frame
public import proofs.«01_k».proof.Proof.Gen.UpIdeal.Skeleton
public import Idealize.ShloMosaic.Lib.Pipeline.FrameBody
public import Idealize.ShloMosaic.Lib.Ring
public import Idealize.ShloMosaic.Lib.Tactic
public import Idealize.ShloMosaic.Lib.WordCmp

@[expose] public section

-- The cover checks walk long axes one step per coordinate,
-- so the recursion limit is raised.
set_option maxRecDepth 16384

noncomputable section

namespace Cert.UpIdeal.Run

open Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 as a function of the grid coordinates. -/
abbrev cond0_0 (i : grid0.Coords) : Prop := k0_cond1 i = 1#1
/-- It holds at the points ≡ 0 (mod 7). -/
theorem hcond0_0 : ∀ t : Fin cfg0.N, cond0_0 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-- The condition of the body's `scf.if` 1 as a function of the grid coordinates. -/
abbrev cond0_1 (i : grid0.Coords) : Prop := k0_cond2 i = 1#1
/-- It holds at the points ≡ 6 (mod 7). -/
theorem hcond0_1 : ∀ t : Fin cfg0.N, cond0_1 (grid0.coords t) ↔ t.val % 7 = 6 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_1, k0_cond2, e0, e1]
    word_cmp
   : ∀ t : Fin grid0.N, cond0_1 (grid0.coords t) ↔ t.val % 7 = 6)

/-! ## No window is idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-! ## The buffers that the runs of the body are stated over -/

/-- One staging buffer of output window 6, through which its contents are stated (any would do). -/
abbrev VO0_6 : View sig .tc .vmem S1024x1536 .f32 := (Memref.whole cc0_stg6_0 : Memref sig .tc .vmem S1024x1536 .f32).view
/-- Each window's staging buffer at point `t`, and that it is a whole buffer. -/
abbrev ms0_0 (t : Fin cfg0.N) : Memref sig .tc .vmem S1024x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
/-- The scratch buffers, which are passed beside the windows. -/
abbrev scM0_0 : Memref sig .tc .vmem S1024x2048 .bf16 := Memref.whole cc0_scratch0
abbrev scM0_1 : Memref sig .tc .vmem S1024x128 .f32 := Memref.whole cc0_scratch1
abbrev scM0_2 : Memref sig .tc .vmem S1024x128 .f32 := Memref.whole cc0_scratch2
/-- The scratch `arg10` the kernel carries between points, as a view: what it holds is stated through it. -/
abbrev VS0_0 : View sig .tc .vmem S1024x2048 .bf16 := scM0_0.view
/-- The scratch `arg11` the kernel carries between points, as a view: what it holds is stated through it. -/
abbrev VS0_1 : View sig .tc .vmem S1024x128 .f32 := scM0_1.view
/-- The scratch `arg12` the kernel carries between points, as a view: what it holds is stated through it. -/
abbrev VS0_2 : View sig .tc .vmem S1024x128 .f32 := scM0_2.view

/-- The part of the invariant that owns the scratch, buffer by buffer, each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.UpIdeal.Run

end
-- ==== Proof.UpIdealCaseA.lean ====
/-
  The gate-and-up call `UpIdeal`: one run of the kernel body in case A, the first feed-forward tile of a row tile (the branch that fills the scratch is taken).
-/
module

public import proofs.«01_k».proof.Proof.UpIdealShared

@[expose] public section

-- The cover checks walk long axes one step per coordinate,
-- so the recursion limit is raised.
set_option maxRecDepth 16384

noncomputable section

namespace Cert.UpIdeal.Run

open Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The proof term is large, so the step limit is raised.
set_option maxHeartbeats 1000000 in
/-- What the body's stores leave in case A (`scf.if` 0 taken, `scf.if` 1 not taken: points 0, 7, … 105: 16 of 112), as lists of pieces with the last store first,
    together with the run of the body: from staging buffers that hold the input blocks, and scratch that holds what the
    point before left, the body reaches its end with the inputs unchanged and those pieces written. -/
noncomputable def kernelRun0_A (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) :
    Σ' (L6 : List (View.Piece (Elt F) S1024x1536 .f32)), Σ' (LS0 : List (View.Piece (Elt F) S1024x2048 .bf16)), Σ' (LS1 : List (View.Piece (Elt F) S1024x128 .f32)), { LS2 : List (View.Piece (Elt F) S1024x128 .f32) //
      ∀ (E : Set ℕ) (y7 : Vec F S128x128 .f32) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare y7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K } := by
  refine ⟨?_, ?_, ?_, ?_, fun E y7 K => ?run⟩
  case run =>
    simp only [cc0_gateup_eq_skeleton]; unfold cc0_gateup_skel
    simp only [k0_part10_eq_skeleton, k0_part1_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [HS0]; · iexists _; iexact HS0
    isplitl [HS1]; · iexists _; iexact HS1
    iexists _; iexact HS2

end Cert.UpIdeal.Run

end
-- ==== Proof.UpIdealCaseB.lean ====
/-
  The gate-and-up call `UpIdeal`: one run of the kernel body in case B, a feed-forward tile between the first and the last.
-/
module

public import proofs.«01_k».proof.Proof.UpIdealCaseA

@[expose] public section

-- The cover checks walk long axes one step per coordinate,
-- so the recursion limit is raised.
set_option maxRecDepth 16384

noncomputable section

namespace Cert.UpIdeal.Run

open Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The proof term is large, so the step limit is raised.
set_option maxHeartbeats 1200000 in
/-- What the body's stores leave in case B (`scf.if` 0 not taken, `scf.if` 1 not taken: points 1, 2, … 110: 80 of 112), as lists of pieces with the last store first,
    together with the run of the body: from staging buffers that hold the input blocks, and scratch that holds what the
    point before left, the body reaches its end with the inputs unchanged and those pieces written. -/
noncomputable def kernelRun0_B (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) :
    Σ' (L6 : List (View.Piece (Elt F) S1024x1536 .f32)), Σ' (LS0 : List (View.Piece (Elt F) S1024x2048 .bf16)), Σ' (LS1 : List (View.Piece (Elt F) S1024x128 .f32)), { LS2 : List (View.Piece (Elt F) S1024x128 .f32) //
      ∀ (E : Set ℕ) (y7 : Vec F S128x128 .f32) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare y7 ∗ owns (c : Thread nD τ) arg10 fullShare xs0 ∗ owns (c : Thread nD τ) arg11 fullShare xs1 ∗ (∃ f, arg12.view.loc (c : Thread nD τ) ↦[arg12.view.set]{fullShare} arg12.view.writes (Elt F) f LS2)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K } := by
  refine ⟨?_, [], [], ?_, fun E y7 K => ?run⟩
  case run =>
    simp only [cc0_gateup_eq_skeleton]; unfold cc0_gateup_skel
    simp only [k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [HS0]
    · iexists _; isplitr; · ipureintro; exact harg10.read_unread _
      iexact HS0
    isplitl [HS1]
    · iexists _; isplitr; · ipureintro; exact harg11.read_unread _
      iexact HS1
    iexists _; iexact HS2

end Cert.UpIdeal.Run

end
-- ==== Proof.UpIdealCaseC.lean ====
/-
  The gate-and-up call `UpIdeal`: one run of the kernel body in case C, the last feed-forward tile of a row tile (the branch that stores the scales is taken).
-/
module

public import proofs.«01_k».proof.Proof.UpIdealCaseB

@[expose] public section

-- The cover checks walk long axes one step per coordinate,
-- so the recursion limit is raised.
set_option maxRecDepth 16384

noncomputable section

namespace Cert.UpIdeal.Run

open Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The proof term is large, so the step limit is raised.
set_option maxHeartbeats 1200000 in
/-- What the body's stores leave in case C (`scf.if` 0 not taken, `scf.if` 1 taken: points 6, 13, … 111: 16 of 112), as lists of pieces with the last store first,
    together with the run of the body: from staging buffers that hold the input blocks, and scratch that holds what the
    point before left, the body reaches its end with the inputs unchanged and those pieces written. -/
noncomputable def kernelRun0_C (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) :
    Σ' (L6 : List (View.Piece (Elt F) S1024x1536 .f32)), Σ' (L7 : List (View.Piece (Elt F) S128x128 .f32)), Σ' (LS0 : List (View.Piece (Elt F) S1024x2048 .bf16)), Σ' (LS1 : List (View.Piece (Elt F) S1024x128 .f32)), { LS2 : List (View.Piece (Elt F) S1024x128 .f32) //
      ∀ (E : Set ℕ) (y7 : Vec F S128x128 .f32) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread y7) L7) ∗ owns (c : Thread nD τ) arg10 fullShare xs0 ∗ owns (c : Thread nD τ) arg11 fullShare xs1 ∗ (∃ f, arg12.view.loc (c : Thread nD τ) ↦[arg12.view.set]{fullShare} arg12.view.writes (Elt F) f LS2)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K } := by
  refine ⟨?_, ?_, [], [], ?_, fun E y7 K => ?run⟩
  case run =>
    simp only [cc0_gateup_eq_skeleton]; unfold cc0_gateup_skel
    simp only [k0_part10_eq_skeleton, k0_part11_eq_skeleton, k0_part12_eq_skeleton, k0_part13_eq_skeleton, k0_part14_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    isplitl [HS0]
    · iexists _; isplitr; · ipureintro; exact harg10.read_unread _
      iexact HS0
    isplitl [HS1]
    · iexists _; isplitr; · ipureintro; exact harg11.read_unread _
      iexact HS1
    iexists _; iexact HS2

end Cert.UpIdeal.Run

end
-- ==== Proof.Rows.lean ====
/-
  Eight, or four, stores of one row each, at rows in succession of a 128 × 128 buffer, read back.
-/
module

public import Idealize.ShloMosaic.Lib.WritesUnit
public import Idealize.ShloMosaic.Lib.Pointwise

@[expose] public section

set_option maxRecDepth 16384

noncomputable section

namespace Cert.Rows

open Idealize.ShloMosaic

variable {sig : RefSig} {κ : Kind} {sp : Space} {e : EltTy} {Val : EltTy → Type}

abbrev Sq : Shape := ⟨2, ![128, 128]⟩
abbrev Row : Shape := ⟨2, ![1, 128]⟩

/-- The store of the row `w` at the offsets `off`. -/
abbrev piece (off : Fin 2 → ℕ) (inb : ∀ a : Fin 2, off a + ![1, 128] a ≤ ![128, 128] a) (w : Row.Idx → Val e) : View.Piece Val Sq e :=
  ⟨Rect.unit (s := Sq) off ![1, 128] inb, w⟩

/-- After stores of the rows `w 0`, …, `w 7` at the rows `o`, …, `o + 7` those rows read as `w`; every other row is as before. -/
theorem eight_rows (v : View sig κ sp Sq e) (f : v.ty.Contents Val) (o : ℕ) (w : Fin 8 → Row.Idx → Val e)
    {off0 off1 off2 off3 off4 off5 off6 off7 : Fin 2 → ℕ} {inb0 inb1 inb2 inb3 inb4 inb5 inb6 inb7}
    (h0 : off0 = ![o + 0, 0]) (h1 : off1 = ![o + 1, 0]) (h2 : off2 = ![o + 2, 0]) (h3 : off3 = ![o + 3, 0])
    (h4 : off4 = ![o + 4, 0]) (h5 : off5 = ![o + 5, 0]) (h6 : off6 = ![o + 6, 0]) (h7 : off7 = ![o + 7, 0]) (y : Sq.Idx) :
    v.read Val (v.writes Val f [piece off7 inb7 (w 7), piece off6 inb6 (w 6), piece off5 inb5 (w 5), piece off4 inb4 (w 4),
        piece off3 inb3 (w 3), piece off2 inb2 (w 2), piece off1 inb1 (w 1), piece off0 inb0 (w 0)]) y
      = if h : o ≤ (y 0).val ∧ (y 0).val < o + 8 then w ⟨(y 0).val - o, by omega⟩ (ix2 0 (y 1)) else v.read Val f y := by
  have hit : ∀ (k : Fin 8) (off : Fin 2 → ℕ) (inb) (L : List (View.Piece Val Sq e)), off = ![o + k.val, 0] →
      (y 0).val = o + k.val →
      v.read Val (v.writes Val f (piece off inb (w k) :: L)) y = w k (ix2 0 (y 1)) := by
    intro k off inb L hoff hy
    exact View.read_writes_cons_rows_of_mem v f inb (w k) L y (ix2 0 (y 1)) hoff (by rw [hy]; rfl) rfl
  have miss : ∀ (k : Fin 8) (off : Fin 2 → ℕ) (inb) (L : List (View.Piece Val Sq e)), off = ![o + k.val, 0] →
      (y 0).val ≠ o + k.val →
      v.read Val (v.writes Val f (piece off inb (w k) :: L)) y = v.read Val (v.writes Val f L) y := by
    intro k off inb L hoff hy
    exact View.read_writes_cons_rows_of_not_mem v f inb (w k) L y hoff (W := 1) rfl (by omega)
  by_cases h : o ≤ (y 0).val ∧ (y 0).val < o + 8
  · rw [dif_pos h]
    obtain ⟨k, hk⟩ : ∃ k : Fin 8, (y 0).val = o + k.val := ⟨⟨(y 0).val - o, by omega⟩, by dsimp only; omega⟩
    have hw : w ⟨(y 0).val - o, by omega⟩ = w k := congrArg w (Fin.ext (by dsimp only; omega))
    rw [hw]
    have ne : ∀ j : Fin 8, j ≠ k → (y 0).val ≠ o + j.val := fun j hj hy => hj (Fin.ext (by omega))
    clear hw
    fin_cases k
    · rw [miss 7 _ _ _ h7 (ne 7 (by decide)), miss 6 _ _ _ h6 (ne 6 (by decide)), miss 5 _ _ _ h5 (ne 5 (by decide)), miss 4 _ _ _ h4 (ne 4 (by decide)), miss 3 _ _ _ h3 (ne 3 (by decide)), miss 2 _ _ _ h2 (ne 2 (by decide)), miss 1 _ _ _ h1 (ne 1 (by decide))]
      exact hit 0 _ _ _ h0 hk
    · rw [miss 7 _ _ _ h7 (ne 7 (by decide)), miss 6 _ _ _ h6 (ne 6 (by decide)), miss 5 _ _ _ h5 (ne 5 (by decide)), miss 4 _ _ _ h4 (ne 4 (by decide)), miss 3 _ _ _ h3 (ne 3 (by decide)), miss 2 _ _ _ h2 (ne 2 (by decide))]
      exact hit 1 _ _ _ h1 hk
    · rw [miss 7 _ _ _ h7 (ne 7 (by decide)), miss 6 _ _ _ h6 (ne 6 (by decide)), miss 5 _ _ _ h5 (ne 5 (by decide)), miss 4 _ _ _ h4 (ne 4 (by decide)), miss 3 _ _ _ h3 (ne 3 (by decide))]
      exact hit 2 _ _ _ h2 hk
    · rw [miss 7 _ _ _ h7 (ne 7 (by decide)), miss 6 _ _ _ h6 (ne 6 (by decide)), miss 5 _ _ _ h5 (ne 5 (by decide)), miss 4 _ _ _ h4 (ne 4 (by decide))]
      exact hit 3 _ _ _ h3 hk
    · rw [miss 7 _ _ _ h7 (ne 7 (by decide)), miss 6 _ _ _ h6 (ne 6 (by decide)), miss 5 _ _ _ h5 (ne 5 (by decide))]
      exact hit 4 _ _ _ h4 hk
    · rw [miss 7 _ _ _ h7 (ne 7 (by decide)), miss 6 _ _ _ h6 (ne 6 (by decide))]
      exact hit 5 _ _ _ h5 hk
    · rw [miss 7 _ _ _ h7 (ne 7 (by decide))]
      exact hit 6 _ _ _ h6 hk
    · exact hit 7 _ _ _ h7 hk
  · rw [dif_neg h]
    have ne : ∀ j : Fin 8, (y 0).val ≠ o + j.val := fun j hy => h (by omega)
    rw [miss 7 _ _ _ h7 (ne 7), miss 6 _ _ _ h6 (ne 6), miss 5 _ _ _ h5 (ne 5), miss 4 _ _ _ h4 (ne 4), miss 3 _ _ _ h3 (ne 3), miss 2 _ _ _ h2 (ne 2), miss 1 _ _ _ h1 (ne 1), miss 0 _ _ _ h0 (ne 0)]
    rfl

/-- The same with the eight rows named one by one. -/
theorem eight_rows_list (v : View sig κ sp Sq e) (f : v.ty.Contents Val) (o : ℕ)
    {off0 off1 off2 off3 off4 off5 off6 off7 : Fin 2 → ℕ} {inb0 inb1 inb2 inb3 inb4 inb5 inb6 inb7}
    {w0 w1 w2 w3 w4 w5 w6 w7 : Row.Idx → Val e}
    (h0 : off0 = ![o + 0, 0]) (h1 : off1 = ![o + 1, 0]) (h2 : off2 = ![o + 2, 0]) (h3 : off3 = ![o + 3, 0])
    (h4 : off4 = ![o + 4, 0]) (h5 : off5 = ![o + 5, 0]) (h6 : off6 = ![o + 6, 0]) (h7 : off7 = ![o + 7, 0]) (y : Sq.Idx) :
    v.read Val (v.writes Val f [piece off7 inb7 w7, piece off6 inb6 w6, piece off5 inb5 w5, piece off4 inb4 w4,
        piece off3 inb3 w3, piece off2 inb2 w2, piece off1 inb1 w1, piece off0 inb0 w0]) y
      = if h : o ≤ (y 0).val ∧ (y 0).val < o + 8 then
          (![w0, w1, w2, w3, w4, w5, w6, w7] : Fin 8 → Row.Idx → Val e) ⟨(y 0).val - o, by omega⟩ (ix2 0 (y 1))
        else v.read Val f y :=
  eight_rows v f o (![w0, w1, w2, w3, w4, w5, w6, w7] : Fin 8 → Row.Idx → Val e) h0 h1 h2 h3 h4 h5 h6 h7 y

/-- After stores of four rows, at the rows `o`, …, `o + 3`, those rows read as stored; every other row is as before. -/
theorem four_rows_list (v : View sig κ sp Sq e) (f : v.ty.Contents Val) (o : ℕ)
    {off0 off1 off2 off3 : Fin 2 → ℕ} {inb0 inb1 inb2 inb3} {w0 w1 w2 w3 : Row.Idx → Val e}
    (h0 : off0 = ![o + 0, 0]) (h1 : off1 = ![o + 1, 0]) (h2 : off2 = ![o + 2, 0]) (h3 : off3 = ![o + 3, 0]) (y : Sq.Idx) :
    v.read Val (v.writes Val f [piece off3 inb3 w3, piece off2 inb2 w2, piece off1 inb1 w1, piece off0 inb0 w0]) y
      = if h : o ≤ (y 0).val ∧ (y 0).val < o + 4 then
          (![w0, w1, w2, w3] : Fin 4 → Row.Idx → Val e) ⟨(y 0).val - o, by omega⟩ (ix2 0 (y 1))
        else v.read Val f y := by
  have hit : ∀ (k : ℕ) (off : Fin 2 → ℕ) (inb) (w : Row.Idx → Val e) (L : List (View.Piece Val Sq e)), off = ![o + k, 0] →
      (y 0).val = o + k → v.read Val (v.writes Val f (piece off inb w :: L)) y = w (ix2 0 (y 1)) := by
    intro k off inb w L hoff hy
    exact View.read_writes_cons_rows_of_mem v f inb w L y (ix2 0 (y 1)) hoff (by rw [hy]; rfl) rfl
  have miss : ∀ (k : ℕ) (off : Fin 2 → ℕ) (inb) (w : Row.Idx → Val e) (L : List (View.Piece Val Sq e)), off = ![o + k, 0] →
      (y 0).val ≠ o + k → v.read Val (v.writes Val f (piece off inb w :: L)) y = v.read Val (v.writes Val f L) y := by
    intro k off inb w L hoff hy
    exact View.read_writes_cons_rows_of_not_mem v f inb w L y hoff (W := 1) rfl (by omega)
  by_cases h : o ≤ (y 0).val ∧ (y 0).val < o + 4
  · rw [dif_pos h]
    obtain ⟨k, hk⟩ : ∃ k : Fin 4, (y 0).val = o + k.val := ⟨⟨(y 0).val - o, by omega⟩, by dsimp only; omega⟩
    have hw : (⟨(y 0).val - o, by omega⟩ : Fin 4) = k := Fin.ext (by dsimp only; omega)
    rw [hw]
    clear hw
    fin_cases k <;> dsimp only at hk
    · rw [miss 3 _ _ _ _ h3 (by omega), miss 2 _ _ _ _ h2 (by omega), miss 1 _ _ _ _ h1 (by omega)]
      exact hit 0 _ _ _ _ h0 hk
    · rw [miss 3 _ _ _ _ h3 (by omega), miss 2 _ _ _ _ h2 (by omega)]
      exact hit 1 _ _ _ _ h1 hk
    · rw [miss 3 _ _ _ _ h3 (by omega)]
      exact hit 2 _ _ _ _ h2 hk
    · exact hit 3 _ _ _ _ h3 hk
  · rw [dif_neg h, miss 3 _ _ _ _ h3 (by omega), miss 2 _ _ _ _ h2 (by omega), miss 1 _ _ _ _ h1 (by omega), miss 0 _ _ _ _ h0 (by omega)]
    rfl

end Cert.Rows

end
-- ==== Proof.UpIdealOuts.lean ====
/-
  The gate-and-up call `UpIdeal`: what the kernel body leaves at every grid point.
-/
module

public import proofs.«01_k».proof.Proof.UpIdealCaseC
public import proofs.«01_k».proof.Proof.Rows
public import Idealize.ShloMosaic.Lib.Claim

@[expose] public section

-- The cover checks walk long axes one step per coordinate,
-- so the recursion limit is raised.
set_option maxRecDepth 16384

noncomputable section

namespace Cert.UpIdeal.Run

open Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (6 stores of `S1024x256`), so they cover it. -/
theorem cover0_A_6 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (y : S1024x1536.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1 S1024x256.size (by sl_kernel_rfl) y

/-- What case A leaves in output 6's staging buffer: its pieces read back over junk. -/
def out0_A_6 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) : Vec F S1024x1536 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for scratch `arg10`, which the kernel carries between points, cover it: 1 piece of `S1024x2048` tiling it. -/
theorem scover0_A_0 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1024x2048.size (by sl_kernel_rfl) y

/-- What case A leaves in scratch `arg10`: its pieces read back over junk. -/
def sout0_A_0 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A's pieces for scratch `arg11`, which the kernel carries between points, cover it: 1 piece of `S1024x128` tiling it. -/
theorem scover0_A_1 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1024x128.size (by sl_kernel_rfl) y

/-- What case A leaves in scratch `arg11`: its pieces read back over junk. -/
def sout0_A_1 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for scratch `arg12`, which the kernel carries between points, cover it: 2 pieces of `S1024x128` tiling it. -/
theorem scover0_A_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1024x128.size (by sl_kernel_rfl) y

/-- What case A leaves in scratch `arg12`: its pieces read back over junk. -/
def sout0_A_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) : Vec F S1024x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case B's pieces for output 6 tile its block (6 stores of `S1024x256`), so they cover it. -/
theorem cover0_B_6 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) (y : S1024x1536.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).1 S1024x256.size (by sl_kernel_rfl) y

/-- What case B leaves in output 6's staging buffer: its pieces read back over junk. -/
def out0_B_6 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x1536 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).1)

/-- Case B stores nothing into scratch `arg10`: it holds what the point before left. -/
def sout0_B_0 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x2048 .bf16 := xs0

/-- Case B stores nothing into scratch `arg11`: it holds what the point before left. -/
def sout0_B_1 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x128 .f32 := xs1

/-- Case B's pieces for scratch `arg12`, which the kernel carries between points, cover it: 1 piece of `S1024x128` tiling it. -/
theorem scover0_B_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x128.size (by sl_kernel_rfl) y

/-- What case B leaves in scratch `arg12`: its pieces read back over junk. -/
def sout0_B_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-- Case C's pieces for output 6 tile its block (6 stores of `S1024x256`), so they cover it. -/
theorem cover0_C_6 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) (y : S1024x1536.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).1 S1024x256.size (by sl_kernel_rfl) y

/-- What case C leaves in output 6's staging buffer: its pieces read back over junk. -/
def out0_C_6 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x1536 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).1)

/-- One staging buffer of output window 7, through which its contents are stated. -/
abbrev VO0_7 : View sig .tc .vmem S128x128 .f32 := (Memref.whole cc0_stg7_0 : Memref sig .tc .vmem S128x128 .f32).view

/-- What case C leaves in output 7's staging buffer: the rows it stores read back, anything elsewhere. -/
def out0_C_7 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S128x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- Over any view and any contents, case C's pieces for output 7 are the eight rows `8 * i₀ … 8 * i₀ + 7`; every other row
    stays as it was. -/
theorem rows_C_7 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32)
    (v : View sig .tc .vmem S128x128 .f32) (f : v.ty.Contents (Elt F)) (y : S128x128.Idx) :
    v.read (Elt F) (v.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.1) y
      = if 8 * (i 0).val ≤ (y 0).val ∧ (y 0).val < 8 * (i 0).val + 8 then out0_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y else v.read (Elt F) f y := by
  unfold out0_C_7 kernelRun0_C
  dsimp only
  have o := k0_off2_eq i
  refine (Cert.Rows.eight_rows_list v f (8 * (i 0).val) (o 0) (o 1) (o 2) (o 3) (o 4) (o 5) (o 6) (o 7) y).trans ?_
  by_cases h : 8 * (i 0).val ≤ (y 0).val ∧ (y 0).val < 8 * (i 0).val + 8
  · rw [dif_pos h, if_pos h]
    refine Eq.symm ((Cert.Rows.eight_rows_list VO0_7 VO0_7.junk (8 * (i 0).val) (o 0) (o 1) (o 2) (o 3) (o 4) (o 5) (o 6) (o 7) y).trans ?_)
    rw [dif_pos h]
  · rw [dif_neg h, if_neg h]

/-- Case C stores nothing into scratch `arg10`: it holds what the point before left. -/
def sout0_C_0 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x2048 .bf16 := xs0

/-- Case C stores nothing into scratch `arg11`: it holds what the point before left. -/
def sout0_C_1 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x128 .f32 := xs1

/-- Case C's pieces for scratch `arg12`, which the kernel carries between points, cover it: 1 piece of `S1024x128` tiling it. -/
theorem scover0_C_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.2.2.1 S1024x128.size (by sl_kernel_rfl) y

/-- What case C leaves in scratch `arg12`: its pieces read back over junk. -/
def sout0_C_2 (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i)
    (x0 : Vec F S1024x2048 .i8) (x1 : Vec F S128x128 .f32) (x2 : Vec F S2048x1536 .i8) (x3 : Vec F S1x1536 .f32) (x4 : Vec F S2048x1536 .i8) (x5 : Vec F S1x1536 .f32) (xs0 : Vec F S1024x2048 .bf16) (xs1 : Vec F S1024x128 .f32) (xs2 : Vec F S1024x128 .f32) : Vec F S1024x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2).2.2.2.2.1)

/-! ## What the outputs hold after each point -/

/-- What the output buffers and the carried scratch hold after the body at position `n` (the outputs in window order,
    then the scratch): the contents of the case that `n` falls in, over what position `n - 1` left. -/
def outsAt0 (c : Dev nD) : (n : ℕ) → n < cfg0.N → Vec F S1024x1536 .f32 × Vec F S1024x2048 .bf16 × Vec F S1024x128 .f32 × Vec F S1024x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 7 = 0 then
      if h1 : (n + 1) % 7 = 6 then
        False.elim (by have hN : n + 1 < 112 := lt_of_lt_of_eq hn (show cfg0.N = 112 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 7 = 6 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 7 = 0) (h1 : ¬t.val % 7 = 6) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 7 = 0) (h1 : ¬t.val % 7 = 6) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 7 = 0) (h1 : t.val % 7 = 6) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scratch holds anything; afterwards each carried
    scratch holds what the point before left, the other scratch anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

end Cert.UpIdeal.Run

end
-- ==== Proof.Relational.lean ====
/-
  Two facts about proof data that hold some output windows to a predicate: the run of a whole program over such data, and
  the array that such a window leaves.
-/
module

public import Idealize.ShloMosaic.Lib.Pipeline.Frame
public import Idealize.ShloMosaic.Lib.Pipeline.DatRel
public import Idealize.ShloMosaic.Lib.Pipeline.ArrRel
public import Idealize.ShloMosaic.Lib.Pipeline.Value

@[expose] public section

noncomputable section

namespace Cert.Relational

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

/-- The run of a program whose one region has proof data `dats p`, with the windows that `fgt` marks held to `Rl`: every
    execution ends, each array at contents that the relational data allow, every semaphore counter at zero. -/
theorem run_rel (cfgs : P → Cfg sig Λ₀)
    (dats : (p : P) → (c : Dev nD) → Dat τ Val Unit ℕ (UR sig nD τ) ℕ (cfgs p) c) (p : P)
    (kit : LaunchFacts (nD := nD) (τ := τ) cfgs p) (defs₀ : Defs nD τ sig Val Λ₀) (𝒱₀ : Variants)
    (fgt : Fin (cfgs p).W → Bool)
    (Rl : (c : Dev nD) → (w : Fin (cfgs p).W) → Fin (cfgs p).N → (((cfgs p).win w).block.Idx → Val ((cfgs p).win w).elt) → Prop)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationRel (dats p c) defs₀ 𝒱₀ () Set.univ fgt (Rl c))
    (hshare : ∀ c w, (dats p c).share w = fullShare) (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hA : ∀ c w, (dats p c).A w = V c (arrRef (cfgs p).spec w))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (fun r => RDat.FramePost (cfgs p) (fun c => (dats p c).toRRel fgt (Rl c)) V r ∧ r.2.sem = fun _ => 0) :=
  RDat.θ_run_frame_track cfgs p kit defs₀ 𝒱₀ (fun c => (dats p c).toRRel fgt (Rl c)) m g main
    (fun c => (hbody c).toRRel) hshare howed V hmain hA hin hout _ (fun _ h => h)

/-- The array that a window leaves, when everything that the body may leave at a point that writes the window back is
    that point's block of `G` and those blocks cover the array. -/
theorem arr_eq_of_cover {cfg₁ : Cfg sig Λ₀} {U' : Type} [URA U']
    {rdat : (c : Dev nD) → RDat τ Val Unit ℕ U' ℕ cfg₁ c}
    {V : (c : Dev nD) → (b : Ref sig .tc) → Buf Val ((c.tc : Thread nD τ).loc b)} {r : PUnit × MemSt nD τ sig Val}
    (h : RDat.FramePost cfg₁ rdat V r) (c : Dev nD) (w : Fin cfg₁.W)
    (G : Buf Val ((cfg₁.win w).arr.view.loc (c.tc : Thread nD τ)))
    (hG : ∀ t, (cfg₁.win w).flush t = true → ∀ X, (rdat c).Leaves w t X →
      (cfg₁.win w).cut (cfg₁.grid.coords t) X = ((cfg₁.win w).blk t).view.read Val G)
    (hcover : ∀ i : ((cfg₁.win w).arr.view.loc (c.tc : Thread nD τ)).2.ty.Idx,
      ∃ t : Fin cfg₁.N, (cfg₁.win w).flush t = true ∧ i ∈ ((cfg₁.win w).blk t).view.set) :
    r.2.mem ((cfg₁.spec w).arr.view.loc (c.tc : Thread nD τ)) = G := by
  obtain ⟨after, hL, hA⟩ := RDat.FramePost.exists_exact h c
  exact (hA w).trans (Dat.arrAt_eq_of_cover _ w G (fun t hf => hG t hf _ (hL w t hf)) hcover)

/-- What a window held to a predicate holds before a point that neither is the first nor follows a write-back: something
    that meets the predicate of the point before. -/
theorem finds_prev {cfg : Cfg sig Λ₀} {c : Dev nD} {U' : Type} [URA U'] (dat : Dat τ Val Unit ℕ U' ℕ cfg c)
    (fgt : Fin cfg.W → Bool) (Rl : (w : Fin cfg.W) → Fin cfg.N → ((cfg.win w).block.Idx → Val (cfg.win w).elt) → Prop)
    {w : Fin cfg.W} (hw : fgt w = true) {t : Fin cfg.N} (hf : (cfg.win w).fetch t = false) (ht : t.val ≠ 0)
    (hp : (cfg.win w).flush ⟨t.val - 1, Nat.lt_of_le_of_lt (Nat.sub_le _ _) t.isLt⟩ = false)
    {X : (cfg.win w).block.Idx → Val (cfg.win w).elt} (h : (dat.toRRel fgt Rl).Finds w t X) :
    Rl w ⟨t.val - 1, Nat.lt_of_le_of_lt (Nat.sub_le _ _) t.isLt⟩ X := by
  rcases (RDat.finds_of_pos _ hf ht X).mp h with h | h
  · rw [hp] at h; exact absurd h Bool.false_ne_true
  · exact Dat.toRRel_leaves (fgt := fgt) (Rl := Rl) dat hw h

end Cert.Relational

end
-- ==== Proof.UpIdealFrame.lean ====
/-
  The gate-and-up call `UpIdeal`: the body obligation at every grid point, the run of the whole program and its frame.
-/
module

public import proofs.«01_k».proof.Proof.UpIdealOuts
public import proofs.«01_k».proof.Proof.Relational
public import Idealize.ShloMosaic.Lib.Claim

@[expose] public section

-- The cover checks walk long axes one step per coordinate,
-- so the recursion limit is raised.
set_option maxRecDepth 16384

noncomputable section

namespace Cert.UpIdeal.Run

open Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The windows held to a predicate, the two outputs. -/
def marked0 : Fin 8 → Bool := fun w => decide (6 ≤ w.val)

/-- The eight rows of scales that the last point `t` of a row block stores (the other rows of this array mean nothing). -/
def scalesAt (c : Dev nD) (t : Fin cfg0.N) (h0 : ¬t.val % 7 = 0) (h1 : t.val % 7 = 6) : Vec F S128x128 .f32 :=
  out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The contents `X` of the second output hold the scales of every row block whose last point is among the first `n`. -/
def HoldsRows (c : Dev nD) (n : ℕ) (X : Vec F S128x128 .f32) : Prop :=
  ∀ (t : Fin cfg0.N) (h0 : ¬t.val % 7 = 0) (h1 : t.val % 7 = 6), t.val < n → ∀ y : S128x128.Idx,
    8 * (t.val / 7) ≤ (y 0).val → (y 0).val < 8 * (t.val / 7) + 8 → X y = scalesAt m c t h0 h1 y

/-- What the body leaves in an output at point `t`: the first output whole, of the second the rows stored so far. -/
def left0 (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => X = (outsAt0 m c t.val t.isLt).1
  | ⟨7, _⟩ => fun X => HoldsRows m c (t.val + 1) X

/-- The proof data of the pipeline on core `c`: the arrays as the call finds them, each input buffer at its block after
    the body at point `t`, and the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The arrays of the proof data are those the call finds, stated so that `V` need not be unfolded. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The first grid coordinate of point `t`. -/
theorem coord0 (t : Fin cfg0.N) : (grid0.coords t 0).val = t.val / 7 :=
  (by decide +kernel : ∀ t : Fin grid0.N, (grid0.coords t 0).val = t.val / 7) t

/-- Before a point the second output holds the rows of the row blocks ended before it. -/
theorem holds_of_finds (c : Dev nD) (t : Fin cfg0.N) (Y : Vec F S128x128 .f32)
    (h : ((dats m 0 c).toRRel marked0 (left0 m c)).Finds 7 t Y) : HoldsRows m c t.val Y := by
  have hN : t.val < 112 := lt_of_lt_of_eq t.isLt (show cfg0.N = 112 from N_0)
  by_cases hz : t.val = 0
  · intro t' _ _ hlt
    rw [hz] at hlt
    exact absurd hlt (Nat.not_lt_zero _)
  · have hp : (cfg0.win 7).flush ⟨t.val - 1, Nat.lt_of_le_of_lt (Nat.sub_le _ _) t.isLt⟩ = false := by
      rw [← Bool.not_eq_true]
      intro hf
      have := (flush0_7 _).mp hf
      dsimp only at this
      omega
    have := Cert.Relational.finds_prev (dats m 0 c) marked0 (left0 m c) (w := 7) rfl rfl hz hp h
    have e : t.val - 1 + 1 = t.val := by omega
    have h' : HoldsRows m c (t.val - 1 + 1) Y := this
    rwa [e] at h'

/-- A point that does not end a row block adds no row. -/
theorem holds_succ (c : Dev nD) (t : Fin cfg0.N) (Y : Vec F S128x128 .f32) (h1 : ¬t.val % 7 = 6)
    (h : HoldsRows m c t.val Y) : HoldsRows m c (t.val + 1) Y := by
  intro t' h0' h1' hlt y ha hb
  refine h t' h0' h1' ?_ y ha hb
  by_contra hc
  have : t'.val = t.val := by omega
  omega

/-- The last point of a row block adds that block's rows and leaves the others. -/
theorem holds_last (c : Dev nD) (t : Fin cfg0.N) (Y : Vec F S128x128 .f32) (h0 : ¬t.val % 7 = 0) (h1 : t.val % 7 = 6)
    (h : HoldsRows m c t.val Y) :
    HoldsRows m c (t.val + 1) ((ms0_7 t).view.read (Elt F) ((ms0_7 t).view.writes (Elt F) ((hs0_7 t).unread Y)
      (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).2.1)) := by
  intro t' h0' h1' hlt y ha hb
  rw [rows_C_7, coord0, (hs0_7 t).read_unread]
  by_cases e : t' = t
  · subst e
    rw [if_pos ⟨ha, hb⟩]
    rfl
  · have : t'.val ≠ t.val := fun h => e (Fin.ext h)
    rw [if_neg (by omega)]
    exact h t' h0' h1' (by omega) y ha hb

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel marked0 (left0 m c)).Finds 6 t Y⌝ ∗ owns (c : Thread nD τ) (ms0_6 t) fullShare Y)
    ∗ (∃ Y, ⌜((dats m 0 c).toRRel marked0 (left0 m c)).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜left0 m c 6 t X⌝ ∗ owns (c : Thread nD τ) (ms0_6 t) fullShare X)
    ∗ (∃ X, ⌜left0 m c 7 t X⌝ ∗ owns (c : Thread nD τ) (ms0_7 t) fullShare X))

set_option maxHeartbeats 9600000 in
/-- The body at any point: the input buffers hold their blocks, the point falls in one of the three cases, and that
    case's run takes the carried scratch from what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).owesAt () t.succ = (dats m 0 c).owesAt () t.castSucc from rfl]
  rw [show (dats m 0 c).Φ t.succ = PhiS m c (t.val + 1) t.isLt from rfl, PhiS_succ]
  have hN : t.val < 112 := lt_of_lt_of_eq t.isLt (show cfg0.N = 112 from N_0)
  by_cases h0 : t.val % 7 = 0
  · by_cases h1 : t.val % 7 = 6
    · exfalso; omega
    · skip
      by_cases hz : t.val = 0
      · rw [PhiS_castSucc m c t, PhiS_zero m c _ _ hz, PhiA0_eq]
        rw [outsAt0_A m c t h0 h1]
        unfold out0_A_6 sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, %_hd6, H6⟩, ⟨%d7, %hd7, H7⟩⟩
        have hY := holds_of_finds m c t d7 hd7
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 Set.univ d7 _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        iintro ⟨H0, H1, H2, H3, H4, H5, ⟨%e6, H6⟩, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · iexists _; isplitr
          swap
          · unfold owns; iexists _; isplitr
            swap; · iexact H6
            ipureintro; rfl
          ipureintro
          show _ = (outsAt0 m c t.val t.isLt).1
          rw [outsAt0_A m c t h0 h1]
          dsimp only
          unfold out0_A_6
          exact View.read_writes_of_cover _ _ _ _ _ (cover0_A_6 c _ _ _ _ _ _ _ _ _ _ _ _ _ _ _ _ _ _ _ _ _ _ _ _ _ _ _ _ _ _ _)
        iexists _; isplitr
        swap; · iexact H7
        ipureintro
        exact holds_succ m c t d7 h1 hY
      · rw [PhiS_castSucc m c t, PhiS_pos m c _ _ hz]
        rw [outsAt0_A m c t h0 h1]
        unfold out0_A_6 sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, %_hd6, H6⟩, ⟨%d7, %hd7, H7⟩⟩
        have hY := holds_of_finds m c t d7 hd7
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 Set.univ d7 _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexists _; iexact HS0
        isplitl [HS1]; · iexists _; iexact HS1
        isplitl [HS2]; · iexists _; iexact HS2
        iintro ⟨H0, H1, H2, H3, H4, H5, ⟨%e6, H6⟩, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · iexists _; isplitr
          swap
          · unfold owns; iexists _; isplitr
            swap; · iexact H6
            ipureintro; rfl
          ipureintro
          show _ = (outsAt0 m c t.val t.isLt).1
          rw [outsAt0_A m c t h0 h1]
          dsimp only
          unfold out0_A_6
          exact View.read_writes_of_cover _ _ _ _ _ (cover0_A_6 c _ _ _ _ _ _ _ _ _ _ _ _ _ _ _ _ _ _ _ _ _ _ _ _ _ _ _ _ _ _ _)
        iexists _; isplitr
        swap; · iexact H7
        ipureintro
        exact holds_succ m c t d7 h1 hY
  · by_cases h1 : t.val % 7 = 6
    · skip
      by_cases hz : t.val = 0
      · exfalso; have hN : t.val < 112 := lt_of_lt_of_eq t.isLt (show cfg0.N = 112 from N_0); omega
      · rw [PhiS_castSucc m c t, PhiS_pos m c _ _ hz]
        rw [outsAt0_C m c t h0 h1]
        unfold out0_C_6 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, %_hd6, H6⟩, ⟨%d7, %hd7, H7⟩⟩
        have hY := holds_of_finds m c t d7 hd7
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2 Set.univ d7 _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        iintro ⟨H0, H1, H2, H3, H4, H5, ⟨%e6, H6⟩, H7, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · iexists _; isplitr
          swap
          · unfold owns; iexists _; isplitr
            swap; · iexact H6
            ipureintro; rfl
          ipureintro
          show _ = (outsAt0 m c t.val t.isLt).1
          rw [outsAt0_C m c t h0 h1]
          dsimp only
          unfold out0_C_6
          exact View.read_writes_of_cover _ _ _ _ _ (cover0_C_6 c _ _ _ _ _ _ _ _ _ _ _ _ _ _ _ _ _ _ _ _ _ _ _ _ _ _ _ _ _ _ _ _ _ _)
        iexists _; isplitr
        swap
        · unfold owns; iexists _; isplitr
          swap; · iexact H7
          ipureintro; rfl
        ipureintro
        exact holds_last m c t d7 h0 h1 hY
    · skip
      by_cases hz : t.val = 0
      · exfalso; have hN : t.val < 112 := lt_of_lt_of_eq t.isLt (show cfg0.N = 112 from N_0); omega
      · rw [PhiS_castSucc m c t, PhiS_pos m c _ _ hz]
        rw [outsAt0_B m c t h0 h1]
        unfold out0_B_6 sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, %_hd6, H6⟩, ⟨%d7, %hd7, H7⟩⟩
        have hY := holds_of_finds m c t d7 hd7
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2 Set.univ d7 _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        iintro ⟨H0, H1, H2, H3, H4, H5, ⟨%e6, H6⟩, H7, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · iexists _; isplitr
          swap
          · unfold owns; iexists _; isplitr
            swap; · iexact H6
            ipureintro; rfl
          ipureintro
          show _ = (outsAt0 m c t.val t.isLt).1
          rw [outsAt0_B m c t h0 h1]
          dsimp only
          unfold out0_B_6
          exact View.read_writes_of_cover _ _ _ _ _ (cover0_B_6 c _ _ _ _ _ _ _ _ _ _ _ _ _ _ _ _ _ _ _ _ _ _ _ _ _ _ _ _ _ _ _ _ _ _)
        iexists _; isplitr
        swap; · iexact H7
        ipureintro
        exact holds_succ m c t d7 h1 hY

/-- The body that the pipeline runs at point `t`, as `bodyAt0` spells it. -/
theorem defs₀_row (t : Fin cfg0.N) :
    defs₀ (F := F) .tc cfg0.body (cfg0.bodyArgs t (cfg0.slots t)) = bodyAt0 t := by
  unfold defs₀; rw [Defs.onTc_tc]

/-- The same in the form that the pipeline rule asks for, at every point. -/
theorem body_obligation (c : Dev nD) : BodyObligationRel (dats (F := F) m 0 c) (defs₀ (F := F)) Variants.none () Set.univ marked0 (left0 m c) := fun t => by
  rw [bigSep_W0, bigSep_W0, defs₀_row]
  exact triple_restated (sound_body m c t) rfl .rfl fun _ => .rfl

/-- The invariant at the start follows from what the call finds. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant allows any contents of the scratch. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

/-! ## The run and the frame -/

set_option backward.isDefEq.respectTransparency.types false in
/-- The run of the whole program, with every semaphore counter at zero at its end. -/
theorem run_main_quiescent : θ_run defs (onTc (τ := τ) (main (F := F))) (s₀ m ρ) (fun r => (Pipeline.RDat.FramePost (cfgs 0) (fun c => (dats m 0 c).toRRel marked0 (left0 m c)) (V m)) r ∧ r.2.sem = fun _ => 0) :=
  Cert.Relational.run_rel cfgs (dats m) (0 : Fin 1) launch0 defs₀ Variants.none marked0 (left0 m) m ρ main
    (hbody := body_obligation m) (hshare := fun c => (dats m 0 c).share_full fun _ => rfl)
    (howed := fun _ _ => rfl) (V := V m) (hmain := hmain m Variants.none) (hA := A_eq m) (hin := hin m) (hout := hout m)

/-- From any memory with zero counters every weakly fair execution of the program ends, the arrays end as the proof data
    say, and every other buffer is unchanged. -/
theorem run_main : θ_run defs (onTc (τ := τ) (main (F := F))) (s₀ m ρ) (Pipeline.RDat.FramePost (cfgs 0) (fun c => (dats m 0 c).toRRel marked0 (left0 m c)) (V m)) :=
  (θ_run defs _ _).mono (fun _ h => h.1) (run_main_quiescent m ρ)

/-- The frame claim's post from a run with relational proof data whose arrays are the region-entry contents: a staged
    input ends as the region found it, an array that no window stages is untouched. -/
theorem frame_of_rel (rdat : (c : Dev nD) → Pipeline.RDat τ (Elt F) Unit ℕ (UR sig nD τ) ℕ cfg0 c)
    (hA : ∀ c w, (rdat c).A w = V m c (Pipeline.arrRef spec0 w)) {r : PUnit × MemSt nD τ sig (Elt F)}
    (h : Pipeline.RDat.FramePost cfg0 rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((hA c 0).trans (V_main_arg0 m c)),
    (h.arr_in c 1 rfl).trans ((hA c 1).trans (V_main_arg1 m c)),
    (h.arr_in c 2 rfl).trans ((hA c 2).trans (V_main_arg2 m c)),
    ((h c).2 main_arg3 (Pipeline.mem_restRefs_of main_arg3 (by decide) (by decide))).trans (V_main_arg3 m c),
    (h.arr_in c 4 rfl).trans ((hA c 4).trans (V_main_arg4 m c)),
    ((h c).2 main_arg5 (Pipeline.mem_restRefs_of main_arg5 (by decide) (by decide))).trans (V_main_arg5 m c)⟩

/-- The same without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => frame_of_rel m _ (A_eq m) h c) (run_main m ρ)

/-- The frame: the program ends from any memory and leaves its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.UpIdeal.Run

end
-- ==== Proof.Columns.lean ====
/-
  Concatenations of copies of one array, read at an index.

  The kernels keep one number per row in two layouts: a row of 128 lanes, one per matrix row (`stats`), and a column
  block in which every lane of row `r` holds the number of row `r`. `_columns` turns the first into the second by
  stacking 16 copies of an 8-row block and transposing, `_wide` repeats a column block along the lanes. Read at an index
  both are plain re-indexings; the lemmas here say which.
-/
module

public import Idealize.ShloMosaic.Lib.Pointwise
public import Idealize.ShloMosaic.Lib.Pipeline.Value

@[expose] public section

set_option maxRecDepth 16384

noncomputable section

namespace Cert.Columns

open Idealize.ShloMosaic Idealize.ShloMosaic.Pipeline Idealize.ShloMosaic.Pointwise

variable {α : Type}

/-- `N` copies of a block of 128 lanes side by side: lane `l` reads lane `l % 128` of the block. -/
theorem wide_apply {R n : ℕ} (N : ℕ) (v : (⟨2, ![R, 128]⟩ : Shape).Idx → α)
    (h : Shape.Concatenates ((List.replicate N (⟨⟨2, ![R, 128]⟩, v⟩ : (s : Shape) × (s.Idx → α))).map (·.1)) ⟨2, ![R, n]⟩ 1)
    (r : Fin R) (l : Fin n) :
    concatenate ⟨2, ![R, n]⟩ 1 (List.replicate N (⟨⟨2, ![R, 128]⟩, v⟩ : (s : Shape) × (s.Idx → α))) h (ix2 r l)
      = v (ix2 r ⟨l.val % 128, Nat.mod_lt _ (by decide)⟩) := by
  refine concatenate_replicate_apply (t := ⟨2, ![R, n]⟩) (s₁ := ⟨2, ![R, 128]⟩) 1 N v h rfl (ix2 r l) _ rfl fun b hb => ?_
  match b with
  | ⟨0, _⟩ => rfl
  | ⟨1, _⟩ => exact absurd rfl hb

/-- 16 copies of an 8-row block on top of one another, transposed: entry `(a, b)` is the block's `(b % 8, a)`. -/
theorem stack_apply (v : (⟨2, ![8, 128]⟩ : Shape).Idx → α)
    (h : Shape.Concatenates ((List.replicate 16 (⟨⟨2, ![8, 128]⟩, v⟩ : (s : Shape) × (s.Idx → α))).map (·.1)) ⟨2, ![128, 128]⟩ 0)
    (r : Fin 128) (l : Fin 128) :
    concatenate ⟨2, ![128, 128]⟩ 0 (List.replicate 16 (⟨⟨2, ![8, 128]⟩, v⟩ : (s : Shape) × (s.Idx → α))) h (ix2 r l)
      = v (ix2 ⟨r.val % 8, Nat.mod_lt _ (by decide)⟩ l) := by
  refine concatenate_replicate_apply (t := ⟨2, ![128, 128]⟩) (s₁ := ⟨2, ![8, 128]⟩) 0 16 v h rfl (ix2 r l) _ rfl fun b hb => ?_
  match b with
  | ⟨0, _⟩ => exact absurd rfl hb
  | ⟨1, _⟩ => rfl

/-- `N` blocks of 128 rows on top of one another: row `r` is row `r % 128` of block `r / 128`. -/
theorem blocks_apply {M : ℕ} (N : ℕ) (f : Fin N → ((⟨2, ![128, 128]⟩ : Shape).Idx → α))
    (h : Shape.Concatenates ((List.ofFn fun n : Fin N => (⟨⟨2, ![128, 128]⟩, f n⟩ : (s : Shape) × (s.Idx → α))).map (·.1)) ⟨2, ![M, 128]⟩ 0)
    (r : Fin M) (l : Fin 128) (n : Fin N) (hn : r.val / 128 = n.val) :
    concatenate ⟨2, ![M, 128]⟩ 0 (List.ofFn fun n : Fin N => (⟨⟨2, ![128, 128]⟩, f n⟩ : (s : Shape) × (s.Idx → α))) h (ix2 r l)
      = f n (ix2 ⟨r.val % 128, Nat.mod_lt _ (by decide)⟩ l) := by
  refine Idealize.ShloMosaic.concatenate_ofFn_apply (t := ⟨2, ![M, 128]⟩) (s₁ := ⟨2, ![128, 128]⟩) 0 f h rfl 128 rfl (ix2 r l) n hn _ rfl fun b hb => ?_
  match b with
  | ⟨0, _⟩ => exact absurd rfl hb
  | ⟨1, _⟩ => rfl

end Cert.Columns

end
-- ==== Proof.DownPure.lean ====
/-
  What one block of the down projection computes, entry by entry.
-/
module

public import proofs.«01_k».proof.Proof.Columns
public import proofs.«01_k».proof.Proof.Gen.DownIdeal.Skeleton
public import proofs.«01_k».proof.Proof.Gen.DownRefIdeal.Skeleton

@[expose] public section

set_option maxRecDepth 16384

noncomputable section

namespace Cert.DownPure

open Idealize.ShloMosaic Idealize.ShloMosaic.TcCoe Idealize.SL.Sem

/-- The code of `v` under the scale `s`: `v / s` rounded to the nearest integer, cut to −127 … 127. -/
def code (v s : Ideal .f32) : BitVec 8 :=
  Scalar.fptosi 8 (FloatOps.minimumf (Scalar.sitofp .f32 127#32) (FloatOps.maximumf (Scalar.sitofp .f32 4294967169#32) (FloatOps.roundeven (FloatOps.divf v s))))

/-- An 8-bit code as a number. -/
def num (b : BitVec 8) : EReal := FloatOps.sitofp (F := Ideal) FTy.bf16 b

namespace K
open Cert.DownIdeal Cert.DownIdeal.Gen

/-- The column block of the scales: in row `r` every lane holds lane `r % 128` of statistics row `r / 128`. -/
theorem col_apply (v0 v1 v2 v3 : Vec Ideal S1x128 .f32) (r : Fin 512) (l : Fin 128) :
    k0_pay2 (F := Ideal) v0 v1 v2 v3 (ix2 r l)
      = (![v0, v1, v2, v3] ⟨r.val / 128, by omega⟩) (ix2 0 ⟨r.val % 128, Nat.mod_lt _ (by decide)⟩) := by
  have one : ∀ v : Vec Ideal S1x128 .f32, ∀ a b : Fin 128,
      transpose S128x128 [1, 0] (concatenate S128x128 0 (List.replicate 16 (⟨S8x128, broadcastTo S8x128 (shapeCast S1x128 v shapeCasts_S1x128_S1x128) broadcasts_S1x128_S8x128⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128 (ix2 a b) = v (ix2 0 a) := by
    intro v a b
    have e := Columns.stack_apply (broadcastTo S8x128 (shapeCast S1x128 v shapeCasts_S1x128_S1x128) broadcasts_S1x128_S8x128) concatenates_S8x128_S8x128_S8x128_S8x128_S8x128_S8x128_S8x128_S8x128_S8x128_S8x128_S8x128_S8x128_S8x128_S8x128_S8x128_S8x128_S128x128_d0 b a
    generalize concatenate _ _ _ _ = st at e ⊢
    pointwise at e ⊢
    exact e
  have four := Columns.blocks_apply (M := 512) 4 (fun n => transpose S128x128 [1, 0] (concatenate S128x128 0 (List.replicate 16 (⟨S8x128, broadcastTo S8x128 (shapeCast S1x128 (![v0, v1, v2, v3] n) shapeCasts_S1x128_S1x128) broadcasts_S1x128_S8x128⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128)
    concatenates_S128x128_S128x128_S128x128_S128x128_S512x128_d0 r l ⟨r.val / 128, by omega⟩ rfl
  rw [one] at four
  rw [← four]
  unfold k0_pay2
  rw [shapeCast_self]
  rfl

/-- One code of a block. -/
theorem codes_apply (v3 : Vec Ideal S512x3584 .f32) (v4 : Vec Ideal S512x128 .f32) (r : Fin 512) (k : Fin 3584) :
    k0_pay3 (F := Ideal) v3 v4 (ix2 r k) = code (v3 (ix2 r k)) (v4 (ix2 r ⟨k.val % 128, Nat.mod_lt _ (by decide)⟩)) := by
  have e := Columns.wide_apply (n := 3584) 28 v4 Gen.concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3584_d1 r k
  unfold code
  rw [← e]
  rfl

/-- The accumulator of a block after one more stretch of 3584 columns. -/
theorem acc_apply (v3 : Vec Ideal S512x3584 .f32) (v4 : Vec Ideal S512x128 .f32) (a : Vec Ideal S512x2048 .f32) (w : Vec Ideal S3584x2048 .i8)
    (r : Fin 512) (n : Fin 2048) :
    k0_pay4 (F := Ideal) v3 v4 a w (ix2 r n) = a (ix2 r n) + ∑ k : Fin 3584, num (k0_pay3 (F := Ideal) v3 v4 (ix2 r k)) * num (w (ix2 k n)) := by
  pointwise [k0_pay4]
  rfl

/-- The cleared accumulator. -/
theorem zero_apply (i : S512x2048.Idx) : k0_pay1 (F := Ideal) i = 0 := by
  pointwise [k0_pay1]

/-- One entry of a finished block. -/
theorem out_apply (v28 : Vec Ideal S512x128 .f32) (h : Vec Ideal S512x2048 .f32) (a : Vec Ideal S512x2048 .f32) (s : Vec Ideal S1x2048 .f32)
    (r : Fin 512) (n : Fin 2048) :
    k0_pay5 (F := Ideal) v28 h a s (ix2 r n) = h (ix2 r n) + a (ix2 r n) * (v28 (ix2 r ⟨n.val % 128, Nat.mod_lt _ (by decide)⟩) * s (ix2 0 n)) := by
  have e := Columns.wide_apply (n := 2048) 16 v28 Gen.concatenates_S512x128_S512x128_S512x128_S512x128_S512x128_S512x128_S512x128_S512x128_S512x128_S512x128_S512x128_S512x128_S512x128_S512x128_S512x128_S512x128_S512x2048_d1 r n
  rw [← e]
  unfold k0_pay5
  generalize hw : concatenate S512x2048 _ _ _ = wd
  pointwise
  rw [← hw]
  rfl
end K

namespace R
open Cert.DownRefIdeal Cert.DownRefIdeal.Gen

/-- One code of the reference. -/
theorem codes_apply (v0 : Vec Ideal S16384x10752 .f32) (v1 : Vec Ideal S16384x1 .f32) (r : Fin 16384) (k : Fin 10752) :
    k0_pay2 (F := Ideal) v0 v1 (ix2 r k) = code (v0 (ix2 r k)) (v1 (ix2 r 0)) := by
  pointwise [k0_pay2, k0_pay1]
  rfl

/-- One result entry of the reference. -/
theorem out_apply (v0 : Vec Ideal S16384x10752 .f32) (v1 : Vec Ideal S16384x1 .f32) (h : Vec Ideal S16384x2048 .f32) (w : Vec Ideal S10752x2048 .i8) (s : Vec Ideal S1x2048 .f32)
    (r : Fin 16384) (n : Fin 2048) :
    k0_pay3 (F := Ideal) v0 v1 h w s (ix2 r n)
      = h (ix2 r n) + (∑ k : Fin 10752, num (code (v0 (ix2 r k)) (v1 (ix2 r 0))) * num (w (ix2 k n))) * (v1 (ix2 r 0) * s (ix2 0 n)) := by
  pointwise [k0_pay3, k0_pay2, k0_pay1]
  rfl
end R

end Cert.DownPure

end
-- ==== Proof.UpPure.lean ====
/-
  What one block of the gate and up projections computes, entry by entry.
-/
module

public import Idealize.ShloMosaic.Lib.KernelVsHost.SublaneAllReduce
public import proofs.«01_k».proof.Proof.DownPure
public import proofs.«01_k».proof.Proof.Gen.UpIdeal.Skeleton
public import proofs.«01_k».proof.Proof.Gen.UpRefIdeal.Skeleton

@[expose] public section

set_option maxRecDepth 16384

noncomputable section

namespace Cert.UpPure

open Idealize.ShloMosaic Idealize.ShloMosaic.TcCoe Idealize.SL.Sem
open Cert.DownPure (num)

/-- The gated value of a gate entry `x` and an up entry `u`: `x` times the logistic function of `x`, times `u`. -/
def gated (x u : EReal) : EReal := x * Ideal.logistic x * u

/-- The scale of a row whose largest magnitude is `m`. -/
def scaleOf (m : EReal) : EReal := Scalar.select (FloatOps.cmpf (F := Ideal) (φ := .f32) .oeq m (Scalar.ofBits (F := Ideal) .f32 0x00000000#32)) (Scalar.ofBits (F := Ideal) .f32 0x3F800000#32) (FloatOps.divf (F := Ideal) (φ := .f32) m (Scalar.ofBits (F := Ideal) .f32 0x42FE0000#32))

theorem logistic_eq (x : EReal) : Ideal.div 1 (1 + Ideal.exp (0 - x)) = Ideal.logistic x := by
  rw [zero_sub]
  rfl

namespace K
open Cert.UpIdeal Cert.UpIdeal.Gen

/-- The column block of the scales: in row `r` every lane holds lane `r % 128` of statistics row `r / 128`. -/
theorem col_apply (v0 v1 v2 v3 v4 v5 v6 v7 : Vec Ideal S1x128 .f32) (r : Fin 1024) (l : Fin 128) :
    k0_pay43 (F := Ideal) (k0_pay4 v0) (k0_pay5 v1) (k0_pay6 v2) (k0_pay7 v3) (k0_pay8 v4) v5 v6 v7 (ix2 r l)
      = (![v0, v1, v2, v3, v4, v5, v6, v7] ⟨r.val / 128, by omega⟩) (ix2 0 ⟨r.val % 128, Nat.mod_lt _ (by decide)⟩) := by
  have one : ∀ v : Vec Ideal S1x128 .f32, ∀ a b : Fin 128,
      transpose S128x128 [1, 0] (concatenate S128x128 0 (List.replicate 16 (⟨S8x128, broadcastTo S8x128 (shapeCast S1x128 v shapeCasts_S1x128_S1x128) broadcasts_S1x128_S8x128⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128 (ix2 a b)
        = v (ix2 0 a) := by
    intro v a b
    have e := Columns.stack_apply (broadcastTo S8x128 (shapeCast S1x128 v shapeCasts_S1x128_S1x128) broadcasts_S1x128_S8x128) concatenates_S8x128_S8x128_S8x128_S8x128_S8x128_S8x128_S8x128_S8x128_S8x128_S8x128_S8x128_S8x128_S8x128_S8x128_S8x128_S8x128_S128x128_d0 b a
    generalize concatenate _ _ _ _ = st at e ⊢
    pointwise at e ⊢
    exact e
  have eight := Columns.blocks_apply (M := 1024) 8 (fun n => transpose S128x128 [1, 0] (concatenate S128x128 0 (List.replicate 16 (⟨S8x128, broadcastTo S8x128 (shapeCast S1x128 (![v0, v1, v2, v3, v4, v5, v6, v7] n) shapeCasts_S1x128_S1x128) broadcasts_S1x128_S8x128⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128)
    concatenates_S128x128_S128x128_S128x128_S128x128_S128x128_S128x128_S128x128_S128x128_S1024x128_d0 r l ⟨r.val / 128, by omega⟩ rfl
  rw [one] at eight
  rw [← eight]
  unfold k0_pay43
  rw [shapeCast_self]
  rfl

/-- One stretch of 256 columns of a block. -/
def chunk (lhs : Vec Ideal S1024x2048 .bf16) (v : Vec Ideal S1024x128 .f32) (wg : Vec Ideal S2048x256 .i8) (sg : Vec Ideal S1x256 .f32)
    (wu : Vec Ideal S2048x256 .i8) (su : Vec Ideal S1x256 .f32) : FVec Ideal S1024x256 .f32 := k0_pay46 (F := Ideal) v lhs wg sg lhs wu su

theorem chunk_apply (lhs : Vec Ideal S1024x2048 .bf16) (v : Vec Ideal S1024x128 .f32) (wg : Vec Ideal S2048x256 .i8) (sg : Vec Ideal S1x256 .f32)
    (wu : Vec Ideal S2048x256 .i8) (su : Vec Ideal S1x256 .f32) (r : Fin 1024) (n : Fin 256) :
    chunk lhs v wg sg wu su (ix2 r n)
      = gated ((∑ k : Fin 2048, lhs (ix2 r k) * num (wg (ix2 k n))) * (v (ix2 r ⟨n.val % 128, Nat.mod_lt _ (by decide)⟩) * sg (ix2 0 n)))
          ((∑ k : Fin 2048, lhs (ix2 r k) * num (wu (ix2 k n))) * (v (ix2 r ⟨n.val % 128, Nat.mod_lt _ (by decide)⟩) * su (ix2 0 n))) := by
  have e : k0_pay45 (F := Ideal) v (ix2 r n) = v (ix2 r ⟨n.val % 128, Nat.mod_lt _ (by decide)⟩) := Columns.wide_apply (n := 256) 2 v concatenates_S1024x128_S1024x128_S1024x256_d1 r n
  unfold chunk gated
  rw [← e, ← logistic_eq]
  unfold k0_pay46
  generalize k0_pay45 v = wd
  pointwise
  rfl

/-- The lane-wise larger magnitude of the two halves of a stretch. -/
def fold (a : FVec Ideal S1024x256 .f32) : FVec Ideal S1024x128 .f32 :=
  maximumf (extractStridedSlice S1024x128 ![0, 0] (absf a) slices_S1024x256_o0_0_S1024x128) (extractStridedSlice S1024x128 ![0, 128] (absf a) slices_S1024x256_o0_128_S1024x128)

theorem fold_le (a : FVec Ideal S1024x256 .f32) (r : Fin 1024) (l : Fin 128) (b : EReal) :
    fold a (ix2 r l) ≤ b ↔ ∀ n : Fin 256, n.val % 128 = l.val → max (a (ix2 r n)) (-a (ix2 r n)) ≤ b := by
  have e : fold a (ix2 r l) = max (max (a (ix2 r ⟨l.val, by omega⟩)) (-a (ix2 r ⟨l.val, by omega⟩))) (max (a (ix2 r ⟨128 + l.val, by omega⟩)) (-a (ix2 r ⟨128 + l.val, by omega⟩))) := by
    unfold fold
    pointwise
    rfl
  rw [e, max_le_iff]
  constructor
  · rintro ⟨h1, h2⟩ n hn
    rcases Nat.lt_or_ge n.val 128 with h | h
    · have : n = ⟨l.val, by omega⟩ := Fin.ext (by show n.val = l.val; omega)
      rw [this]; exact h1
    · have : n = ⟨128 + l.val, by omega⟩ := Fin.ext (by show n.val = 128 + l.val; omega)
      rw [this]; exact h2
  · intro h
    exact ⟨h _ (Nat.mod_eq_of_lt l.isLt), h _ (by show (128 + l.val) % 128 = l.val; omega)⟩

/-- The running maximum after the six stretches of a block. -/
def grown (m : FVec Ideal S1024x128 .f32) (a : Fin 6 → FVec Ideal S1024x256 .f32) : FVec Ideal S1024x128 .f32 :=
  maximumf (maximumf (maximumf (maximumf (maximumf (maximumf m (fold (a 0))) (fold (a 1))) (fold (a 2))) (fold (a 3))) (fold (a 4))) (fold (a 5))

theorem grown_le (m : FVec Ideal S1024x128 .f32) (a : Fin 6 → FVec Ideal S1024x256 .f32) (r : Fin 1024) (l : Fin 128) (b : EReal) :
    grown m a (ix2 r l) ≤ b ↔ m (ix2 r l) ≤ b ∧ ∀ c : Fin 6, fold (a c) (ix2 r l) ≤ b := by
  have e : grown m a (ix2 r l) = max (max (max (max (max (max (m (ix2 r l)) (fold (a 0) (ix2 r l))) (fold (a 1) (ix2 r l))) (fold (a 2) (ix2 r l))) (fold (a 3) (ix2 r l))) (fold (a 4) (ix2 r l))) (fold (a 5) (ix2 r l)) := rfl
  rw [e]
  simp only [max_le_iff]
  constructor
  · rintro ⟨⟨⟨⟨⟨⟨hm, h0⟩, h1⟩, h2⟩, h3⟩, h4⟩, h5⟩
    refine ⟨hm, fun c => ?_⟩
    match c with
    | 0 => exact h0
    | 1 => exact h1
    | 2 => exact h2
    | 3 => exact h3
    | 4 => exact h4
    | 5 => exact h5
  · rintro ⟨hm, h⟩
    exact ⟨⟨⟨⟨⟨⟨hm, h 0⟩, h 1⟩, h 2⟩, h 3⟩, h 4⟩, h 5⟩

/-- The stack of the sixteen eight-row slices of a square, reduced to one. -/
def slices (w : FVec Ideal S128x128 .f32) : FVec Ideal S8x128 .f32 :=
  maximumf (maximumf (maximumf (maximumf (maximumf (maximumf (maximumf (maximumf (maximumf (maximumf (maximumf (maximumf (maximumf (maximumf (maximumf
    (extractStridedSlice S8x128 ![0, 0] w slices_S128x128_o0_0_S8x128)
    (extractStridedSlice S8x128 ![8, 0] w slices_S128x128_o8_0_S8x128))
    (extractStridedSlice S8x128 ![16, 0] w slices_S128x128_o16_0_S8x128))
    (extractStridedSlice S8x128 ![24, 0] w slices_S128x128_o24_0_S8x128))
    (extractStridedSlice S8x128 ![32, 0] w slices_S128x128_o32_0_S8x128))
    (extractStridedSlice S8x128 ![40, 0] w slices_S128x128_o40_0_S8x128))
    (extractStridedSlice S8x128 ![48, 0] w slices_S128x128_o48_0_S8x128))
    (extractStridedSlice S8x128 ![56, 0] w slices_S128x128_o56_0_S8x128))
    (extractStridedSlice S8x128 ![64, 0] w slices_S128x128_o64_0_S8x128))
    (extractStridedSlice S8x128 ![72, 0] w slices_S128x128_o72_0_S8x128))
    (extractStridedSlice S8x128 ![80, 0] w slices_S128x128_o80_0_S8x128))
    (extractStridedSlice S8x128 ![88, 0] w slices_S128x128_o88_0_S8x128))
    (extractStridedSlice S8x128 ![96, 0] w slices_S128x128_o96_0_S8x128))
    (extractStridedSlice S8x128 ![104, 0] w slices_S128x128_o104_0_S8x128))
    (extractStridedSlice S8x128 ![112, 0] w slices_S128x128_o112_0_S8x128))
    (extractStridedSlice S8x128 ![120, 0] w slices_S128x128_o120_0_S8x128)

/-- The eight rows of a slice, reduced to one that every row holds. -/
def rolled (x : FVec Ideal S8x128 .f32) : FVec Ideal S8x128 .f32 :=
  (maximumf (maximumf (maximumf x (dynamicRotate 0 4#32 none x rotates_S8x128_d0))
        (dynamicRotate 0 2#32 none (maximumf x (dynamicRotate 0 4#32 none x rotates_S8x128_d0)) rotates_S8x128_d0))
      (dynamicRotate 0 1#32 none (maximumf (maximumf x (dynamicRotate 0 4#32 none x rotates_S8x128_d0))
        (dynamicRotate 0 2#32 none (maximumf x (dynamicRotate 0 4#32 none x rotates_S8x128_d0)) rotates_S8x128_d0)) rotates_S8x128_d0))

/-- Sixteen values in turn. -/
def max16 (f : Fin 16 → EReal) : EReal := max (max (max (max (max (max (max (max (max (max (max (max (max (max (max (f 0) (f 1)) (f 2)) (f 3)) (f 4)) (f 5)) (f 6)) (f 7)) (f 8)) (f 9)) (f 10)) (f 11)) (f 12)) (f 13)) (f 14)) (f 15)

theorem max16_le (f : Fin 16 → EReal) (b : EReal) : max16 f ≤ b ↔ ∀ q : Fin 16, f q ≤ b := by
  unfold max16
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ q
    obtain ⟨q, hq⟩ := q
    match q, hq with
    | 0, _ => exact h0
    | 1, _ => exact h1
    | 2, _ => exact h2
    | 3, _ => exact h3
    | 4, _ => exact h4
    | 5, _ => exact h5
    | 6, _ => exact h6
    | 7, _ => exact h7
    | 8, _ => exact h8
    | 9, _ => exact h9
    | 10, _ => exact h10
    | 11, _ => exact h11
    | 12, _ => exact h12
    | 13, _ => exact h13
    | 14, _ => exact h14
    | 15, _ => exact h15
    | q + 16, hq => exact absurd hq (by omega)
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

theorem slices_le (w : FVec Ideal S128x128 .f32) (k : Fin 8) (l : Fin 128) (b : EReal) :
    slices w (ix2 k l) ≤ b ↔ ∀ q : Fin 16, w (ix2 ⟨8 * q.val + k.val, by omega⟩ l) ≤ b := by
  have e : slices w (ix2 k l) = max16 fun q => w (ix2 ⟨8 * q.val + k.val, by omega⟩ l) := by
    unfold slices max16
    pointwise
  rw [e, max16_le]

theorem rolled_le (x : FVec Ideal S8x128 .f32) (k : Fin 8) (l : Fin 128) (b : EReal) :
    rolled x (ix2 k l) ≤ b ↔ ∀ q : Fin 8, x (ix2 q l) ≤ b := by
  have e : rolled x (ix2 k l) = SublaneAllReduce.combine8 max fun k => x (ix2 k l) := SublaneAllReduce.sublaneAllMax_apply rotates_S8x128_d0 x k l
  rw [e]
  unfold SublaneAllReduce.combine8
  simp only [max_le_iff]
  constructor
  · rintro ⟨⟨⟨h0, h4⟩, h2, h6⟩, ⟨h1, h5⟩, h3, h7⟩ q
    match q with
    | 0 => exact h0
    | 1 => exact h1
    | 2 => exact h2
    | 3 => exact h3
    | 4 => exact h4
    | 5 => exact h5
    | 6 => exact h6
    | 7 => exact h7
  · intro h
    exact ⟨⟨⟨h 0, h 4⟩, h 2, h 6⟩, ⟨h 1, h 5⟩, h 3, h 7⟩

/-- The largest entries of the rows of the `q`-th square of a running maximum. -/
def top (v : FVec Ideal S1024x128 .f32) (q : Fin 8) : FVec Ideal S8x128 .f32 :=
  ![k0_pay9 v, k0_pay12 (k0_pay10 v) (k0_pay11 v), k0_pay14 (k0_pay13 v), k0_pay15 v, k0_pay18 (k0_pay16 v) (k0_pay17 v), k0_pay21 (k0_pay19 v) (k0_pay20 v), k0_pay22 v, k0_pay25 (k0_pay23 v) (k0_pay24 v)] q

theorem square_le (w : FVec Ideal S128x128 .f32) (k : Fin 8) (l : Fin 128) (b : EReal) :
    rolled (slices (transpose S128x128 [1, 0] w transposes_S128x128_p1_0_S128x128)) (ix2 k l) ≤ b ↔ ∀ c : Fin 128, w (ix2 l c) ≤ b := by
  rw [rolled_le]
  have t : ∀ a b : Fin 128, transpose S128x128 [1, 0] w transposes_S128x128_p1_0_S128x128 (ix2 a b) = w (ix2 b a) := by
    intro a b
    pointwise
  simp only [slices_le, t]
  constructor
  · intro h c
    have := h ⟨c.val % 8, Nat.mod_lt _ (by decide)⟩ ⟨c.val / 8, by omega⟩
    have e : (⟨8 * (c.val / 8) + c.val % 8, by omega⟩ : Fin 128) = c := Fin.ext (by show 8 * (c.val / 8) + c.val % 8 = c.val; omega)
    rw [← e]; exact this
  · intro h q p
    exact h _

theorem top_le (v : FVec Ideal S1024x128 .f32) (q : Fin 8) (k : Fin 8) (l : Fin 128) (b : EReal) :
    top v q (ix2 k l) ≤ b ↔ ∀ c : Fin 128, v (ix2 ⟨128 * q.val + l.val, by omega⟩ c) ≤ b := by
  have s : ∀ (o : Fin 8 ) (h : S1024x128.Slices ![128 * o.val, 0] S128x128) (w : FVec Ideal S8x128 .f32),
      w = rolled (slices (transpose S128x128 [1, 0] (extractStridedSlice S128x128 ![128 * o.val, 0] v h) transposes_S128x128_p1_0_S128x128)) →
      (w (ix2 k l) ≤ b ↔ ∀ c : Fin 128, v (ix2 ⟨128 * o.val + l.val, by omega⟩ c) ≤ b) := by
    intro o h w hw
    rw [hw, square_le]
    refine forall_congr' fun c => ?_
    have : extractStridedSlice S128x128 ![128 * o.val, 0] v h (ix2 l c) = v (ix2 ⟨128 * o.val + l.val, by omega⟩ c) := by
      pointwise
    rw [this]
  match q with
  | 0 => exact s 0 slices_S1024x128_o0_0_S128x128 _ rfl
  | 1 => exact s 1 slices_S1024x128_o128_0_S128x128 _ rfl
  | 2 => exact s 2 slices_S1024x128_o256_0_S128x128 _ rfl
  | 3 => exact s 3 slices_S1024x128_o384_0_S128x128 _ rfl
  | 4 => exact s 4 slices_S1024x128_o512_0_S128x128 _ rfl
  | 5 => exact s 5 slices_S1024x128_o640_0_S128x128 _ rfl
  | 6 => exact s 6 slices_S1024x128_o768_0_S128x128 _ rfl
  | 7 => exact s 7 slices_S1024x128_o896_0_S128x128 _ rfl

/-- The row of scales of the `q`-th square of a running maximum, as it is stored. -/
def scaleRow (v : FVec Ideal S1024x128 .f32) (q : Fin 8) : FVec Ideal S1x128 .f32 :=
  ![k0_pay35 (k0_pay26 (top v 0)), k0_pay36 (k0_pay27 (top v 1)), k0_pay37 (k0_pay29 (top v 2) (k0_pay28 (top v 2))), k0_pay38 (k0_pay30 (top v 3)), k0_pay39 (k0_pay31 (top v 4)), k0_pay40 (k0_pay32 (top v 5)), k0_pay41 (k0_pay33 (top v 6)), k0_pay42 (k0_pay34 (top v 7))] q

theorem scaleRow_apply (v : FVec Ideal S1024x128 .f32) (q : Fin 8) (l : Fin 128) :
    scaleRow v q (ix2 0 l) = scaleOf (top v q (ix2 0 l)) := by
  unfold scaleRow
  generalize top v = t
  match q with
  | 0 =>
    show k0_pay35 (k0_pay26 (t 0)) (ix2 0 l) = _
    generalize t _ = u
    unfold scaleOf
    pointwise [k0_pay35, k0_pay26]
  | 1 =>
    show k0_pay36 (k0_pay27 (t 1)) (ix2 0 l) = _
    generalize t _ = u
    unfold scaleOf
    pointwise [k0_pay36, k0_pay27]
  | 2 =>
    show k0_pay37 (k0_pay29 (t 2) (k0_pay28 (t 2))) (ix2 0 l) = _
    generalize t _ = u
    unfold scaleOf
    pointwise [k0_pay37, k0_pay29, k0_pay28]
  | 3 =>
    show k0_pay38 (k0_pay30 (t 3)) (ix2 0 l) = _
    generalize t _ = u
    unfold scaleOf
    pointwise [k0_pay38, k0_pay30]
  | 4 =>
    show k0_pay39 (k0_pay31 (t 4)) (ix2 0 l) = _
    generalize t _ = u
    unfold scaleOf
    pointwise [k0_pay39, k0_pay31]
  | 5 =>
    show k0_pay40 (k0_pay32 (t 5)) (ix2 0 l) = _
    generalize t _ = u
    unfold scaleOf
    pointwise [k0_pay40, k0_pay32]
  | 6 =>
    show k0_pay41 (k0_pay33 (t 6)) (ix2 0 l) = _
    generalize t _ = u
    unfold scaleOf
    pointwise [k0_pay41, k0_pay33]
  | 7 =>
    show k0_pay42 (k0_pay34 (t 7)) (ix2 0 l) = _
    generalize t _ = u
    unfold scaleOf
    pointwise [k0_pay42, k0_pay34]
end K

namespace R
open Cert.UpRefIdeal Cert.UpRefIdeal.Gen

/-- One gated value of the reference. -/
theorem act_apply (c : Vec Ideal S16384x2048 .i8) (s : Vec Ideal S16384x1 .f32) (wg : Vec Ideal S2048x10752 .i8) (sg : Vec Ideal S1x10752 .f32) (wu : Vec Ideal S2048x10752 .i8) (su : Vec Ideal S1x10752 .f32)
    (r : Fin 16384) (n : Fin 10752) :
    k0_pay1 (F := Ideal) c s wg sg wu su (ix2 r n)
      = gated ((∑ k : Fin 2048, num (c (ix2 r k)) * num (wg (ix2 k n))) * (s (ix2 r 0) * sg (ix2 0 n)))
          ((∑ k : Fin 2048, num (c (ix2 r k)) * num (wu (ix2 k n))) * (s (ix2 r 0) * su (ix2 0 n))) := by
  unfold gated
  pointwise [k0_pay1]
  rfl

theorem fold_max_le {N : ℕ} (f : Fin N → EReal) (z b : EReal) (hz : z ≤ b) : Finset.univ.fold max z f ≤ b ↔ ∀ n, f n ≤ b :=
  (Finset.fold_max_le b).trans ⟨fun h n => h.2 n (Finset.mem_univ n), fun h => ⟨hz, fun n _ => h n⟩⟩

theorem bot_word : Ideal.ofBits FTy.f32 0xFF800000#32 = (⊥ : EReal) := by
  simp [Ideal.ofBits, Ideal.ieee]

/-- The largest magnitude in a row of the reference. -/
def rowMax (a : FVec Ideal S16384x10752 .f32) : FVec Ideal S16384 .f32 :=
  multiReduction .maximumf [1] S16384 (absf a) 0xFF800000#32 reduces_S16384x10752_S16384 (.inl rfl) rfl

theorem rowMax_eq (a : FVec Ideal S16384x10752 .f32) (r : Fin 16384) :
    rowMax a (ix1 r) = Finset.univ.fold max (Ideal.ofBits FTy.f32 0xFF800000#32) fun n : Fin 10752 => max (a (ix2 r n)) (-a (ix2 r n)) := by
  unfold rowMax
  pointwise
  rfl

theorem rowMax_le (a : FVec Ideal S16384x10752 .f32) (r : Fin 16384) (b : EReal) :
    rowMax a (ix1 r) ≤ b ↔ ∀ n : Fin 10752, max (a (ix2 r n)) (-a (ix2 r n)) ≤ b := by
  rw [rowMax_eq]
  exact fold_max_le _ _ b (bot_word ▸ bot_le)

/-- The scales of the rows from their largest magnitudes. -/
def scales (v : FVec Ideal S16384 .f32) : FVec Ideal S16384x1 .f32 :=
  select (cmpf .oeq (shapeCast S16384x1 v shapeCasts_S16384_S16384x1) (broadcast S16384x1 (Scalar.ofBits (F := Ideal) .f32 0x00000000#32))) (broadcast S16384x1 (Scalar.ofBits (F := Ideal) .f32 0x3F800000#32)) (divf (shapeCast S16384x1 v shapeCasts_S16384_S16384x1) (broadcast S16384x1 (Scalar.ofBits (F := Ideal) .f32 0x42FE0000#32)))

theorem scales_eq (c : Vec Ideal S16384x2048 .i8) (s : Vec Ideal S16384x1 .f32) (wg : Vec Ideal S2048x10752 .i8) (sg : Vec Ideal S1x10752 .f32) (wu : Vec Ideal S2048x10752 .i8) (su : Vec Ideal S1x10752 .f32) :
    k0_pay2 (F := Ideal) c s wg sg wu su = scales (rowMax (k0_pay1 (F := Ideal) c s wg sg wu su)) := rfl

theorem scales_apply (v : FVec Ideal S16384 .f32) (r : Fin 16384) : scales v (ix2 r 0) = scaleOf (v (ix1 r)) := by
  have e : shapeCast S16384x1 v shapeCasts_S16384_S16384x1 (ix2 r 0) = v (ix1 r) := by pointwise
  unfold scales scaleOf
  rw [← e]
  rfl

/-- One scale of the reference. -/
theorem scale_apply (c : Vec Ideal S16384x2048 .i8) (s : Vec Ideal S16384x1 .f32) (wg : Vec Ideal S2048x10752 .i8) (sg : Vec Ideal S1x10752 .f32) (wu : Vec Ideal S2048x10752 .i8) (su : Vec Ideal S1x10752 .f32)
    (r : Fin 16384) :
    k0_pay2 (F := Ideal) c s wg sg wu su (ix2 r 0) = scaleOf (rowMax (k0_pay1 (F := Ideal) c s wg sg wu su) (ix1 r)) := by
  rw [scales_eq, scales_apply]

end R

end Cert.UpPure

end
-- ==== Proof.Tiles.lean ====
/-
  Stores of 256 columns each, side by side in a buffer, read back: six in a 1024 × 1536 buffer, eight in a 512 × 2048 one.
-/
module

public import Idealize.ShloMosaic.Lib.WritesUnit
public import Idealize.ShloMosaic.Lib.Pointwise

@[expose] public section

set_option maxRecDepth 16384

noncomputable section

namespace Cert.Tiles

open Idealize.ShloMosaic

variable {sig : RefSig} {κ : Kind} {sp : Space} {e : EltTy} {Val : EltTy → Type}

abbrev Big : Shape := ⟨2, ![1024, 1536]⟩
abbrev Tile : Shape := ⟨2, ![1024, 256]⟩

/-- The store of the tile `w` at the column `o`. -/
abbrev piece (o : ℕ) (inb : ∀ a : Fin 2, (![0, o] : Fin 2 → ℕ) a + ![1024, 256] a ≤ ![1024, 1536] a) (w : Tile.Idx → Val e) : View.Piece Val Big e :=
  ⟨Rect.unit (s := Big) ![0, o] ![1024, 256] inb, w⟩

/-- The part of column `n` within its tile. -/
abbrev inner (y : Big.Idx) : Tile.Idx := ix2 (y 0) ⟨(y 1).val % 256, Nat.mod_lt _ (by decide)⟩

theorem tile_lt (y : Big.Idx) : (y 1).val / 256 < 6 := by
  have h : (y 1).val < 1536 := (y 1).isLt
  omega

/-- After the stores of the tiles `w 0`, …, `w 5` each column reads as its tile has it. -/
theorem six_tiles (v : View sig κ sp Big e) (f : v.ty.Contents Val) (w : Fin 6 → Tile.Idx → Val e)
    {w0 w1 w2 w3 w4 w5 : Tile.Idx → Val e} {inb0 inb1 inb2 inb3 inb4 inb5}
    (h0 : w0 = w 0) (h1 : w1 = w 1) (h2 : w2 = w 2) (h3 : w3 = w 3) (h4 : w4 = w 4) (h5 : w5 = w 5) (y : Big.Idx) :
    v.read Val (v.writes Val f [piece 1280 inb5 w5, piece 1024 inb4 w4, piece 768 inb3 w3, piece 512 inb2 w2, piece 256 inb1 w1, piece 0 inb0 w0]) y
      = w ⟨(y 1).val / 256, tile_lt y⟩ (inner y) := by
  subst h0 h1 h2 h3 h4 h5
  have hit : ∀ (k : Fin 6) (o : ℕ) (inb) (L : List (View.Piece Val Big e)), o = 256 * k.val → (y 1).val / 256 = k.val →
      v.read Val (v.writes Val f (piece o inb (w k) :: L)) y = w k (inner y) := by
    intro k o inb L ho hy
    refine View.read_writes_cons_unit_of_mem v f inb (w k) L y (inner y) rfl fun a => ?_
    match a with
    | ⟨0, _⟩ => exact (Nat.zero_add _).symm
    | ⟨1, _⟩ => show (y 1).val = o + (y 1).val % 256; omega
  have miss : ∀ (k : Fin 6) (o : ℕ) (inb) (L : List (View.Piece Val Big e)), o = 256 * k.val → (y 1).val / 256 ≠ k.val →
      v.read Val (v.writes Val f (piece o inb (w k) :: L)) y = v.read Val (v.writes Val f L) y := by
    intro k o inb L ho hy
    refine View.read_writes_cons_unit_of_not_mem v f inb (w k) L y rfl 1 ?_
    show (y 1).val < o ∨ o + 256 ≤ (y 1).val
    omega
  obtain ⟨k, hk⟩ : ∃ k : Fin 6, (y 1).val / 256 = k.val := ⟨⟨_, tile_lt y⟩, rfl⟩
  have hw : w ⟨(y 1).val / 256, tile_lt y⟩ = w k := congrArg w (Fin.ext hk)
  rw [hw]
  have ne : ∀ j : Fin 6, j ≠ k → (y 1).val / 256 ≠ j.val := fun j hj hy => hj (Fin.ext (by omega))
  clear hw
  fin_cases k
  · rw [miss 5 1280 _ _ rfl (ne 5 (by decide)), miss 4 1024 _ _ rfl (ne 4 (by decide)), miss 3 768 _ _ rfl (ne 3 (by decide)), miss 2 512 _ _ rfl (ne 2 (by decide)), miss 1 256 _ _ rfl (ne 1 (by decide))]
    exact hit 0 0 _ _ rfl hk
  · rw [miss 5 1280 _ _ rfl (ne 5 (by decide)), miss 4 1024 _ _ rfl (ne 4 (by decide)), miss 3 768 _ _ rfl (ne 3 (by decide)), miss 2 512 _ _ rfl (ne 2 (by decide))]
    exact hit 1 256 _ _ rfl hk
  · rw [miss 5 1280 _ _ rfl (ne 5 (by decide)), miss 4 1024 _ _ rfl (ne 4 (by decide)), miss 3 768 _ _ rfl (ne 3 (by decide))]
    exact hit 2 512 _ _ rfl hk
  · rw [miss 5 1280 _ _ rfl (ne 5 (by decide)), miss 4 1024 _ _ rfl (ne 4 (by decide))]
    exact hit 3 768 _ _ rfl hk
  · rw [miss 5 1280 _ _ rfl (ne 5 (by decide))]
    exact hit 4 1024 _ _ rfl hk
  · exact hit 5 1280 _ _ rfl hk

abbrev BigH : Shape := ⟨2, ![512, 2048]⟩
abbrev TileH : Shape := ⟨2, ![512, 256]⟩

/-- The store of the tile `w` at the column `o`. -/
abbrev pieceH (o : ℕ) (inb : ∀ a : Fin 2, (![0, o] : Fin 2 → ℕ) a + ![512, 256] a ≤ ![512, 2048] a) (w : TileH.Idx → Val e) : View.Piece Val BigH e :=
  ⟨Rect.unit (s := BigH) ![0, o] ![512, 256] inb, w⟩

/-- The part of column `n` within its tile. -/
abbrev innerH (y : BigH.Idx) : TileH.Idx := ix2 (y 0) ⟨(y 1).val % 256, Nat.mod_lt _ (by decide)⟩

theorem tileH_lt (y : BigH.Idx) : (y 1).val / 256 < 8 := by
  have h : (y 1).val < 2048 := (y 1).isLt
  omega

/-- After the stores of the tiles `w 0`, …, `w 7` each column reads as its tile has it. -/
theorem eight_tiles (v : View sig κ sp BigH e) (f : v.ty.Contents Val) (w : Fin 8 → TileH.Idx → Val e)
    {w0 w1 w2 w3 w4 w5 w6 w7 : TileH.Idx → Val e} {inb0 inb1 inb2 inb3 inb4 inb5 inb6 inb7}
    (h0 : w0 = w 0) (h1 : w1 = w 1) (h2 : w2 = w 2) (h3 : w3 = w 3) (h4 : w4 = w 4) (h5 : w5 = w 5) (h6 : w6 = w 6) (h7 : w7 = w 7) (y : BigH.Idx) :
    v.read Val (v.writes Val f [pieceH 1792 inb7 w7, pieceH 1536 inb6 w6, pieceH 1280 inb5 w5, pieceH 1024 inb4 w4, pieceH 768 inb3 w3, pieceH 512 inb2 w2, pieceH 256 inb1 w1, pieceH 0 inb0 w0]) y
      = w ⟨(y 1).val / 256, tileH_lt y⟩ (innerH y) := by
  subst h0 h1 h2 h3 h4 h5 h6 h7
  have hit : ∀ (k : Fin 8) (o : ℕ) (inb) (L : List (View.Piece Val BigH e)), o = 256 * k.val → (y 1).val / 256 = k.val →
      v.read Val (v.writes Val f (pieceH o inb (w k) :: L)) y = w k (innerH y) := by
    intro k o inb L ho hy
    refine View.read_writes_cons_unit_of_mem v f inb (w k) L y (innerH y) rfl fun a => ?_
    match a with
    | ⟨0, _⟩ => exact (Nat.zero_add _).symm
    | ⟨1, _⟩ => show (y 1).val = o + (y 1).val % 256; omega
  have miss : ∀ (k : Fin 8) (o : ℕ) (inb) (L : List (View.Piece Val BigH e)), o = 256 * k.val → (y 1).val / 256 ≠ k.val →
      v.read Val (v.writes Val f (pieceH o inb (w k) :: L)) y = v.read Val (v.writes Val f L) y := by
    intro k o inb L ho hy
    refine View.read_writes_cons_unit_of_not_mem v f inb (w k) L y rfl 1 ?_
    show (y 1).val < o ∨ o + 256 ≤ (y 1).val
    omega
  obtain ⟨k, hk⟩ : ∃ k : Fin 8, (y 1).val / 256 = k.val := ⟨⟨_, tileH_lt y⟩, rfl⟩
  have hw : w ⟨(y 1).val / 256, tileH_lt y⟩ = w k := congrArg w (Fin.ext hk)
  rw [hw]
  have ne : ∀ j : Fin 8, j ≠ k → (y 1).val / 256 ≠ j.val := fun j hj hy => hj (Fin.ext (by omega))
  clear hw
  fin_cases k
  · rw [miss 7 1792 _ _ rfl (ne 7 (by decide)), miss 6 1536 _ _ rfl (ne 6 (by decide)), miss 5 1280 _ _ rfl (ne 5 (by decide)), miss 4 1024 _ _ rfl (ne 4 (by decide)), miss 3 768 _ _ rfl (ne 3 (by decide)), miss 2 512 _ _ rfl (ne 2 (by decide)), miss 1 256 _ _ rfl (ne 1 (by decide))]
    exact hit 0 0 _ _ rfl hk
  · rw [miss 7 1792 _ _ rfl (ne 7 (by decide)), miss 6 1536 _ _ rfl (ne 6 (by decide)), miss 5 1280 _ _ rfl (ne 5 (by decide)), miss 4 1024 _ _ rfl (ne 4 (by decide)), miss 3 768 _ _ rfl (ne 3 (by decide)), miss 2 512 _ _ rfl (ne 2 (by decide))]
    exact hit 1 256 _ _ rfl hk
  · rw [miss 7 1792 _ _ rfl (ne 7 (by decide)), miss 6 1536 _ _ rfl (ne 6 (by decide)), miss 5 1280 _ _ rfl (ne 5 (by decide)), miss 4 1024 _ _ rfl (ne 4 (by decide)), miss 3 768 _ _ rfl (ne 3 (by decide))]
    exact hit 2 512 _ _ rfl hk
  · rw [miss 7 1792 _ _ rfl (ne 7 (by decide)), miss 6 1536 _ _ rfl (ne 6 (by decide)), miss 5 1280 _ _ rfl (ne 5 (by decide)), miss 4 1024 _ _ rfl (ne 4 (by decide))]
    exact hit 3 768 _ _ rfl hk
  · rw [miss 7 1792 _ _ rfl (ne 7 (by decide)), miss 6 1536 _ _ rfl (ne 6 (by decide)), miss 5 1280 _ _ rfl (ne 5 (by decide))]
    exact hit 4 1024 _ _ rfl hk
  · rw [miss 7 1792 _ _ rfl (ne 7 (by decide)), miss 6 1536 _ _ rfl (ne 6 (by decide))]
    exact hit 5 1280 _ _ rfl hk
  · rw [miss 7 1792 _ _ rfl (ne 7 (by decide))]
    exact hit 6 1536 _ _ rfl hk
  · exact hit 7 1792 _ _ rfl hk

end Cert.Tiles

end
-- ==== Proof.UpBlock.lean ====
/-
  What the body of the gate-and-up call leaves at a grid point, from the blocks it reads: at the first, a middle and the
  last point of a row block.
-/
module

public import proofs.«01_k».proof.Proof.UpPure
public import proofs.«01_k».proof.Proof.Tiles
public import proofs.«01_k».proof.Proof.UpIdealOuts

@[expose] public section

set_option maxRecDepth 16384

noncomputable section

namespace Cert.UpBlock

open Cert.UpIdeal Cert.UpIdeal.Gen Cert.UpIdeal.Run Idealize.ShloMosaic Idealize.ShloMosaic.TcCoe Idealize.SL.Sem
open Cert.UpPure.K

variable (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole)
variable (x0 : Vec Ideal S1024x2048 .i8) (x1 : Vec Ideal S128x128 .f32) (x2 : Vec Ideal S2048x1536 .i8) (x3 : Vec Ideal S1x1536 .f32) (x4 : Vec Ideal S2048x1536 .i8) (x5 : Vec Ideal S1x1536 .f32)

theorem hz : (![0, 0] : Fin 2 → Nat) = fun _ => 0 := funext fun a => by fin_cases a <;> rfl

/-- Row `k` of the 128 × 128 statistics. -/
def statRow (x1 : Vec Ideal S128x128 .f32) (k : Nat) (hk : k < 128) : Vec Ideal S1x128 .f32 := fun j => x1 (ix2 ⟨k, hk⟩ (j 1))

/-- The column block of the scales of row block `b`. -/
def col (x1 : Vec Ideal S128x128 .f32) (b : Nat) (hb : b < 16) : Vec Ideal S1024x128 .f32 :=
  k0_pay43 (k0_pay4 (statRow x1 (8 * b + 0) (by omega))) (k0_pay5 (statRow x1 (8 * b + 1) (by omega))) (k0_pay6 (statRow x1 (8 * b + 2) (by omega))) (k0_pay7 (statRow x1 (8 * b + 3) (by omega))) (k0_pay8 (statRow x1 (8 * b + 4) (by omega))) (statRow x1 (8 * b + 5) (by omega)) (statRow x1 (8 * b + 6) (by omega)) (statRow x1 (8 * b + 7) (by omega))

theorem coord_lt (i : grid0.Coords) : (i 0).val < 16 := (i 0).isLt

/-- A row of the statistics loaded at the row the first grid coordinate and `k` name. -/
theorem row_eq (k : Fin 8) (inb) :
    View.readAt (Elt Ideal) arg3.view (Rect.unit (s := S128x128) (k0_off1 i (BitVec.ofNat 32 k.val)) S1x128.size inb).toLoadRect (harg3.unread x1)
      = statRow x1 (8 * (i 0).val + k.val) (by have := coord_lt i; omega) := by
  rw [View.readAt_eq_ld, harg3.read_unread]
  funext j
  show x1 ((Rect.unit (s := S128x128) (k0_off1 i (BitVec.ofNat 32 k.val)) S1x128.size inb).idx j) = x1 (ix2 ⟨_, _⟩ (j 1))
  congr 1
  funext a
  apply Fin.ext
  have e0 : k0_off1 i (BitVec.ofNat 32 k.val) 0 = 8 * (i 0).val + k.val := congrFun (k0_off1_eq i k) 0
  have e1 : k0_off1 i (BitVec.ofNat 32 k.val) 1 = 0 := congrFun (k0_off1_eq i k) 1
  match a with
  | ⟨0, _⟩ =>
    have hj : (j 0).val < 1 := (j 0).isLt
    show k0_off1 i (BitVec.ofNat 32 k.val) 0 + 1 * (j 0).val = 8 * (i 0).val + k.val
    omega
  | ⟨1, _⟩ =>
    show k0_off1 i (BitVec.ofNat 32 k.val) 1 + 1 * (j 1).val = (j 1).val
    omega

/-- The `q`-th stretch of 256 columns of a block of weights. -/
def cutW (x : Vec Ideal S2048x1536 .i8) (q : Fin 6) : Vec Ideal S2048x256 .i8 :=
  fun j => x (ix2 (j 0) ⟨256 * q.val + (j 1).val, by have h : (j 1).val < 256 := (j 1).isLt; omega⟩)

/-- The `q`-th stretch of 256 entries of a block of column scales. -/
def cutS (x : Vec Ideal S1x1536 .f32) (q : Fin 6) : Vec Ideal S1x256 .f32 :=
  fun j => x (ix2 (j 0) ⟨256 * q.val + (j 1).val, by have h : (j 1).val < 256 := (j 1).isLt; omega⟩)

theorem cutW_eq (a : Memref sig .tc .vmem S2048x1536 .i8) (ha : a.IsWhole) (x : Vec Ideal S2048x1536 .i8) (q : Fin 6) (o : Nat) (ho : o = 256 * q.val) (inb) :
    View.readAt (Elt Ideal) a.view (Rect.unit (s := S2048x1536) ![0, o] S2048x256.size inb).toLoadRect (ha.unread x) = cutW x q := by
  rw [View.readAt_eq_ld, ha.read_unread]
  funext j
  show x ((Rect.unit (s := S2048x1536) ![0, o] S2048x256.size inb).idx j) = x (ix2 (j 0) ⟨_, _⟩)
  congr 1
  funext b
  apply Fin.ext
  match b with
  | ⟨0, _⟩ => show 0 + 1 * (j 0).val = (j 0).val; omega
  | ⟨1, _⟩ => show o + 1 * (j 1).val = 256 * q.val + (j 1).val; omega

theorem cutS_eq (a : Memref sig .tc .vmem S1x1536 .f32) (ha : a.IsWhole) (x : Vec Ideal S1x1536 .f32) (q : Fin 6) (o : Nat) (ho : o = 256 * q.val) (inb) :
    View.readAt (Elt Ideal) a.view (Rect.unit (s := S1x1536) ![0, o] S1x256.size inb).toLoadRect (ha.unread x) = cutS x q := by
  rw [View.readAt_eq_ld, ha.read_unread]
  funext j
  show x ((Rect.unit (s := S1x1536) ![0, o] S1x256.size inb).idx j) = x (ix2 (j 0) ⟨_, _⟩)
  congr 1
  funext b
  apply Fin.ext
  match b with
  | ⟨0, _⟩ => show 0 + 1 * (j 0).val = (j 0).val; omega
  | ⟨1, _⟩ => show o + 1 * (j 1).val = 256 * q.val + (j 1).val; omega

/-- The `q`-th stretch of a block. -/
def part (lhs : Vec Ideal S1024x2048 .bf16) (v : Vec Ideal S1024x128 .f32) (q : Fin 6) : Vec Ideal S1024x256 .f32 :=
  chunk lhs v (cutW x2 q) (cutS x3 q) (cutW x4 q) (cutS x5 q)

theorem whole_eq {S : Shape} {e : EltTy} (a : Memref sig .tc .vmem S e) (ha : a.IsWhole) (x : Vec Ideal S e) {off : Fin S.rank → Nat} (h : off = fun _ => 0) (inb) :
    View.readAt (Elt Ideal) a.view (Rect.unit (s := S) off S.size inb).toLoadRect (ha.unread x) = x := by
  rw [View.readAt_eq_ld, ha.read_unread, View.ld_unit_zero h]

/-- The stored running maximum is the one grown by the six stretches. -/
theorem grown_pay (l : Vec Ideal S1024x2048 .bf16) (v m : Vec Ideal S1024x128 .f32) (W U : Fin 6 → Vec Ideal S2048x256 .i8) (S T : Fin 6 → Vec Ideal S1x256 .f32) :
    k0_pay2 (k0_pay45 v) (k0_pay57 (k0_pay45 v) (k0_pay53 (k0_pay45 v) (k0_pay51 (k0_pay45 v)
              (k0_pay47 m (k0_pay46 v l (W 0) (S 0) l (U 0) (T 0)))
              (k0_pay49 (k0_pay45 v) l (W 1) (S 1) l (U 1) (T 1)) l (W 2) (S 2) l (U 2) (T 2))
            l (W 3) (S 3) l (U 3) (T 3)) (k0_pay54 l (W 4)) (k0_pay55 (S 4)) l (U 4) (T 4))
        (k0_pay58 (k0_pay45 v) l (W 5) (S 5)) l (U 5) (T 5)
      = grown m fun q => chunk l v (W q) (S q) (U q) (T q) := by
  unfold k0_pay2
  dsimp only
  rw [shapeCast_self]
  rfl

end Cert.UpBlock

end
-- ==== Proof.UpBlockA.lean ====
/-
  What the first point of a row block leaves, in terms of the blocks it is given.
-/
module

public import proofs.«01_k».proof.Proof.UpBlock

@[expose] public section

set_option maxRecDepth 16384

noncomputable section

namespace Cert.UpBlock

open Cert.UpIdeal Cert.UpIdeal.Gen Cert.UpIdeal.Run Idealize.ShloMosaic Idealize.ShloMosaic.TcCoe Idealize.SL.Sem
open Cert.UpPure.K

variable (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole)
variable (x0 : Vec Ideal S1024x2048 .i8) (x1 : Vec Ideal S128x128 .f32) (x2 : Vec Ideal S2048x1536 .i8) (x3 : Vec Ideal S1x1536 .f32) (x4 : Vec Ideal S2048x1536 .i8) (x5 : Vec Ideal S1x1536 .f32)

/-- The activation block. -/
theorem act_A (hc0 : cond0_0 i) (hc1 : ¬cond0_1 i) (y : S1024x1536.Idx) :
    out0_A_6 c i arg2 harg2 arg3 harg3 arg4 harg4 arg5 harg5 arg6 harg6 arg7 harg7 arg8 harg8 arg9 harg9 arg10 harg10 arg11 harg11 arg12 harg12 hc0 hc1 x0 x1 x2 x3 x4 x5 y = part x2 x3 x4 x5 (k0_pay3 x0) (col x1 (i 0).val (coord_lt i)) ⟨(y 1).val / 256, Tiles.tile_lt y⟩ (Tiles.inner y) := by
  unfold out0_A_6 kernelRun0_A
  dsimp only
  sl_unfold_words
  refine Tiles.six_tiles VO0_6 _ (part x2 x3 x4 x5 (k0_pay3 x0) (col x1 (i 0).val (coord_lt i))) ?_ ?_ ?_ ?_ ?_ ?_ y
  · rw [View.readCov_unit_zero (S := S1024x128) _ hz, View.readCov_unit_zero (S := S1024x2048) _ hz, whole_eq arg2 harg2 x0 hz, cutW_eq arg4 harg4 x2 0 0 rfl, cutS_eq arg5 harg5 x3 0 0 rfl, cutW_eq arg6 harg6 x4 0 0 rfl, cutS_eq arg7 harg7 x5 0 0 rfl]
    unfold part
    show chunk _ _ _ _ _ _ = chunk _ _ _ _ _ _
    refine congrArg (fun v => chunk (k0_pay3 x0) v (cutW x2 0) (cutS x3 0) (cutW x4 0) (cutS x5 0)) ?_
    unfold col
    congr 2
    · exact row_eq i arg3 harg3 x1 0 _
    · exact row_eq i arg3 harg3 x1 1 _
    · exact row_eq i arg3 harg3 x1 2 _
    · exact row_eq i arg3 harg3 x1 3 _
    · exact row_eq i arg3 harg3 x1 4 _
    · exact row_eq i arg3 harg3 x1 5 _
    · exact row_eq i arg3 harg3 x1 6 _
    · exact row_eq i arg3 harg3 x1 7 _
  · rw [View.readCov_unit_zero (S := S1024x128) _ hz, View.readCov_unit_zero (S := S1024x2048) _ hz, whole_eq arg2 harg2 x0 hz, cutW_eq arg4 harg4 x2 1 256 rfl, cutS_eq arg5 harg5 x3 1 256 rfl, cutW_eq arg6 harg6 x4 1 256 rfl, cutS_eq arg7 harg7 x5 1 256 rfl]
    unfold part
    show chunk _ _ _ _ _ _ = chunk _ _ _ _ _ _
    refine congrArg (fun v => chunk (k0_pay3 x0) v (cutW x2 1) (cutS x3 1) (cutW x4 1) (cutS x5 1)) ?_
    unfold col
    congr 2
    · exact row_eq i arg3 harg3 x1 0 _
    · exact row_eq i arg3 harg3 x1 1 _
    · exact row_eq i arg3 harg3 x1 2 _
    · exact row_eq i arg3 harg3 x1 3 _
    · exact row_eq i arg3 harg3 x1 4 _
    · exact row_eq i arg3 harg3 x1 5 _
    · exact row_eq i arg3 harg3 x1 6 _
    · exact row_eq i arg3 harg3 x1 7 _
  · rw [View.readCov_unit_zero (S := S1024x128) _ hz, View.readCov_unit_zero (S := S1024x2048) _ hz, whole_eq arg2 harg2 x0 hz, cutW_eq arg4 harg4 x2 2 512 rfl, cutS_eq arg5 harg5 x3 2 512 rfl, cutW_eq arg6 harg6 x4 2 512 rfl, cutS_eq arg7 harg7 x5 2 512 rfl]
    unfold part
    show chunk _ _ _ _ _ _ = chunk _ _ _ _ _ _
    refine congrArg (fun v => chunk (k0_pay3 x0) v (cutW x2 2) (cutS x3 2) (cutW x4 2) (cutS x5 2)) ?_
    unfold col
    congr 2
    · exact row_eq i arg3 harg3 x1 0 _
    · exact row_eq i arg3 harg3 x1 1 _
    · exact row_eq i arg3 harg3 x1 2 _
    · exact row_eq i arg3 harg3 x1 3 _
    · exact row_eq i arg3 harg3 x1 4 _
    · exact row_eq i arg3 harg3 x1 5 _
    · exact row_eq i arg3 harg3 x1 6 _
    · exact row_eq i arg3 harg3 x1 7 _
  · rw [View.readCov_unit_zero (S := S1024x128) _ hz, View.readCov_unit_zero (S := S1024x2048) _ hz, whole_eq arg2 harg2 x0 hz, cutW_eq arg4 harg4 x2 3 768 rfl, cutS_eq arg5 harg5 x3 3 768 rfl, cutW_eq arg6 harg6 x4 3 768 rfl, cutS_eq arg7 harg7 x5 3 768 rfl]
    unfold part
    show chunk _ _ _ _ _ _ = chunk _ _ _ _ _ _
    refine congrArg (fun v => chunk (k0_pay3 x0) v (cutW x2 3) (cutS x3 3) (cutW x4 3) (cutS x5 3)) ?_
    unfold col
    congr 2
    · exact row_eq i arg3 harg3 x1 0 _
    · exact row_eq i arg3 harg3 x1 1 _
    · exact row_eq i arg3 harg3 x1 2 _
    · exact row_eq i arg3 harg3 x1 3 _
    · exact row_eq i arg3 harg3 x1 4 _
    · exact row_eq i arg3 harg3 x1 5 _
    · exact row_eq i arg3 harg3 x1 6 _
    · exact row_eq i arg3 harg3 x1 7 _
  · rw [View.readCov_unit_zero (S := S1024x128) _ hz, View.readCov_unit_zero (S := S1024x2048) _ hz, whole_eq arg2 harg2 x0 hz, cutW_eq arg4 harg4 x2 4 1024 rfl, cutS_eq arg5 harg5 x3 4 1024 rfl, cutW_eq arg6 harg6 x4 4 1024 rfl, cutS_eq arg7 harg7 x5 4 1024 rfl]
    unfold part
    show chunk _ _ _ _ _ _ = chunk _ _ _ _ _ _
    refine congrArg (fun v => chunk (k0_pay3 x0) v (cutW x2 4) (cutS x3 4) (cutW x4 4) (cutS x5 4)) ?_
    unfold col
    congr 2
    · exact row_eq i arg3 harg3 x1 0 _
    · exact row_eq i arg3 harg3 x1 1 _
    · exact row_eq i arg3 harg3 x1 2 _
    · exact row_eq i arg3 harg3 x1 3 _
    · exact row_eq i arg3 harg3 x1 4 _
    · exact row_eq i arg3 harg3 x1 5 _
    · exact row_eq i arg3 harg3 x1 6 _
    · exact row_eq i arg3 harg3 x1 7 _
  · rw [View.readCov_unit_zero (S := S1024x128) _ hz, View.readCov_unit_zero (S := S1024x2048) _ hz, whole_eq arg2 harg2 x0 hz, cutW_eq arg4 harg4 x2 5 1280 rfl, cutS_eq arg5 harg5 x3 5 1280 rfl, cutW_eq arg6 harg6 x4 5 1280 rfl, cutS_eq arg7 harg7 x5 5 1280 rfl]
    unfold part
    show chunk _ _ _ _ _ _ = chunk _ _ _ _ _ _
    refine congrArg (fun v => chunk (k0_pay3 x0) v (cutW x2 5) (cutS x3 5) (cutW x4 5) (cutS x5 5)) ?_
    unfold col
    congr 2
    · exact row_eq i arg3 harg3 x1 0 _
    · exact row_eq i arg3 harg3 x1 1 _
    · exact row_eq i arg3 harg3 x1 2 _
    · exact row_eq i arg3 harg3 x1 3 _
    · exact row_eq i arg3 harg3 x1 4 _
    · exact row_eq i arg3 harg3 x1 5 _
    · exact row_eq i arg3 harg3 x1 6 _
    · exact row_eq i arg3 harg3 x1 7 _

/-- The kept left operand. -/
theorem lhs_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = k0_pay3 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_unit_zero (S := S1024x2048) hz, whole_eq arg2 harg2 x0 hz]

/-- The kept column block. -/
theorem col_A (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = col x1 (i 0).val (coord_lt i) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_unit_zero (S := S1024x128) hz]
  unfold col
  congr 2
  · exact row_eq i arg3 harg3 x1 0 _
  · exact row_eq i arg3 harg3 x1 1 _
  · exact row_eq i arg3 harg3 x1 2 _
  · exact row_eq i arg3 harg3 x1 3 _
  · exact row_eq i arg3 harg3 x1 4 _
  · exact row_eq i arg3 harg3 x1 5 _
  · exact row_eq i arg3 harg3 x1 6 _
  · exact row_eq i arg3 harg3 x1 7 _

/-- The running maximum. -/
theorem max_A (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 = grown (k0_pay44 (F := Ideal)) (part x2 x3 x4 x5 (k0_pay3 x0) (col x1 (i 0).val (coord_lt i))) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x128) hz, View.readCov_unit_zero (S := S1024x128) arg12.view hz, View.readCov_unit_zero (S := S1024x128) arg11.view hz, View.readCov_unit_zero (S := S1024x2048) _ hz, whole_eq arg2 harg2 x0 hz, cutW_eq arg4 harg4 x2 0 0 rfl, cutS_eq arg5 harg5 x3 0 0 rfl, cutW_eq arg6 harg6 x4 0 0 rfl, cutS_eq arg7 harg7 x5 0 0 rfl, cutW_eq arg4 harg4 x2 1 256 rfl, cutS_eq arg5 harg5 x3 1 256 rfl, cutW_eq arg6 harg6 x4 1 256 rfl, cutS_eq arg7 harg7 x5 1 256 rfl, cutW_eq arg4 harg4 x2 2 512 rfl, cutS_eq arg5 harg5 x3 2 512 rfl, cutW_eq arg6 harg6 x4 2 512 rfl, cutS_eq arg7 harg7 x5 2 512 rfl, cutW_eq arg4 harg4 x2 3 768 rfl, cutS_eq arg5 harg5 x3 3 768 rfl, cutW_eq arg6 harg6 x4 3 768 rfl, cutS_eq arg7 harg7 x5 3 768 rfl, cutW_eq arg4 harg4 x2 4 1024 rfl, cutS_eq arg5 harg5 x3 4 1024 rfl, cutW_eq arg6 harg6 x4 4 1024 rfl, cutS_eq arg7 harg7 x5 4 1024 rfl, cutW_eq arg4 harg4 x2 5 1280 rfl, cutS_eq arg5 harg5 x3 5 1280 rfl, cutW_eq arg6 harg6 x4 5 1280 rfl, cutS_eq arg7 harg7 x5 5 1280 rfl]
  generalize hv : k0_pay43 (F := Ideal) _ _ _ _ _ _ _ _ = v
  have hc : v = col x1 (i 0).val (coord_lt i) := by
    rw [← hv]
    unfold col
    congr 2
    · exact row_eq i arg3 harg3 x1 0 _
    · exact row_eq i arg3 harg3 x1 1 _
    · exact row_eq i arg3 harg3 x1 2 _
    · exact row_eq i arg3 harg3 x1 3 _
    · exact row_eq i arg3 harg3 x1 4 _
    · exact row_eq i arg3 harg3 x1 5 _
    · exact row_eq i arg3 harg3 x1 6 _
    · exact row_eq i arg3 harg3 x1 7 _
  clear hv
  subst hc
  generalize col x1 (i 0).val (coord_lt i) = v
  generalize k0_pay3 x0 = l
  generalize k0_pay44 (F := Ideal) = n
  exact grown_pay l v n (cutW x2) (cutW x4) (cutS x3) (cutS x5)

end Cert.UpBlock

end
-- ==== Proof.UpBlockB.lean ====
/-
  What a middle point of a row block leaves, in terms of the blocks it is given.
-/
module

public import proofs.«01_k».proof.Proof.UpBlock

@[expose] public section

set_option maxRecDepth 16384

noncomputable section

namespace Cert.UpBlock

open Cert.UpIdeal Cert.UpIdeal.Gen Cert.UpIdeal.Run Idealize.ShloMosaic Idealize.ShloMosaic.TcCoe Idealize.SL.Sem
open Cert.UpPure.K

variable (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole)
variable (x0 : Vec Ideal S1024x2048 .i8) (x1 : Vec Ideal S128x128 .f32) (x2 : Vec Ideal S2048x1536 .i8) (x3 : Vec Ideal S1x1536 .f32) (x4 : Vec Ideal S2048x1536 .i8) (x5 : Vec Ideal S1x1536 .f32)

/-- The activation block. -/
theorem act_B (hc0 : ¬cond0_0 i) (hc1 : ¬cond0_1 i) (xs0 : Vec Ideal S1024x2048 .bf16) (xs1 : Vec Ideal S1024x128 .f32) (xs2 : Vec Ideal S1024x128 .f32) (y : S1024x1536.Idx) :
    out0_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = part x2 x3 x4 x5 xs0 xs1 ⟨(y 1).val / 256, Tiles.tile_lt y⟩ (Tiles.inner y) := by
  unfold out0_B_6 kernelRun0_B
  dsimp only
  sl_unfold_words
  refine Tiles.six_tiles VO0_6 _ (part x2 x3 x4 x5 xs0 xs1) ?_ ?_ ?_ ?_ ?_ ?_ y
  · rw [whole_eq arg10 harg10 xs0 hz, whole_eq arg11 harg11 xs1 hz, cutW_eq arg4 harg4 x2 0 0 rfl, cutS_eq arg5 harg5 x3 0 0 rfl, cutW_eq arg6 harg6 x4 0 0 rfl, cutS_eq arg7 harg7 x5 0 0 rfl]
    rfl
  · rw [whole_eq arg10 harg10 xs0 hz, whole_eq arg11 harg11 xs1 hz, cutW_eq arg4 harg4 x2 1 256 rfl, cutS_eq arg5 harg5 x3 1 256 rfl, cutW_eq arg6 harg6 x4 1 256 rfl, cutS_eq arg7 harg7 x5 1 256 rfl]
    rfl
  · rw [whole_eq arg10 harg10 xs0 hz, whole_eq arg11 harg11 xs1 hz, cutW_eq arg4 harg4 x2 2 512 rfl, cutS_eq arg5 harg5 x3 2 512 rfl, cutW_eq arg6 harg6 x4 2 512 rfl, cutS_eq arg7 harg7 x5 2 512 rfl]
    rfl
  · rw [whole_eq arg10 harg10 xs0 hz, whole_eq arg11 harg11 xs1 hz, cutW_eq arg4 harg4 x2 3 768 rfl, cutS_eq arg5 harg5 x3 3 768 rfl, cutW_eq arg6 harg6 x4 3 768 rfl, cutS_eq arg7 harg7 x5 3 768 rfl]
    rfl
  · rw [whole_eq arg10 harg10 xs0 hz, whole_eq arg11 harg11 xs1 hz, cutW_eq arg4 harg4 x2 4 1024 rfl, cutS_eq arg5 harg5 x3 4 1024 rfl, cutW_eq arg6 harg6 x4 4 1024 rfl, cutS_eq arg7 harg7 x5 4 1024 rfl]
    rfl
  · rw [whole_eq arg10 harg10 xs0 hz, whole_eq arg11 harg11 xs1 hz, cutW_eq arg4 harg4 x2 5 1280 rfl, cutS_eq arg5 harg5 x3 5 1280 rfl, cutW_eq arg6 harg6 x4 5 1280 rfl, cutS_eq arg7 harg7 x5 5 1280 rfl]
    rfl

theorem lhs_B (hc0 : ¬cond0_0 i) (hc1 : ¬cond0_1 i) (xs0 : Vec Ideal S1024x2048 .bf16) (xs1 : Vec Ideal S1024x128 .f32) (xs2 : Vec Ideal S1024x128 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = xs0 := rfl

theorem col_B (hc0 : ¬cond0_0 i) (hc1 : ¬cond0_1 i) (xs0 : Vec Ideal S1024x2048 .bf16) (xs1 : Vec Ideal S1024x128 .f32) (xs2 : Vec Ideal S1024x128 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = xs1 := rfl

/-- The running maximum. -/
theorem max_B (hc0 : ¬cond0_0 i) (hc1 : ¬cond0_1 i) (xs0 : Vec Ideal S1024x2048 .bf16) (xs1 : Vec Ideal S1024x128 .f32) (xs2 : Vec Ideal S1024x128 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = grown xs2 (part x2 x3 x4 x5 xs0 xs1) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_B
  dsimp only
  sl_unfold_words
  rw [View.canon_unit_zero (S := S1024x128) hz, whole_eq arg10 harg10 xs0 hz, whole_eq arg11 harg11 xs1 hz, whole_eq arg12 harg12 xs2 hz, cutW_eq arg4 harg4 x2 0 0 rfl, cutS_eq arg5 harg5 x3 0 0 rfl, cutW_eq arg6 harg6 x4 0 0 rfl, cutS_eq arg7 harg7 x5 0 0 rfl, cutW_eq arg4 harg4 x2 1 256 rfl, cutS_eq arg5 harg5 x3 1 256 rfl, cutW_eq arg6 harg6 x4 1 256 rfl, cutS_eq arg7 harg7 x5 1 256 rfl, cutW_eq arg4 harg4 x2 2 512 rfl, cutS_eq arg5 harg5 x3 2 512 rfl, cutW_eq arg6 harg6 x4 2 512 rfl, cutS_eq arg7 harg7 x5 2 512 rfl, cutW_eq arg4 harg4 x2 3 768 rfl, cutS_eq arg5 harg5 x3 3 768 rfl, cutW_eq arg6 harg6 x4 3 768 rfl, cutS_eq arg7 harg7 x5 3 768 rfl, cutW_eq arg4 harg4 x2 4 1024 rfl, cutS_eq arg5 harg5 x3 4 1024 rfl, cutW_eq arg6 harg6 x4 4 1024 rfl, cutS_eq arg7 harg7 x5 4 1024 rfl, cutW_eq arg4 harg4 x2 5 1280 rfl, cutS_eq arg5 harg5 x3 5 1280 rfl, cutW_eq arg6 harg6 x4 5 1280 rfl, cutS_eq arg7 harg7 x5 5 1280 rfl]
  exact grown_pay xs0 xs1 xs2 (cutW x2) (cutW x4) (cutS x3) (cutS x5)

end Cert.UpBlock

end
-- ==== Proof.UpBlockC.lean ====
/-
  What the last point of a row block leaves, in terms of the blocks it is given.
-/
module

public import proofs.«01_k».proof.Proof.UpBlock

@[expose] public section

set_option maxRecDepth 16384

noncomputable section

namespace Cert.UpBlock

open Cert.UpIdeal Cert.UpIdeal.Gen Cert.UpIdeal.Run Idealize.ShloMosaic Idealize.ShloMosaic.TcCoe Idealize.SL.Sem
open Cert.UpPure.K

variable (c : Dev nD) (i : grid0.Coords) (arg2 : Memref sig .tc .vmem S1024x2048 .i8) (harg2 : arg2.IsWhole) (arg3 : Memref sig .tc .vmem S128x128 .f32) (harg3 : arg3.IsWhole) (arg4 : Memref sig .tc .vmem S2048x1536 .i8) (harg4 : arg4.IsWhole) (arg5 : Memref sig .tc .vmem S1x1536 .f32) (harg5 : arg5.IsWhole) (arg6 : Memref sig .tc .vmem S2048x1536 .i8) (harg6 : arg6.IsWhole) (arg7 : Memref sig .tc .vmem S1x1536 .f32) (harg7 : arg7.IsWhole) (arg8 : Memref sig .tc .vmem S1024x1536 .f32) (harg8 : arg8.IsWhole) (arg9 : Memref sig .tc .vmem S128x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole)
variable (x0 : Vec Ideal S1024x2048 .i8) (x1 : Vec Ideal S128x128 .f32) (x2 : Vec Ideal S2048x1536 .i8) (x3 : Vec Ideal S1x1536 .f32) (x4 : Vec Ideal S2048x1536 .i8) (x5 : Vec Ideal S1x1536 .f32)

/-- The activation block. -/
theorem act_C (hc0 : ¬cond0_0 i) (hc1 : cond0_1 i) (xs0 : Vec Ideal S1024x2048 .bf16) (xs1 : Vec Ideal S1024x128 .f32) (xs2 : Vec Ideal S1024x128 .f32) (y : S1024x1536.Idx) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = part x2 x3 x4 x5 xs0 xs1 ⟨(y 1).val / 256, Tiles.tile_lt y⟩ (Tiles.inner y) := by
  unfold out0_C_6 kernelRun0_C
  dsimp only
  sl_unfold_words
  refine Tiles.six_tiles VO0_6 _ (part x2 x3 x4 x5 xs0 xs1) ?_ ?_ ?_ ?_ ?_ ?_ y
  · rw [whole_eq arg10 harg10 xs0 hz, whole_eq arg11 harg11 xs1 hz, cutW_eq arg4 harg4 x2 0 0 rfl, cutS_eq arg5 harg5 x3 0 0 rfl, cutW_eq arg6 harg6 x4 0 0 rfl, cutS_eq arg7 harg7 x5 0 0 rfl]
    rfl
  · rw [whole_eq arg10 harg10 xs0 hz, whole_eq arg11 harg11 xs1 hz, cutW_eq arg4 harg4 x2 1 256 rfl, cutS_eq arg5 harg5 x3 1 256 rfl, cutW_eq arg6 harg6 x4 1 256 rfl, cutS_eq arg7 harg7 x5 1 256 rfl]
    rfl
  · rw [whole_eq arg10 harg10 xs0 hz, whole_eq arg11 harg11 xs1 hz, cutW_eq arg4 harg4 x2 2 512 rfl, cutS_eq arg5 harg5 x3 2 512 rfl, cutW_eq arg6 harg6 x4 2 512 rfl, cutS_eq arg7 harg7 x5 2 512 rfl]
    rfl
  · rw [whole_eq arg10 harg10 xs0 hz, whole_eq arg11 harg11 xs1 hz, cutW_eq arg4 harg4 x2 3 768 rfl, cutS_eq arg5 harg5 x3 3 768 rfl, cutW_eq arg6 harg6 x4 3 768 rfl, cutS_eq arg7 harg7 x5 3 768 rfl]
    rfl
  · rw [whole_eq arg10 harg10 xs0 hz, whole_eq arg11 harg11 xs1 hz, cutW_eq arg4 harg4 x2 4 1024 rfl, cutS_eq arg5 harg5 x3 4 1024 rfl, cutW_eq arg6 harg6 x4 4 1024 rfl, cutS_eq arg7 harg7 x5 4 1024 rfl]
    rfl
  · rw [whole_eq arg10 harg10 xs0 hz, whole_eq arg11 harg11 xs1 hz, cutW_eq arg4 harg4 x2 5 1280 rfl, cutS_eq arg5 harg5 x3 5 1280 rfl, cutW_eq arg6 harg6 x4 5 1280 rfl, cutS_eq arg7 harg7 x5 5 1280 rfl]
    rfl

theorem lhs_C (hc0 : ¬cond0_0 i) (hc1 : cond0_1 i) (xs0 : Vec Ideal S1024x2048 .bf16) (xs1 : Vec Ideal S1024x128 .f32) (xs2 : Vec Ideal S1024x128 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = xs0 := rfl

theorem col_C (hc0 : ¬cond0_0 i) (hc1 : cond0_1 i) (xs0 : Vec Ideal S1024x2048 .bf16) (xs1 : Vec Ideal S1024x128 .f32) (xs2 : Vec Ideal S1024x128 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = xs1 := rfl

/-- The running maximum. -/
theorem max_C (hc0 : ¬cond0_0 i) (hc1 : cond0_1 i) (xs0 : Vec Ideal S1024x2048 .bf16) (xs1 : Vec Ideal S1024x128 .f32) (xs2 : Vec Ideal S1024x128 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = grown xs2 (part x2 x3 x4 x5 xs0 xs1) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_C
  dsimp only
  sl_unfold_words
  rw [View.canon_unit_zero (S := S1024x128) hz, whole_eq arg10 harg10 xs0 hz, whole_eq arg11 harg11 xs1 hz, whole_eq arg12 harg12 xs2 hz, cutW_eq arg4 harg4 x2 0 0 rfl, cutS_eq arg5 harg5 x3 0 0 rfl, cutW_eq arg6 harg6 x4 0 0 rfl, cutS_eq arg7 harg7 x5 0 0 rfl, cutW_eq arg4 harg4 x2 1 256 rfl, cutS_eq arg5 harg5 x3 1 256 rfl, cutW_eq arg6 harg6 x4 1 256 rfl, cutS_eq arg7 harg7 x5 1 256 rfl, cutW_eq arg4 harg4 x2 2 512 rfl, cutS_eq arg5 harg5 x3 2 512 rfl, cutW_eq arg6 harg6 x4 2 512 rfl, cutS_eq arg7 harg7 x5 2 512 rfl, cutW_eq arg4 harg4 x2 3 768 rfl, cutS_eq arg5 harg5 x3 3 768 rfl, cutW_eq arg6 harg6 x4 3 768 rfl, cutS_eq arg7 harg7 x5 3 768 rfl, cutW_eq arg4 harg4 x2 4 1024 rfl, cutS_eq arg5 harg5 x3 4 1024 rfl, cutW_eq arg6 harg6 x4 4 1024 rfl, cutS_eq arg7 harg7 x5 4 1024 rfl, cutW_eq arg4 harg4 x2 5 1280 rfl, cutS_eq arg5 harg5 x3 5 1280 rfl, cutW_eq arg6 harg6 x4 5 1280 rfl, cutS_eq arg7 harg7 x5 5 1280 rfl]
  exact grown_pay xs0 xs1 xs2 (cutW x2) (cutW x4) (cutS x3) (cutS x5)

/-- The scales of the row block. -/
theorem scales_C (hc0 : ¬cond0_0 i) (hc1 : cond0_1 i) (xs0 : Vec Ideal S1024x2048 .bf16) (xs1 : Vec Ideal S1024x128 .f32) (xs2 : Vec Ideal S1024x128 .f32) (y : S128x128.Idx) (h : 8 * (i 0).val ≤ (y 0).val ∧ (y 0).val < 8 * (i 0).val + 8) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y
      = scaleRow (grown xs2 (part x2 x3 x4 x5 xs0 xs1)) ⟨(y 0).val - 8 * (i 0).val, by omega⟩ (ix2 0 (y 1)) := by
  unfold out0_C_7 kernelRun0_C
  dsimp only
  sl_unfold_words
  refine (Cert.Rows.eight_rows_list VO0_7 _ (8 * (i 0).val) (k0_off2_eq i 0) (k0_off2_eq i 1) (k0_off2_eq i 2) (k0_off2_eq i 3) (k0_off2_eq i 4) (k0_off2_eq i 5) (k0_off2_eq i 6) (k0_off2_eq i 7) y).trans ?_
  rw [dif_pos h]
  rw [View.readCov_unit_zero (S := S1024x128) arg12.view hz, whole_eq arg10 harg10 xs0 hz, whole_eq arg11 harg11 xs1 hz, whole_eq arg12 harg12 xs2 hz, cutW_eq arg4 harg4 x2 0 0 rfl, cutS_eq arg5 harg5 x3 0 0 rfl, cutW_eq arg6 harg6 x4 0 0 rfl, cutS_eq arg7 harg7 x5 0 0 rfl, cutW_eq arg4 harg4 x2 1 256 rfl, cutS_eq arg5 harg5 x3 1 256 rfl, cutW_eq arg6 harg6 x4 1 256 rfl, cutS_eq arg7 harg7 x5 1 256 rfl, cutW_eq arg4 harg4 x2 2 512 rfl, cutS_eq arg5 harg5 x3 2 512 rfl, cutW_eq arg6 harg6 x4 2 512 rfl, cutS_eq arg7 harg7 x5 2 512 rfl, cutW_eq arg4 harg4 x2 3 768 rfl, cutS_eq arg5 harg5 x3 3 768 rfl, cutW_eq arg6 harg6 x4 3 768 rfl, cutS_eq arg7 harg7 x5 3 768 rfl, cutW_eq arg4 harg4 x2 4 1024 rfl, cutS_eq arg5 harg5 x3 4 1024 rfl, cutW_eq arg6 harg6 x4 4 1024 rfl, cutS_eq arg7 harg7 x5 4 1024 rfl, cutW_eq arg4 harg4 x2 5 1280 rfl, cutS_eq arg5 harg5 x3 5 1280 rfl, cutW_eq arg6 harg6 x4 5 1280 rfl, cutS_eq arg7 harg7 x5 5 1280 rfl]
  rw [grown_pay xs0 xs1 xs2 (cutW x2) (cutW x4) (cutS x3) (cutS x5)]
  rfl

end Cert.UpBlock

end
-- ==== Proof.UpArray.lean ====
/-
  The arrays the gate-and-up call ends with. Every activation is `gated` of the two scaled sums of products; every row's
  scale is that of the largest magnitude of its 10752 activations.
-/
module

public import proofs.«01_k».proof.Proof.UpBlockA
public import proofs.«01_k».proof.Proof.UpBlockB
public import proofs.«01_k».proof.Proof.UpBlockC
public import proofs.«01_k».proof.Proof.UpIdealFrame

@[expose] public section

set_option maxRecDepth 16384

noncomputable section

namespace Cert.UpArray

open Cert.UpIdeal Cert.UpIdeal.Gen Cert.UpIdeal.Run Idealize.ShloMosaic Idealize.ShloMosaic.TcCoe Idealize.SL.Sem
open Idealize.ShloMosaic.Pipeline (Dat)
open Cert.DownPure (num)
open Cert.UpPure (gated scaleOf)

variable (m : (ℓ : Loc nD τ sig) → Buf (Elt Ideal) ℓ) (c : Dev nD)

/-! ## The mathematics over whole arrays -/

/-- The scale of matrix row `r`: lane `r % 128` of statistics row `r / 128`. -/
def rowScale (sc : Vec Ideal S128x128 .f32) (r : Fin 16384) : EReal :=
  sc (ix2 ⟨r.val / 128, by omega⟩ ⟨r.val % 128, Nat.mod_lt _ (by decide)⟩)

/-- The product of row `r` of the codes and column `n` of the weights, under the row's and the column's scale. -/
def dotAt (x : Vec Ideal S16384x2048 .i8) (sc : Vec Ideal S128x128 .f32) (w : Vec Ideal S2048x10752 .i8) (s : Vec Ideal S10752 .f32)
    (r : Fin 16384) (n : Fin 10752) : EReal :=
  (∑ k : Fin 2048, num (x (ix2 r k)) * num (w (ix2 k n))) * (rowScale sc r * s (ix1 n))

/-- The activation `(r, n)`. -/
def actAt (x : Vec Ideal S16384x2048 .i8) (sc : Vec Ideal S128x128 .f32) (wg : Vec Ideal S2048x10752 .i8) (sg : Vec Ideal S10752 .f32)
    (wu : Vec Ideal S2048x10752 .i8) (su : Vec Ideal S10752 .f32) (r : Fin 16384) (n : Fin 10752) : EReal :=
  gated (dotAt x sc wg sg r n) (dotAt x sc wu su r n)

/-- The scale of row `r` of an array of activations. -/
def scaleAt (a : Fin 16384 → Fin 10752 → EReal) (r : Fin 16384) : EReal :=
  scaleOf (UpPure.R.rowMax (fun j : S16384x10752.Idx => a (j 0) (j 1)) (ix1 r))

/-! ## The blocks a point reads -/

abbrev xA : Vec Ideal S16384x2048 .i8 := m ((c : Thread nD τ).loc main_arg0)
abbrev scA : Vec Ideal S128x128 .f32 := m ((c : Thread nD τ).loc main_arg1)
abbrev wgA : Vec Ideal S2048x10752 .i8 := m ((c : Thread nD τ).loc main_arg2)
abbrev sgA : Vec Ideal S10752 .f32 := m ((c : Thread nD τ).loc main_arg3)
abbrev wuA : Vec Ideal S2048x10752 .i8 := m ((c : Thread nD τ).loc main_arg4)
abbrev suA : Vec Ideal S10752 .f32 := m ((c : Thread nD τ).loc main_arg5)

/-- The activations of the call's arguments. -/
abbrev actM (r : Fin 16384) (n : Fin 10752) : EReal := actAt (xA m c) (scA m c) (wgA m c) (sgA m c) (wuA m c) (suA m c) r n

theorem N112 : cfg0.N = 112 := N_0

/-- The matrix row of row `r` of the block point `n` works on. -/
def row (n : Nat) (hn : n < cfg0.N) (r : Fin 1024) : Fin 16384 :=
  ⟨1024 * (n / 7) + r.val, by have h := lt_of_lt_of_eq hn N112; omega⟩

/-- The matrix column of column `k` of that block. -/
def ncol (n : Nat) (k : Fin 1536) : Fin 10752 := ⟨1536 * (n % 7) + k.val, by omega⟩

theorem idx0 : ∀ t : Fin cfg0.N, win0_0.index t (0 : Fin 2) = t.val / 7 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 7 :=
  (by decide +kernel : ∀ t : Fin grid0.N, _)
theorem idx3 : ∀ t : Fin cfg0.N, win0_3.index t (0 : Fin 2) = 0 ∧ win0_3.index t (1 : Fin 2) = t.val % 7 :=
  (by decide +kernel : ∀ t : Fin grid0.N, _)
theorem idx4 : ∀ t : Fin cfg0.N, win0_4.index t (0 : Fin 2) = 0 ∧ win0_4.index t (1 : Fin 2) = t.val % 7 :=
  (by decide +kernel : ∀ t : Fin grid0.N, _)
theorem idx5 : ∀ t : Fin cfg0.N, win0_5.index t (0 : Fin 2) = 0 ∧ win0_5.index t (1 : Fin 2) = t.val % 7 :=
  (by decide +kernel : ∀ t : Fin grid0.N, _)
theorem idx6 : ∀ t : Fin cfg0.N, win0_6.index t (0 : Fin 2) = t.val / 7 ∧ win0_6.index t (1 : Fin 2) = t.val % 7 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem blk0 (t : Fin cfg0.N) (r : Fin 1024) (k : Fin 2048) :
    (iblk m c 0 t : Vec Ideal S1024x2048 .i8) (ix2 r k) = xA m c (ix2 (row t.val t.isLt r) k) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 7) + r.val; rw [e0]; omega
  | ⟨1, _⟩ => show win0_0.index t 1 * 2048 + 1 * k.val = k.val; rw [e1]; omega

theorem blk1 (t : Fin cfg0.N) : (iblk m c 1 t : Vec Ideal S128x128 .f32) = scA m c := by
  obtain ⟨e0, e1⟩ := idx1 t
  funext i
  unfold iblk
  rw [View.read_apply]
  show V m c main_arg1 _ = _
  rw [V_main_arg1]
  congr 1
  funext a
  apply Fin.ext
  match a with
  | ⟨0, _⟩ => show win0_1.index t 0 * 128 + 1 * (i 0).val = (i 0).val; rw [e0]; omega
  | ⟨1, _⟩ => show win0_1.index t 1 * 128 + 1 * (i 1).val = (i 1).val; rw [e1]; omega

theorem blk2 (t : Fin cfg0.N) (k : Fin 2048) (n : Fin 1536) :
    (iblk m c 2 t : Vec Ideal S2048x1536 .i8) (ix2 k n) = wgA m c (ix2 k (ncol t.val n)) := by
  obtain ⟨e0, e1⟩ := idx2 t
  unfold iblk
  rw [View.read_apply]
  show V m c main_arg2 _ = _
  rw [V_main_arg2]
  congr 1
  funext a
  apply Fin.ext
  match a with
  | ⟨0, _⟩ => show win0_2.index t 0 * 2048 + 1 * k.val = k.val; rw [e0]; omega
  | ⟨1, _⟩ => show win0_2.index t 1 * 1536 + 1 * n.val = 1536 * (t.val % 7) + n.val; rw [e1]; omega

theorem blk4 (t : Fin cfg0.N) (k : Fin 2048) (n : Fin 1536) :
    (iblk m c 4 t : Vec Ideal S2048x1536 .i8) (ix2 k n) = wuA m c (ix2 k (ncol t.val n)) := by
  obtain ⟨e0, e1⟩ := idx4 t
  unfold iblk
  rw [View.read_apply]
  show V m c main_arg4 _ = _
  rw [V_main_arg4]
  congr 1
  funext a
  apply Fin.ext
  match a with
  | ⟨0, _⟩ => show win0_4.index t 0 * 2048 + 1 * k.val = k.val; rw [e0]; omega
  | ⟨1, _⟩ => show win0_4.index t 1 * 1536 + 1 * n.val = 1536 * (t.val % 7) + n.val; rw [e1]; omega

theorem V_v0 (n : Fin 10752) : (V m c main_v0 : Vec Ideal S1x10752 .f32) (ix2 0 n) = sgA m c (ix1 n) := by
  entry_read
  pointwise

theorem blk3 (t : Fin cfg0.N) (n : Fin 1536) :
    (iblk m c 3 t : Vec Ideal S1x1536 .f32) (ix2 0 n) = sgA m c (ix1 (ncol t.val n)) := by
  obtain ⟨e0, e1⟩ := idx3 t
  rw [← V_v0 m c (ncol t.val n)]
  unfold iblk
  rw [View.read_apply]
  show V m c main_v0 _ = _
  congr 1
  funext a
  apply Fin.ext
  match a with
  | ⟨0, _⟩ => show win0_3.index t 0 * 1 + 1 * 0 = 0; rw [e0]
  | ⟨1, _⟩ => show win0_3.index t 1 * 1536 + 1 * n.val = 1536 * (t.val % 7) + n.val; rw [e1]; omega

theorem V_v1 (n : Fin 10752) : (V m c main_v1 : Vec Ideal S1x10752 .f32) (ix2 0 n) = suA m c (ix1 n) := by
  entry_read
  pointwise

theorem blk5 (t : Fin cfg0.N) (n : Fin 1536) :
    (iblk m c 5 t : Vec Ideal S1x1536 .f32) (ix2 0 n) = suA m c (ix1 (ncol t.val n)) := by
  obtain ⟨e0, e1⟩ := idx5 t
  rw [← V_v1 m c (ncol t.val n)]
  unfold iblk
  rw [View.read_apply]
  show V m c main_v1 _ = _
  congr 1
  funext a
  apply Fin.ext
  match a with
  | ⟨0, _⟩ => show win0_5.index t 0 * 1 + 1 * 0 = 0; rw [e0]
  | ⟨1, _⟩ => show win0_5.index t 1 * 1536 + 1 * n.val = 1536 * (t.val % 7) + n.val; rw [e1]; omega

/-! ## The kept codes and scales of a row block -/

theorem lhs_entry (x : Vec Ideal S1024x2048 .i8) (r : Fin 1024) (k : Fin 2048) : k0_pay3 x (ix2 r k) = num (x (ix2 r k)) := by
  unfold k0_pay3
  rw [shapeCast_self]
  rfl

theorem col_row (b : Nat) (hb : b < 16) (sc : Vec Ideal S128x128 .f32) (r : Fin 1024) (l : Fin 128) :
    UpBlock.col sc b hb (ix2 r l) = rowScale sc ⟨1024 * b + r.val, by omega⟩ := by
  unfold UpBlock.col
  rw [UpPure.K.col_apply]
  have key : ∀ q : Fin 8, (![UpBlock.statRow sc (8 * b + 0) (by omega), UpBlock.statRow sc (8 * b + 1) (by omega), UpBlock.statRow sc (8 * b + 2) (by omega), UpBlock.statRow sc (8 * b + 3) (by omega), UpBlock.statRow sc (8 * b + 4) (by omega), UpBlock.statRow sc (8 * b + 5) (by omega), UpBlock.statRow sc (8 * b + 6) (by omega), UpBlock.statRow sc (8 * b + 7) (by omega)] : Fin 8 → Vec Ideal S1x128 .f32) q
      = UpBlock.statRow sc (8 * b + q.val) (by omega) := by
    intro q; fin_cases q <;> rfl
  rw [key]
  unfold UpBlock.statRow rowScale
  congr 1
  funext a
  apply Fin.ext
  match a with
  | ⟨0, _⟩ => show 8 * b + r.val / 128 = (1024 * b + r.val) / 128; omega
  | ⟨1, _⟩ => show r.val % 128 = (1024 * b + r.val) % 128; omega

theorem row_coord (t : Fin cfg0.N) (r : Fin 1024) (h : 1024 * (grid0.coords t 0).val + r.val < 16384) :
    (⟨1024 * (grid0.coords t 0).val + r.val, h⟩ : Fin 16384) = row t.val t.isLt r :=
  Fin.ext (congrArg (fun b => 1024 * b + r.val) (coord0 t))

theorem row_pred (t : Fin cfg0.N) (h : ¬t.val % 7 = 0) (h' : t.val - 1 < cfg0.N) (r : Fin 1024) :
    row (t.val - 1) h' r = row t.val t.isLt r :=
  Fin.ext (congrArg (fun b => 1024 * b + r.val) (by omega : (t.val - 1) / 7 = t.val / 7))

/-- The point before `t` is a point. -/
theorem pred_lt (t : Fin cfg0.N) : t.val - 1 < cfg0.N := Nat.lt_of_le_of_lt (Nat.sub_le _ _) t.isLt

theorem first_lhs (t : Fin cfg0.N) (h : t.val % 7 = 0) : (outsAt0 m c t.val t.isLt).2.1 = k0_pay3 (iblk m c 0 t) := by
  rw [outsAt0_A m c t h (by omega)]
  dsimp only
  rw [UpBlock.lhs_A]

theorem first_col (t : Fin cfg0.N) (h : t.val % 7 = 0) :
    (outsAt0 m c t.val t.isLt).2.2.1 = UpBlock.col (iblk m c 1 t) (grid0.coords t 0).val (UpBlock.coord_lt _) := by
  rw [outsAt0_A m c t h (by omega)]
  dsimp only
  rw [UpBlock.col_A]

theorem later_lhs (t : Fin cfg0.N) (h : ¬t.val % 7 = 0) :
    (outsAt0 m c t.val t.isLt).2.1 = (outsAt0 m c (t.val - 1) (pred_lt t)).2.1 := by
  by_cases h1 : t.val % 7 = 6
  · rw [outsAt0_C m c t h h1]; dsimp only; rw [UpBlock.lhs_C]
  · rw [outsAt0_B m c t h h1]; dsimp only; rw [UpBlock.lhs_B]

theorem later_col (t : Fin cfg0.N) (h : ¬t.val % 7 = 0) :
    (outsAt0 m c t.val t.isLt).2.2.1 = (outsAt0 m c (t.val - 1) (pred_lt t)).2.2.1 := by
  by_cases h1 : t.val % 7 = 6
  · rw [outsAt0_C m c t h h1]; dsimp only; rw [UpBlock.col_C]
  · rw [outsAt0_B m c t h h1]; dsimp only; rw [UpBlock.col_B]

theorem lhs_at (n : Nat) : ∀ (hn : n < cfg0.N) (r : Fin 1024) (k : Fin 2048),
    (outsAt0 m c n hn).2.1 (ix2 r k) = num (xA m c (ix2 (row n hn r) k)) := by
  induction n with
  | zero =>
    intro hn r k
    rw [first_lhs m c ⟨0, hn⟩ rfl, lhs_entry, blk0]
  | succ n ih =>
    intro hn r k
    by_cases h : (n + 1) % 7 = 0
    · rw [first_lhs m c ⟨n + 1, hn⟩ h, lhs_entry, blk0]
    · rw [later_lhs m c ⟨n + 1, hn⟩ h]
      exact (ih (pred_lt ⟨n + 1, hn⟩) r k).trans (congrArg (fun i => num (xA m c (ix2 i k))) (row_pred ⟨n + 1, hn⟩ h _ r))

theorem col_at (n : Nat) : ∀ (hn : n < cfg0.N) (r : Fin 1024) (l : Fin 128),
    (outsAt0 m c n hn).2.2.1 (ix2 r l) = rowScale (scA m c) (row n hn r) := by
  induction n with
  | zero =>
    intro hn r l
    rw [first_col m c ⟨0, hn⟩ rfl, blk1, col_row, row_coord]
  | succ n ih =>
    intro hn r l
    by_cases h : (n + 1) % 7 = 0
    · rw [first_col m c ⟨n + 1, hn⟩ h, blk1, col_row, row_coord]
    · rw [later_col m c ⟨n + 1, hn⟩ h]
      exact (ih (pred_lt ⟨n + 1, hn⟩) r l).trans (congrArg (rowScale (scA m c)) (row_pred ⟨n + 1, hn⟩ h _ r))

/-! ## The activations a point computes -/

/-- The stretch of activations computed at point `t`, from codes and scales kept since the first point of the row block. -/
theorem part_at (t : Fin cfg0.N) (l : Vec Ideal S1024x2048 .bf16) (v : Vec Ideal S1024x128 .f32)
    (hl : ∀ r k, l (ix2 r k) = num (xA m c (ix2 (row t.val t.isLt r) k)))
    (hv : ∀ r k, v (ix2 r k) = rowScale (scA m c) (row t.val t.isLt r))
    (q : Fin 6) (r : Fin 1024) (n : Fin 256) :
    UpBlock.part (iblk m c 2 t) (iblk m c 3 t) (iblk m c 4 t) (iblk m c 5 t) l v q (ix2 r n)
      = actM m c (row t.val t.isLt r) (ncol t.val ⟨256 * q.val + n.val, by omega⟩) := by
  unfold UpBlock.part
  rw [UpPure.K.chunk_apply]
  have hw2 : ∀ k : Fin 2048, UpBlock.cutW (iblk m c 2 t) q (ix2 k n) = wgA m c (ix2 k (ncol t.val ⟨256 * q.val + n.val, by omega⟩)) :=
    fun k => blk2 m c t k ⟨256 * q.val + n.val, by omega⟩
  have hw4 : ∀ k : Fin 2048, UpBlock.cutW (iblk m c 4 t) q (ix2 k n) = wuA m c (ix2 k (ncol t.val ⟨256 * q.val + n.val, by omega⟩)) :=
    fun k => blk4 m c t k ⟨256 * q.val + n.val, by omega⟩
  have hs3 : UpBlock.cutS (iblk m c 3 t) q (ix2 0 n) = sgA m c (ix1 (ncol t.val ⟨256 * q.val + n.val, by omega⟩)) :=
    blk3 m c t ⟨256 * q.val + n.val, by omega⟩
  have hs5 : UpBlock.cutS (iblk m c 5 t) q (ix2 0 n) = suA m c (ix1 (ncol t.val ⟨256 * q.val + n.val, by omega⟩)) :=
    blk5 m c t ⟨256 * q.val + n.val, by omega⟩
  simp only [hl, hv, hw2, hw4, hs3, hs5]
  rfl

theorem hl_first (t : Fin cfg0.N) (r : Fin 1024) (k : Fin 2048) :
    k0_pay3 (iblk m c 0 t) (ix2 r k) = num (xA m c (ix2 (row t.val t.isLt r) k)) := by
  rw [lhs_entry, blk0]

theorem hv_first (t : Fin cfg0.N) (r : Fin 1024) (l : Fin 128) :
    UpBlock.col (iblk m c 1 t) (grid0.coords t 0).val (UpBlock.coord_lt _) (ix2 r l) = rowScale (scA m c) (row t.val t.isLt r) := by
  rw [blk1, col_row, row_coord]

theorem hl_later (t : Fin cfg0.N) (h : ¬t.val % 7 = 0) (r : Fin 1024) (k : Fin 2048) :
    (outsAt0 m c (t.val - 1) (pred_lt t)).2.1 (ix2 r k) = num (xA m c (ix2 (row t.val t.isLt r) k)) := by
  rw [lhs_at, row_pred t h]

theorem hv_later (t : Fin cfg0.N) (h : ¬t.val % 7 = 0) (r : Fin 1024) (l : Fin 128) :
    (outsAt0 m c (t.val - 1) (pred_lt t)).2.2.1 (ix2 r l) = rowScale (scA m c) (row t.val t.isLt r) := by
  rw [col_at, row_pred t h]

/-- An index of the activation block, from its stretch and its place in the stretch. -/
theorem stretch (t : Fin cfg0.N) (y : S1024x1536.Idx) (h) (h') :
    ncol t.val ⟨256 * ((y 1).val / 256) + (y 1).val % 256, h⟩ = ncol t.val ⟨(y 1).val, h'⟩ :=
  congrArg (ncol t.val) (Fin.ext (Nat.div_add_mod _ _))

theorem act_at (t : Fin cfg0.N) (y : S1024x1536.Idx) :
    (outsAt0 m c t.val t.isLt).1 y = actM m c (row t.val t.isLt (y 0)) (ncol t.val (y 1)) := by
  have key : ∀ (l : Vec Ideal S1024x2048 .bf16) (v : Vec Ideal S1024x128 .f32)
      (_ : ∀ r k, l (ix2 r k) = num (xA m c (ix2 (row t.val t.isLt r) k)))
      (_ : ∀ r k, v (ix2 r k) = rowScale (scA m c) (row t.val t.isLt r)),
      UpBlock.part (iblk m c 2 t) (iblk m c 3 t) (iblk m c 4 t) (iblk m c 5 t) l v ⟨(y 1).val / 256, Tiles.tile_lt y⟩ (Tiles.inner y)
        = actM m c (row t.val t.isLt (y 0)) (ncol t.val (y 1)) := by
    intro l v hl hv
    refine (part_at m c t l v hl hv ⟨(y 1).val / 256, Tiles.tile_lt y⟩ (y 0) ⟨(y 1).val % 256, Nat.mod_lt _ (by decide)⟩).trans ?_
    exact congrArg (actM m c (row t.val t.isLt (y 0))) (stretch t y _ (y 1).isLt)
  by_cases h : t.val % 7 = 0
  · rw [outsAt0_A m c t h (by omega)]
    dsimp only
    rw [UpBlock.act_A]
    exact key _ _ (hl_first m c t) (hv_first m c t)
  · by_cases h1 : t.val % 7 = 6
    · rw [outsAt0_C m c t h h1]
      dsimp only
      rw [UpBlock.act_C]
      exact key _ _ (hl_later m c t h) (hv_later m c t h)
    · rw [outsAt0_B m c t h h1]
      dsimp only
      rw [UpBlock.act_B]
      exact key _ _ (hl_later m c t h) (hv_later m c t h)

end Cert.UpArray

end
-- ==== Proof.UpScales.lean ====
/-
  The scales the gate-and-up call ends with, and the two arrays after its run: the running maxima of a row block bound
  exactly the magnitudes computed so far, so that after the last point of the row block the scales are those of the whole rows.
-/
module

public import proofs.«01_k».proof.Proof.UpArray

@[expose] public section

set_option maxRecDepth 16384

noncomputable section

namespace Cert.UpArray

open Cert.UpIdeal Cert.UpIdeal.Gen Cert.UpIdeal.Run Idealize.ShloMosaic Idealize.ShloMosaic.TcCoe Idealize.SL.Sem
open Idealize.ShloMosaic.Pipeline (Dat)
open Cert.DownPure (num)
open Cert.UpPure (gated scaleOf)

variable (m : (ℓ : Loc nD τ sig) → Buf (Elt Ideal) ℓ) (c : Dev nD)

/-- The magnitude of an extended real. -/
def mag (x : EReal) : EReal := max x (-x)

theorem mag_nonneg (x : EReal) : 0 ≤ mag x := by
  unfold mag
  rcases le_total 0 x with h | h
  · exact le_max_of_le_left h
  · exact le_max_of_le_right (by simpa using EReal.neg_le_neg_iff.mpr h)

/-! ## The running maxima -/

/-- The running maximum of lane `l` of row `r` after point `t`, from the one before: it also bounds the magnitudes of the
    columns that point `t` computes. -/
theorem grown_at (t : Fin cfg0.N) (M : Vec Ideal S1024x128 .f32) (x : Vec Ideal S1024x2048 .bf16) (v : Vec Ideal S1024x128 .f32)
    (hl : ∀ r k, x (ix2 r k) = num (xA m c (ix2 (row t.val t.isLt r) k)))
    (hv : ∀ r k, v (ix2 r k) = rowScale (scA m c) (row t.val t.isLt r))
    (r : Fin 1024) (l : Fin 128) (b : EReal) :
    UpPure.K.grown M (UpBlock.part (iblk m c 2 t) (iblk m c 3 t) (iblk m c 4 t) (iblk m c 5 t) x v) (ix2 r l) ≤ b
      ↔ M (ix2 r l) ≤ b ∧ ∀ j : Fin 10752, 1536 * (t.val % 7) ≤ j.val → j.val < 1536 * (t.val % 7 + 1) → j.val % 128 = l.val →
        mag (actM m c (row t.val t.isLt r) j) ≤ b := by
  rw [UpPure.K.grown_le]
  refine and_congr Iff.rfl ⟨fun h j h1 h2 h3 => ?_, fun h q => ?_⟩
  · have hq : (j.val - 1536 * (t.val % 7)) / 256 < 6 := by omega
    have e := (UpPure.K.fold_le _ r l b).mp (h ⟨(j.val - 1536 * (t.val % 7)) / 256, hq⟩) ⟨(j.val - 1536 * (t.val % 7)) % 256, Nat.mod_lt _ (by decide)⟩ (by show (j.val - 1536 * (t.val % 7)) % 256 % 128 = l.val; omega)
    rw [part_at m c t x v hl hv] at e
    have hj : ncol t.val ⟨256 * ((j.val - 1536 * (t.val % 7)) / 256) + (j.val - 1536 * (t.val % 7)) % 256, by omega⟩ = j := by
      apply Fin.ext
      show 1536 * (t.val % 7) + (256 * ((j.val - 1536 * (t.val % 7)) / 256) + (j.val - 1536 * (t.val % 7)) % 256) = j.val
      omega
    rw [hj] at e
    exact e
  · rw [UpPure.K.fold_le]
    intro n hn
    rw [part_at m c t x v hl hv]
    have hq := q.isLt
    have hnn := n.isLt
    exact h (ncol t.val ⟨256 * q.val + n.val, by omega⟩)
      (by show 1536 * (t.val % 7) ≤ 1536 * (t.val % 7) + (256 * q.val + n.val); omega)
      (by show 1536 * (t.val % 7) + (256 * q.val + n.val) < 1536 * (t.val % 7 + 1); omega)
      (by show (1536 * (t.val % 7) + (256 * q.val + n.val)) % 128 = l.val; omega)

theorem zero_at (r : Fin 1024) (l : Fin 128) : k0_pay44 (F := Ideal) (ix2 r l) = 0 := by
  unfold k0_pay44
  pointwise

theorem first_max (t : Fin cfg0.N) (h : t.val % 7 = 0) :
    (outsAt0 m c t.val t.isLt).2.2.2
      = UpPure.K.grown (k0_pay44 (F := Ideal)) (UpBlock.part (iblk m c 2 t) (iblk m c 3 t) (iblk m c 4 t) (iblk m c 5 t) (k0_pay3 (iblk m c 0 t))
          (UpBlock.col (iblk m c 1 t) (grid0.coords t 0).val (UpBlock.coord_lt _))) := by
  rw [outsAt0_A m c t h (by omega)]
  dsimp only
  rw [UpBlock.max_A]

theorem later_max (t : Fin cfg0.N) (h : ¬t.val % 7 = 0) :
    (outsAt0 m c t.val t.isLt).2.2.2
      = UpPure.K.grown (outsAt0 m c (t.val - 1) (pred_lt t)).2.2.2
          (UpBlock.part (iblk m c 2 t) (iblk m c 3 t) (iblk m c 4 t) (iblk m c 5 t) (outsAt0 m c (t.val - 1) (pred_lt t)).2.1 (outsAt0 m c (t.val - 1) (pred_lt t)).2.2.1) := by
  by_cases h1 : t.val % 7 = 6
  · rw [outsAt0_C m c t h h1]; dsimp only; rw [UpBlock.max_C]
  · rw [outsAt0_B m c t h h1]; dsimp only; rw [UpBlock.max_B]

theorem max_first (t : Fin cfg0.N) (h : t.val % 7 = 0) (r : Fin 1024) (l : Fin 128) (b : EReal) :
    (outsAt0 m c t.val t.isLt).2.2.2 (ix2 r l) ≤ b
      ↔ 0 ≤ b ∧ ∀ j : Fin 10752, j.val < 1536 * (t.val % 7 + 1) → j.val % 128 = l.val → mag (actM m c (row t.val t.isLt r) j) ≤ b := by
  rw [first_max m c t h, grown_at m c t _ _ _ (hl_first m c t) (hv_first m c t), zero_at]
  exact and_congr Iff.rfl ⟨fun H j => H j (by omega), fun H j _ => H j⟩

theorem max_at (n : Nat) : ∀ (hn : n < cfg0.N) (r : Fin 1024) (l : Fin 128) (b : EReal),
    (outsAt0 m c n hn).2.2.2 (ix2 r l) ≤ b
      ↔ 0 ≤ b ∧ ∀ j : Fin 10752, j.val < 1536 * (n % 7 + 1) → j.val % 128 = l.val → mag (actM m c (row n hn r) j) ≤ b := by
  induction n with
  | zero => exact fun hn => max_first m c ⟨0, hn⟩ rfl
  | succ n ih =>
    intro hn r l b
    by_cases h : (n + 1) % 7 = 0
    · exact max_first m c ⟨n + 1, hn⟩ h r l b
    · rw [later_max m c ⟨n + 1, hn⟩ h, grown_at m c ⟨n + 1, hn⟩ _ _ _ (hl_later m c ⟨n + 1, hn⟩ h) (hv_later m c ⟨n + 1, hn⟩ h)]
      have e := ih (pred_lt ⟨n + 1, hn⟩) r l b
      have er := row_pred ⟨n + 1, hn⟩ h (pred_lt ⟨n + 1, hn⟩) r
      rw [show row n (pred_lt ⟨n + 1, hn⟩) r = row (n + 1) hn r from er] at e
      refine (and_congr e Iff.rfl).trans ?_
      constructor
      · rintro ⟨⟨h0, h1⟩, h2⟩
        refine ⟨h0, fun j hj hl => ?_⟩
        by_cases hlt : j.val < 1536 * (n % 7 + 1)
        · exact h1 j hlt hl
        · exact h2 j (by show 1536 * ((n + 1) % 7) ≤ j.val; omega) hj hl
      · rintro ⟨h0, h1⟩
        exact ⟨⟨h0, fun j hj hl => h1 j (by omega) hl⟩, fun j _ hj hl => h1 j hj hl⟩

/-! ## The scales of a row block -/

theorem scales_eq (t : Fin cfg0.N) (h0 : ¬t.val % 7 = 0) (h1 : t.val % 7 = 6) (y : S128x128.Idx)
    (h : 8 * (grid0.coords t 0).val ≤ (y 0).val ∧ (y 0).val < 8 * (grid0.coords t 0).val + 8) :
    scalesAt m c t h0 h1 y
      = UpPure.K.scaleRow (outsAt0 m c t.val t.isLt).2.2.2 ⟨(y 0).val - 8 * (grid0.coords t 0).val, by omega⟩ (ix2 0 (y 1)) := by
  rw [later_max m c t h0]
  unfold scalesAt
  exact UpBlock.scales_C _ _ _ _ _ _ _ _ _ _ _ _ _ _ _ _ _ _ _ _ _ _ _ _ _ _ _ _ _ _ _ _ _ _ _ y h

theorem scale_max (t : Fin cfg0.N) (h : t.val % 7 = 6) (q : Fin 8) (l : Fin 128) (b : EReal) :
    UpPure.K.top (outsAt0 m c t.val t.isLt).2.2.2 q (ix2 0 l) ≤ b
      ↔ UpPure.R.rowMax (fun j : S16384x10752.Idx => actM m c (j 0) (j 1)) (ix1 (row t.val t.isLt ⟨128 * q.val + l.val, by omega⟩)) ≤ b := by
  rw [UpPure.K.top_le, UpPure.R.rowMax_le]
  constructor
  · intro H n
    exact ((max_at m c t.val t.isLt _ _ b).mp (H ⟨n.val % 128, Nat.mod_lt _ (by decide)⟩)).2 n (by have := n.isLt; omega) rfl
  · intro H k
    exact (max_at m c t.val t.isLt _ _ b).mpr ⟨le_trans (mag_nonneg _) (H ⟨0, by decide⟩), fun j _ _ => H j⟩

theorem scales_at (t : Fin cfg0.N) (h0 : ¬t.val % 7 = 0) (h1 : t.val % 7 = 6) (y : S128x128.Idx)
    (h : 8 * (t.val / 7) ≤ (y 0).val) (h' : (y 0).val < 8 * (t.val / 7) + 8) (R : Fin 16384)
    (hR : R.val = 128 * (y 0).val + (y 1).val) :
    scalesAt m c t h0 h1 y = scaleAt (actM m c) R := by
  have hc := coord0 t
  have hy1 : (y 1).val < 128 := (y 1).isLt
  refine (scales_eq m c t h0 h1 y (by rw [hc]; exact ⟨h, h'⟩)).trans ((UpPure.K.scaleRow_apply _ _ (y 1 : Fin 128)).trans ?_)
  unfold scaleAt
  refine congrArg scaleOf (eq_of_forall_ge_iff fun b => ?_)
  refine (scale_max m c t h1 _ (y 1 : Fin 128) b).trans ?_
  have e : row t.val t.isLt ⟨128 * ((y 0).val - 8 * (grid0.coords t 0).val) + (y 1).val, by rw [hc]; omega⟩ = R := by
    apply Fin.ext
    show 1024 * (t.val / 7) + (128 * ((y 0).val - 8 * (grid0.coords t 0).val) + (y 1).val) = R.val
    rw [hc, hR]; omega
  exact iff_of_eq (congrArg (fun i => UpPure.R.rowMax (fun j : S16384x10752.Idx => actM m c (j 0) (j 1)) (ix1 i) ≤ b) e)

/-! ## The arrays -/

/-- The activations as an array. -/
def G6 : Buf (Elt Ideal) ((c : Thread nD τ).loc main_v2_0) := fun i : S16384x10752.Idx => actM m c (i 0) (i 1)

/-- The matrix row whose scale stands at an index of the statistics. -/
def statIx (i : S128x128.Idx) : Fin 16384 :=
  ⟨128 * (i 0).val + (i 1).val, by have h0 : (i 0).val < 128 := (i 0).isLt; have h1 : (i 1).val < 128 := (i 1).isLt; omega⟩

/-- The scales as an array. -/
def G7 : Buf (Elt Ideal) ((c : Thread nD τ).loc main_v2_1) := fun i : S128x128.Idx => scaleAt (actM m c) (statIx i)

theorem mem_blk6 (t : Fin cfg0.N) (i : S16384x10752.Idx) :
    i ∈ ((cfg0.win 6).blk t).view.set ↔ ∀ a : Fin 2, win0_6.index t a * S1024x1536.size a ≤ (i a).val ∧ (i a).val < win0_6.index t a * S1024x1536.size a + S1024x1536.size a := by
  show i ∈ ((View.whole main_v2_0).slice (win0_6.rect t)).set ↔ _
  rw [View.set_slice_whole, Rect.mem_set_unit]
  exact Iff.rfl

theorem cover6 (i : S16384x10752.Idx) : ∃ t : Fin cfg0.N, (cfg0.win 6).flush t = true ∧ i ∈ ((cfg0.win 6).blk t).view.set := by
  have hi0 : (i 0).val < 16384 := (i 0).isLt
  have hi1 : (i 1).val < 10752 := (i 1).isLt
  have ht : 7 * ((i 0).val / 1024) + (i 1).val / 1536 < cfg0.N := by rw [N112]; omega
  refine ⟨⟨_, ht⟩, flush0_6 _, ?_⟩
  rw [mem_blk6]
  obtain ⟨e0, e1⟩ := idx6 ⟨_, ht⟩
  have f0 : win0_6.index ⟨_, ht⟩ (0 : Fin 2) = (i 0).val / 1024 := e0.trans (by show (7 * ((i 0).val / 1024) + (i 1).val / 1536) / 7 = _; omega)
  have f1 : win0_6.index ⟨_, ht⟩ (1 : Fin 2) = (i 1).val / 1536 := e1.trans (by show (7 * ((i 0).val / 1024) + (i 1).val / 1536) % 7 = _; omega)
  intro a
  match a with
  | ⟨0, _⟩ => show win0_6.index ⟨_, ht⟩ (0 : Fin 2) * 1024 ≤ (i 0).val ∧ (i 0).val < win0_6.index ⟨_, ht⟩ (0 : Fin 2) * 1024 + 1024; rw [f0]; omega
  | ⟨1, _⟩ => show win0_6.index ⟨_, ht⟩ (1 : Fin 2) * 1536 ≤ (i 1).val ∧ (i 1).val < win0_6.index ⟨_, ht⟩ (1 : Fin 2) * 1536 + 1536; rw [f1]; omega

theorem mem_blk7 (t : Fin cfg0.N) (i : S128x128.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v2_1).slice (win0_7.rect t)).set ↔ _
  rw [View.set_slice_whole, Rect.mem_set_unit]
  exact Iff.rfl

theorem cover7 (i : S128x128.Idx) : ∃ t : Fin cfg0.N, (cfg0.win 7).flush t = true ∧ i ∈ ((cfg0.win 7).blk t).view.set := by
  have hi0 : (i 0).val < 128 := (i 0).isLt
  have hi1 : (i 1).val < 128 := (i 1).isLt
  have ht : 111 < cfg0.N := by rw [N112]; omega
  refine ⟨⟨111, ht⟩, (flush0_7 _).mpr rfl, ?_⟩
  rw [mem_blk7]
  obtain ⟨e0, e1⟩ := idx7 ⟨111, ht⟩
  intro a
  match a with
  | ⟨0, _⟩ => show win0_7.index ⟨111, ht⟩ (0 : Fin 2) * 128 ≤ (i 0).val ∧ (i 0).val < win0_7.index ⟨111, ht⟩ (0 : Fin 2) * 128 + 128; rw [e0]; omega
  | ⟨1, _⟩ => show win0_7.index ⟨111, ht⟩ (1 : Fin 2) * 128 ≤ (i 1).val ∧ (i 1).val < win0_7.index ⟨111, ht⟩ (1 : Fin 2) * 128 + 128; rw [e1]; omega

theorem written6 (t : Fin cfg0.N) (X : Vec Ideal S1024x1536 .f32) (hX : X = (outsAt0 m c t.val t.isLt).1) :
    (cfg0.win 6).cut (cfg0.grid.coords t) X = ((cfg0.win 6).blk t).view.read (Elt Ideal) (G6 m c) := by
  subst hX
  obtain ⟨e0, e1⟩ := idx6 t
  funext y
  show (outsAt0 m c t.val t.isLt).1 ((cfg0.win 6).xinj (grid0.coords t) y) = G6 m c (((cfg0.win 6).blk t).view.emb y)
  rw [act_at]
  show actM m c _ _ = actM m c _ _
  have hb0 : (((cfg0.win 6).blk t).view.emb y 0).val = win0_6.index t (0 : Fin 2) * 1024 + 1 * (y 0).val := rfl
  have hb1 : (((cfg0.win 6).blk t).view.emb y 1).val = win0_6.index t (1 : Fin 2) * 1536 + 1 * (y 1).val := rfl
  congr 1
  · apply Fin.ext
    rw [hb0, e0]
    show 1024 * (t.val / 7) + (y 0).val = _
    omega
  · apply Fin.ext
    rw [hb1, e1]
    show 1536 * (t.val % 7) + (y 1).val = _
    omega

theorem read7 (t : Fin cfg0.N) (X : Vec Ideal S128x128 .f32) (G : Buf (Elt Ideal) ((c : Thread nD τ).loc main_v2_1))
    (h : ∀ y, X ((cfg0.win 7).xinj (grid0.coords t) y) = G (((cfg0.win 7).blk t).view.emb y)) :
    (cfg0.win 7).cut (cfg0.grid.coords t) X = ((cfg0.win 7).blk t).view.read (Elt Ideal) G :=
  funext h

theorem written7 (t : Fin cfg0.N) (hf : (cfg0.win 7).flush t = true) (X : Vec Ideal S128x128 .f32) (hX : HoldsRows m c (t.val + 1) X) :
    (cfg0.win 7).cut (cfg0.grid.coords t) X = ((cfg0.win 7).blk t).view.read (Elt Ideal) (G7 m c) := by
  have ht : t.val % 112 = 111 := (flush0_7 t).mp hf
  have hlt := lt_of_lt_of_eq t.isLt N112
  obtain ⟨e0, e1⟩ := idx7 t
  refine read7 c t X (G7 m c) fun y => ?_
  have hy0 : (y 0).val < 128 := (y 0).isLt
  have hy1 : (y 1).val < 128 := (y 1).isLt
  have ht' : 7 * ((y 0).val / 8) + 6 < cfg0.N := by rw [N112]; omega
  have hb0 : (((cfg0.win 7).blk t).view.emb y 0).val = win0_7.index t (0 : Fin 2) * 128 + 1 * (y 0).val := rfl
  have hb1 : (((cfg0.win 7).blk t).view.emb y 1).val = win0_7.index t (1 : Fin 2) * 128 + 1 * (y 1).val := rfl
  have g0 : (((cfg0.win 7).xinj (grid0.coords t) y) 0).val = (y 0).val := rfl
  have g1 : (((cfg0.win 7).xinj (grid0.coords t) y) 1).val = (y 1).val := rfl
  have a0 : ¬(7 * ((y 0).val / 8) + 6) % 7 = 0 := by omega
  have a1 : (7 * ((y 0).val / 8) + 6) % 7 = 6 := by omega
  have a2 : 8 * ((7 * ((y 0).val / 8) + 6) / 7) ≤ (y 0).val := by omega
  have a3 : (y 0).val < 8 * ((7 * ((y 0).val / 8) + 6) / 7) + 8 := by omega
  refine (hX ⟨_, ht'⟩ a0 a1 (by show 7 * ((y 0).val / 8) + 6 < t.val + 1; omega) _ (le_of_le_of_eq a2 g0.symm) (lt_of_eq_of_lt g0 a3)).trans ?_
  refine scales_at m c ⟨_, ht'⟩ a0 a1 _ (le_of_le_of_eq a2 g0.symm) (lt_of_eq_of_lt g0 a3) _ ?_
  show 128 * (((cfg0.win 7).blk t).view.emb y 0).val + (((cfg0.win 7).blk t).view.emb y 1).val = _
  rw [hb0, hb1, g0, g1, e0, e1]
  omega

theorem cover_win6 (i : ((cfg0.win 6).arr.view.loc (c.tc : Thread nD τ)).2.ty.Idx) :
    ∃ t : Fin cfg0.N, (cfg0.win 6).flush t = true ∧ i ∈ ((cfg0.win 6).blk t).view.set := by
  exact cover6 i

theorem cover_win7 (i : ((cfg0.win 7).arr.view.loc (c.tc : Thread nD τ)).2.ty.Idx) :
    ∃ t : Fin cfg0.N, (cfg0.win 7).flush t = true ∧ i ∈ ((cfg0.win 7).blk t).view.set := by
  exact cover7 i

set_option backward.isDefEq.respectTransparency.types false in
/-- The run: the activations and the scales of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2_0) = G6 m c
      ∧ r.2.mem ((c : Thread nD τ).loc main_v2_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨Cert.Relational.arr_eq_of_cover h c 6 (G6 m c) (fun t _ X hX => written6 m c t X (Dat.toRRel_leaves (dats m 0 c) rfl hX)) (cover_win6 c),
     Cert.Relational.arr_eq_of_cover h c 7 (G7 m c) (fun t hf X hX => written7 m c t hf X (Dat.toRRel_leaves (dats m 0 c) rfl hX)) (cover_win7 c),
     frame_of_rel m _ (A_eq m) h c⟩) (run_main m ρ)

end Cert.UpArray

end
-- ==== Proof.UpRefValue.lean ====
/-
  The arrays the reference of the gate-and-up call ends with.
-/
module

public import proofs.«01_k».proof.Proof.UpPure
public import proofs.«01_k».proof.Proof.UpArray
public import proofs.«01_k».proof.Proof.UpScales
public import proofs.«01_k».proof.Proof.Gen.UpRefIdeal.Frame

@[expose] public section

set_option maxRecDepth 16384

noncomputable section

namespace Cert.UpRefValue

open Cert.UpRefIdeal Cert.UpRefIdeal.Gen Idealize.ShloMosaic Idealize.ShloMosaic.TcCoe Idealize.SL.Sem
open Cert.DownPure (num)
open Cert.UpPure (gated scaleOf)
open Cert.UpArray (rowScale actAt scaleAt statIx)

variable (m : (ℓ : Loc nD τ sig) → Buf (Elt Ideal) ℓ) (c : Dev nD)

abbrev xA : Vec Ideal S16384x2048 .i8 := m ((c : Thread nD τ).loc main_arg0)
abbrev scA : Vec Ideal S128x128 .f32 := m ((c : Thread nD τ).loc main_arg1)
abbrev wgA : Vec Ideal S2048x10752 .i8 := m ((c : Thread nD τ).loc main_arg2)
abbrev sgA : Vec Ideal S10752 .f32 := m ((c : Thread nD τ).loc main_arg3)
abbrev wuA : Vec Ideal S2048x10752 .i8 := m ((c : Thread nD τ).loc main_arg4)
abbrev suA : Vec Ideal S10752 .f32 := m ((c : Thread nD τ).loc main_arg5)

/-- The activations of the arguments. -/
abbrev actM (r : Fin 16384) (n : Fin 10752) : EReal := actAt (xA m c) (scA m c) (wgA m c) (sgA m c) (wuA m c) (suA m c) r n

/-- The one point of a program without a grid. -/
abbrev t₀ : Fin cfg0.N := ⟨0, by decide⟩

theorem hz : (![0, 0] : Fin 2 → Nat) = fun _ => 0 := funext fun a => by fin_cases a <;> rfl

theorem whole6 (f : Vec Ideal S16384x10752 .f32) : ((cfg0.win 6).blk t₀).view.read (Elt Ideal) f = f :=
  Memref.read_access_unit_zero (Elt Ideal) main_v3_0 (funext fun a => by fin_cases a <;> rfl) (fun a => by fin_cases a <;> decide) f

theorem whole7 (f : Vec Ideal S16384x1 .f32) : ((cfg0.win 7).blk t₀).view.read (Elt Ideal) f = f :=
  Memref.read_access_unit_zero (Elt Ideal) main_v3_1 (funext fun a => by fin_cases a <;> rfl) (fun a => by fin_cases a <;> decide) f

theorem blk0 : (iblk m c 0 t₀ : Vec Ideal S16384x2048 .i8) = xA m c := by
  unfold iblk
  rw [V_main_arg0]
  exact Memref.read_access_unit_zero (Elt Ideal) main_arg0 (funext fun a => by fin_cases a <;> rfl) (fun a => by fin_cases a <;> decide) _

theorem blk1 : (iblk m c 1 t₀ : Vec Ideal S16384x1 .f32) = V m c main_v0 := by
  unfold iblk
  exact Memref.read_access_unit_zero (Elt Ideal) main_v0 (funext fun a => by fin_cases a <;> rfl) (fun a => by fin_cases a <;> decide) _

theorem blk2 : (iblk m c 2 t₀ : Vec Ideal S2048x10752 .i8) = wgA m c := by
  unfold iblk
  rw [V_main_arg2]
  exact Memref.read_access_unit_zero (Elt Ideal) main_arg2 (funext fun a => by fin_cases a <;> rfl) (fun a => by fin_cases a <;> decide) _

theorem blk3 : (iblk m c 3 t₀ : Vec Ideal S1x10752 .f32) = V m c main_v1 := by
  unfold iblk
  exact Memref.read_access_unit_zero (Elt Ideal) main_v1 (funext fun a => by fin_cases a <;> rfl) (fun a => by fin_cases a <;> decide) _

theorem blk4 : (iblk m c 4 t₀ : Vec Ideal S2048x10752 .i8) = wuA m c := by
  unfold iblk
  rw [V_main_arg4]
  exact Memref.read_access_unit_zero (Elt Ideal) main_arg4 (funext fun a => by fin_cases a <;> rfl) (fun a => by fin_cases a <;> decide) _

theorem blk5 : (iblk m c 5 t₀ : Vec Ideal S1x10752 .f32) = V m c main_v2 := by
  unfold iblk
  exact Memref.read_access_unit_zero (Elt Ideal) main_v2 (funext fun a => by fin_cases a <;> rfl) (fun a => by fin_cases a <;> decide) _

theorem V_v0 (r : Fin 16384) : (V m c main_v0 : Vec Ideal S16384x1 .f32) (ix2 r 0) = rowScale (scA m c) r := by
  show StableHlo.after hostOps0 (fun b => m (c, b)) (Proc.devRef .tc main_v0) (ix2 r 0) = _
  entry_read
  pointwise
  rfl

theorem V_v1 (n : Fin 10752) : (V m c main_v1 : Vec Ideal S1x10752 .f32) (ix2 0 n) = sgA m c (ix1 n) := by
  show StableHlo.after hostOps0 (fun b => m (c, b)) (Proc.devRef .tc main_v1) (ix2 0 n) = _
  entry_read
  pointwise

theorem V_v2 (n : Fin 10752) : (V m c main_v2 : Vec Ideal S1x10752 .f32) (ix2 0 n) = suA m c (ix1 n) := by
  show StableHlo.after hostOps0 (fun b => m (c, b)) (Proc.devRef .tc main_v2) (ix2 0 n) = _
  entry_read
  pointwise

/-! ## The arrays of the one point -/

theorem idx_inj6 : ∀ t t' : Fin cfg0.N, win0_6.index t = win0_6.index t' → t = t' :=
  (by decide +kernel : ∀ t t' : Fin grid0.N, win0_6.index t = win0_6.index t' → t = t')

theorem idx_inj7 : ∀ t t' : Fin cfg0.N, win0_7.index t = win0_7.index t' → t = t' :=
  (by decide +kernel : ∀ t t' : Fin grid0.N, win0_7.index t = win0_7.index t' → t = t')

theorem arr6 : ((dats m 0 c).arrAt 6 cfg0.N : Vec Ideal S16384x10752 .f32)
    = out0_6 (iblk m c 0 t₀) (iblk m c 1 t₀) (iblk m c 2 t₀) (iblk m c 3 t₀) (iblk m c 4 t₀) (iblk m c 5 t₀) := by
  have e := (dats m 0 c).read_blk_arrAt_eq_flushed 6 (fun t t' _ _ hne => (cfg0.win 6).disjoint_blk fun h => hne (idx_inj6 t t' h)) cfg0.N t₀ t₀.isLt rfl
  rw [whole6] at e
  rw [e]
  show (cfg0.win 6).cut (grid0.coords t₀) ((dats m 0 c).after 6 t₀) = _
  rw [after0_6]
  rfl

theorem arr7 : ((dats m 0 c).arrAt 7 cfg0.N : Vec Ideal S16384x1 .f32)
    = out0_7 (iblk m c 0 t₀) (iblk m c 1 t₀) (iblk m c 2 t₀) (iblk m c 3 t₀) (iblk m c 4 t₀) (iblk m c 5 t₀) := by
  have e := (dats m 0 c).read_blk_arrAt_eq_flushed 7 (fun t t' _ _ hne => (cfg0.win 7).disjoint_blk fun h => hne (idx_inj7 t t' h)) cfg0.N t₀ t₀.isLt rfl
  rw [whole7] at e
  rw [e]
  show (cfg0.win 7).cut (grid0.coords t₀) ((dats m 0 c).after 7 t₀) = _
  rw [after0_7]
  rfl

theorem act_eq (r : Fin 16384) (n : Fin 10752) :
    k0_pay1 (F := Ideal) (xA m c) (V m c main_v0) (wgA m c) (V m c main_v1) (wuA m c) (V m c main_v2) (ix2 r n) = actM m c r n := by
  rw [UpPure.R.act_apply, V_v0, V_v1, V_v2]
  rfl

theorem act_array (i : Fin 16384) (k : Fin 10752) :
    ((dats m 0 c).arrAt 6 cfg0.N : Vec Ideal S16384x10752 .f32) (ix2 i k) = actM m c i k := by
  rw [arr6]
  unfold out0_6
  rw [View.canon_unit_zero hz]
  simp only [View.ld_unit_zero (S := S16384x2048) hz, View.ld_unit_zero (S := S16384x1) hz, View.ld_unit_zero (S := S2048x10752) hz, View.ld_unit_zero (S := S1x10752) hz]
  rw [blk0, blk1, blk2, blk3, blk4, blk5, act_eq]

theorem scale_array (i : Fin 16384) :
    ((dats m 0 c).arrAt 7 cfg0.N : Vec Ideal S16384x1 .f32) (ix2 i 0) = scaleAt (actM m c) i := by
  rw [arr7]
  unfold out0_7
  rw [View.canon_unit_zero hz]
  simp only [View.ld_unit_zero (S := S16384x2048) hz, View.ld_unit_zero (S := S16384x1) hz, View.ld_unit_zero (S := S2048x10752) hz, View.ld_unit_zero (S := S1x10752) hz]
  rw [blk0, blk1, blk2, blk3, blk4, blk5, UpPure.R.scale_apply]
  unfold scaleAt
  refine congrArg (fun a => scaleOf (UpPure.R.rowMax a (ix1 i))) ?_
  funext j
  have e : j = ix2 (j 0) (j 1) := by funext a; match a with | ⟨0, _⟩ => rfl | ⟨1, _⟩ => rfl
  rw [e]
  exact act_eq m c (j 0) (j 1)

theorem act_eq_fun : (dats m 0 c).arrAt 6 cfg0.N = (fun j : S16384x10752.Idx => actM m c (j 0) (j 1)) := by
  funext j
  have e : j = ix2 (j 0) (j 1) := by funext a; match a with | ⟨0, _⟩ => rfl | ⟨1, _⟩ => rfl
  rw [e]
  exact act_array m c (j 0) (j 1)

/-! ## The reshape after the call -/

theorem tail_v4 : Pipeline.afterTail₀ cfgs (dats m) 0 (V0 m) [hostOps1] c main_v4
    = shapeCast S128x128 ((dats m 0 c).arrAt 7 cfg0.N : Vec Ideal S16384x1 .f32) shapeCasts_S16384x1_S128x128 := by
  unfold Pipeline.afterTail₀
  simp only [hostOps1, List.flatten_cons, List.flatten_nil, List.append_nil, StableHlo.after_cons, StableHlo.after_nil]
  refine (StableHlo.reshape_result main_v3_1 main_v4 rfl shapeCasts_S16384x1_S128x128 _ _ _).trans ?_
  funext i
  show shapeCast S128x128 _ _ i = _
  rw [show Pipeline.withArrays (cfgs 0).spec c (V0 m c) (fun w => (dats m 0 c).arrAt w (cfgs 0).N) main_v3_1 = (dats m 0 c).arrAt 7 cfg0.N from
    Pipeline.withArrays_arr spec0 launch0.win.arr_inj c (V0 m c) (fun w => (dats m 0 c).arrAt w cfg0.N) 7]

theorem scale_result (j : S128x128.Idx) :
    (Pipeline.afterTail₀ cfgs (dats m) 0 (V0 m) [hostOps1] c main_v4 : Vec Ideal S128x128 .f32) j = scaleAt (actM m c) (statIx j) := by
  rw [tail_v4]
  have e : j = ix2 (j 0) (j 1) := by funext a; match a with | ⟨0, _⟩ => rfl | ⟨1, _⟩ => rfl
  have h : shapeCast S128x128 ((dats m 0 c).arrAt 7 cfg0.N : Vec Ideal S16384x1 .f32) shapeCasts_S16384x1_S128x128 (ix2 (j 0) (j 1))
      = ((dats m 0 c).arrAt 7 cfg0.N : Vec Ideal S16384x1 .f32) (ix2 (statIx j) 0) := by
    generalize ((dats m 0 c).arrAt 7 cfg0.N : Vec Ideal S16384x1 .f32) = f
    pointwise
    exact congrArg (fun i : Fin 16384 => f (ix2 i 0)) (Fin.ext (by show (j 0).val * 128 + (j 1).val = 128 * (j 0).val + (j 1).val; omega))
  exact (congrArg (shapeCast S128x128 ((dats m 0 c).arrAt 7 cfg0.N : Vec Ideal S16384x1 .f32) shapeCasts_S16384x1_S128x128) e).trans
    (h.trans (scale_array m c (statIx j)))

/-- The run: the activations and the scales of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = (fun j : S16384x10752.Idx => actM m c (j 0) (j 1))
      ∧ r.2.mem ((c : Thread nD τ).loc main_v4) = (fun j : S128x128.Idx => scaleAt (actM m c) (statIx j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h.1 c).1 6).trans (act_eq_fun m c),
     ((h.1 c).2 main_v4 (Pipeline.mem_restRefs_of main_v4 (by decide) (by decide))).trans (funext fun j => scale_result m c j),
     h.2 c⟩)
    (θ_run_and (run_main m ρ) (unchanged m ρ))

end Cert.UpRefValue

end
-- ==== Proof.UpClaim.lean ====
/-
  The gate-and-up call and its reference leave the same activations and the same scales.
-/
module

public import proofs.«01_k».proof.Defs
public import proofs.«01_k».proof.Proof.UpRefValue
public import Idealize.ShloMosaic.Lib.Claim

@[expose] public section

set_option maxRecDepth 16384

noncomputable section

namespace Cert.UpClaim

open Idealize.ShloMosaic Idealize.ShloMosaic.TcCoe Idealize.SL.Sem

theorem algebraic : Cert.algebraic_UpIdeal_UpRefIdeal (hUpIdeal := Cert.UpIdeal.Gen.facts) (hUpRefIdeal := Cert.UpRefIdeal.Gen.facts) := by
  intro m g m' g' _ hargs
  refine ⟨fun c => UpArray.G6 m c, fun c => UpArray.G7 m c, UpArray.run m g, ?_⟩
  refine (θ_run (Cert.UpRefIdeal.defs (F := Ideal)) _ _).mono (fun r h c => ?_) (UpRefValue.run m' g')
  obtain ⟨h6, h7, h0⟩ := h c
  obtain ⟨a0, a1, a2, a3, a4, a5⟩ := hargs c
  have e0 : UpRefValue.xA m' c = UpArray.xA m c := a0
  have e1 : UpRefValue.scA m' c = UpArray.scA m c := a1
  have e2 : UpRefValue.wgA m' c = UpArray.wgA m c := a2
  have e3 : UpRefValue.sgA m' c = UpArray.sgA m c := a3
  have e4 : UpRefValue.wuA m' c = UpArray.wuA m c := a4
  have e5 : UpRefValue.suA m' c = UpArray.suA m c := a5
  have e : UpRefValue.actM m' c = UpArray.actM m c := by
    funext r n
    unfold UpRefValue.actM
    rw [e0, e1, e2, e3, e4, e5]
  refine ⟨h6.trans ?_, h7.trans ?_, h0⟩
  · rw [e]; rfl
  · rw [e]; rfl

end Cert.UpClaim

end
-- ==== Proof.DownBlock.lean ====
/-
  What each grid point of the down projection leaves in its buffers, as the kernel's own expressions over the blocks it
  read: the first point of a row block (case A) clears the accumulator and spreads the scales, every point stores its
  codes and adds its product, the last one (case C) writes the result block.
-/
module

public import proofs.«01_k».proof.Proof.Gen.DownIdeal.Value
public import Idealize.ShloMosaic.Lib.Tactic
public import Idealize.ShloMosaic.Lib.Pointwise

@[expose] public section

set_option maxRecDepth 16384

noncomputable section

namespace Cert.DownBlock

open Cert.DownIdeal Cert.DownIdeal.Gen Idealize.ShloMosaic Idealize.ShloMosaic.TcCoe Idealize.SL.Sem

variable {F : FTy → Type} [FloatOps F]
variable (c : Dev nD) (i : grid0.Coords) (arg2 : Memref sig .tc .vmem S512x3584 .f32) (harg2 : arg2.IsWhole) (arg3 : Memref sig .tc .vmem S128x128 .f32) (harg3 : arg3.IsWhole) (arg4 : Memref sig .tc .vmem S512x2048 .f32) (harg4 : arg4.IsWhole) (arg5 : Memref sig .tc .vmem S3584x2048 .i8) (harg5 : arg5.IsWhole) (arg6 : Memref sig .tc .vmem S1x2048 .f32) (harg6 : arg6.IsWhole) (arg7 : Memref sig .tc .vmem S512x3584 .i8) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S512x128 .f32) (harg10 : arg10.IsWhole)
variable (x0 : Vec F S512x3584 .f32) (x1 : Vec F S128x128 .f32) (x2 : Vec F S512x2048 .f32) (x3 : Vec F S3584x2048 .i8) (x4 : Vec F S1x2048 .f32)

theorem hz : (![0, 0] : Fin 2 → Nat) = fun _ => 0 := funext fun a => by fin_cases a <;> rfl

/-- Row `k` of the 128 × 128 statistics. -/
def statRow (x1 : Vec F S128x128 .f32) (k : Nat) (hk : k < 128) : Vec F S1x128 .f32 := fun j => x1 (ix2 ⟨k, hk⟩ (j 1))

/-- The column block of the scales of row block `b`. -/
def col (x1 : Vec F S128x128 .f32) (b : Nat) (hb : b < 32) : Vec F S512x128 .f32 :=
  k0_pay2 (statRow x1 (4 * b + 0) (by omega)) (statRow x1 (4 * b + 1) (by omega)) (statRow x1 (4 * b + 2) (by omega)) (statRow x1 (4 * b + 3) (by omega))

theorem coord_lt (i : grid0.Coords) : (i 0).val < 32 := (i 0).isLt

/-- A row of the statistics loaded at the row the first grid coordinate and `k` name. -/
theorem row_eq (k : Fin 4) (inb) :
    View.readAt (Elt F) arg3.view (Rect.unit (s := S128x128) (k0_off1 i (BitVec.ofNat 32 k.val)) S1x128.size inb).toLoadRect (harg3.unread x1)
      = statRow x1 (4 * (i 0).val + k.val) (by have := coord_lt i; omega) := by
  rw [View.readAt_eq_ld, harg3.read_unread]
  funext j
  show x1 ((Rect.unit (s := S128x128) (k0_off1 i (BitVec.ofNat 32 k.val)) S1x128.size inb).idx j) = x1 (ix2 ⟨_, _⟩ (j 1))
  congr 1
  funext a
  apply Fin.ext
  have e0 : k0_off1 i (BitVec.ofNat 32 k.val) 0 = 4 * (i 0).val + k.val := congrFun (k0_off1_eq i k) 0
  have e1 : k0_off1 i (BitVec.ofNat 32 k.val) 1 = 0 := congrFun (k0_off1_eq i k) 1
  match a with
  | ⟨0, _⟩ =>
    have hj : (j 0).val < 1 := (j 0).isLt
    show k0_off1 i (BitVec.ofNat 32 k.val) 0 + 1 * (j 0).val = 4 * (i 0).val + k.val
    omega
  | ⟨1, _⟩ =>
    show k0_off1 i (BitVec.ofNat 32 k.val) 1 + 1 * (j 1).val = (j 1).val
    omega

theorem scol_A (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 = col x1 (i 0).val (coord_lt i) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero (S := S512x128) hz]
  unfold col
  congr 1
  · exact row_eq i arg3 harg3 x1 0 _
  · exact row_eq i arg3 harg3 x1 1 _
  · exact row_eq i arg3 harg3 x1 2 _
  · exact row_eq i arg3 harg3 x1 3 _

theorem codes_A (hc0 : cond0_0 i) (hc1 : ¬cond0_1 i) :
    out0_A_5 c i arg2 harg2 arg3 harg3 arg4 harg4 arg5 harg5 arg6 harg6 arg7 harg7 arg8 harg8 arg9 harg9 arg10 harg10 hc0 hc1 x0 x1 x2 x3 x4 = k0_pay3 x0 (col x1 (i 0).val (coord_lt i)) := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero (S := S512x3584) hz, View.readCov_unit_zero (S := S512x128) _ hz]
  simp only [View.readAt_eq_ld, harg2.read_unread, View.ld_unit_zero (S := S512x3584) hz]
  unfold col
  congr 2
  · exact row_eq i arg3 harg3 x1 0 _
  · exact row_eq i arg3 harg3 x1 1 _
  · exact row_eq i arg3 harg3 x1 2 _
  · exact row_eq i arg3 harg3 x1 3 _

theorem acc_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 = k0_pay4 x0 (col x1 (i 0).val (coord_lt i)) k0_pay1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x2048) hz, View.readCov_unit_zero (S := S512x128) _ hz, View.readCov_unit_zero (S := S512x2048) _ hz]
  simp only [View.readAt_eq_ld, harg2.read_unread, harg5.read_unread, View.ld_unit_zero (S := S512x3584) hz, View.ld_unit_zero (S := S3584x2048) hz]
  unfold col
  congr 2
  · exact row_eq i arg3 harg3 x1 0 _
  · exact row_eq i arg3 harg3 x1 1 _
  · exact row_eq i arg3 harg3 x1 2 _
  · exact row_eq i arg3 harg3 x1 3 _

theorem codes_B (hc0 : ¬cond0_0 i) (hc1 : ¬cond0_1 i) (xs0 : Vec F S512x2048 .f32) (xs1 : Vec F S512x128 .f32) :
    out0_B_5 c i arg2 harg2 arg3 harg3 arg4 harg4 arg5 harg5 arg6 harg6 arg7 harg7 arg8 harg8 arg9 harg9 arg10 harg10 hc0 hc1 x0 x1 x2 x3 x4 xs0 xs1 = k0_pay3 x0 xs1 := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S512x3584) hz]
  simp only [View.readAt_eq_ld, harg2.read_unread, harg4.read_unread, harg5.read_unread, harg6.read_unread, harg9.read_unread, harg10.read_unread, View.ld_unit_zero (S := S512x3584) hz, View.ld_unit_zero (S := S3584x2048) hz, View.ld_unit_zero (S := S512x2048) hz, View.ld_unit_zero (S := S512x128) hz, View.ld_unit_zero (S := S1x2048) hz]

theorem acc_B (hc0 : ¬cond0_0 i) (hc1 : ¬cond0_1 i) (xs0 : Vec F S512x2048 .f32) (xs1 : Vec F S512x128 .f32) :
    sout0_B_0 c i arg2 harg2 arg3 harg3 arg4 harg4 arg5 harg5 arg6 harg6 arg7 harg7 arg8 harg8 arg9 harg9 arg10 harg10 hc0 hc1 x0 x1 x2 x3 x4 xs0 xs1 = k0_pay4 x0 xs1 xs0 x3 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S512x2048) hz]
  simp only [View.readAt_eq_ld, harg2.read_unread, harg4.read_unread, harg5.read_unread, harg6.read_unread, harg9.read_unread, harg10.read_unread, View.ld_unit_zero (S := S512x3584) hz, View.ld_unit_zero (S := S3584x2048) hz, View.ld_unit_zero (S := S512x2048) hz, View.ld_unit_zero (S := S512x128) hz, View.ld_unit_zero (S := S1x2048) hz]

theorem codes_C (hc0 : ¬cond0_0 i) (hc1 : cond0_1 i) (xs0 : Vec F S512x2048 .f32) (xs1 : Vec F S512x128 .f32) :
    out0_C_5 c i arg2 harg2 arg3 harg3 arg4 harg4 arg5 harg5 arg6 harg6 arg7 harg7 arg8 harg8 arg9 harg9 arg10 harg10 hc0 hc1 x0 x1 x2 x3 x4 xs0 xs1 = k0_pay3 x0 xs1 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x3584) hz]
  simp only [View.readAt_eq_ld, harg2.read_unread, harg4.read_unread, harg5.read_unread, harg6.read_unread, harg9.read_unread, harg10.read_unread, View.ld_unit_zero (S := S512x3584) hz, View.ld_unit_zero (S := S3584x2048) hz, View.ld_unit_zero (S := S512x2048) hz, View.ld_unit_zero (S := S512x128) hz, View.ld_unit_zero (S := S1x2048) hz]

theorem acc_C (hc0 : ¬cond0_0 i) (hc1 : cond0_1 i) (xs0 : Vec F S512x2048 .f32) (xs1 : Vec F S512x128 .f32) :
    sout0_C_0 c i arg2 harg2 arg3 harg3 arg4 harg4 arg5 harg5 arg6 harg6 arg7 harg7 arg8 harg8 arg9 harg9 arg10 harg10 hc0 hc1 x0 x1 x2 x3 x4 xs0 xs1 = k0_pay4 x0 xs1 xs0 x3 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x2048) hz]
  simp only [View.readAt_eq_ld, harg2.read_unread, harg4.read_unread, harg5.read_unread, harg6.read_unread, harg9.read_unread, harg10.read_unread, View.ld_unit_zero (S := S512x3584) hz, View.ld_unit_zero (S := S3584x2048) hz, View.ld_unit_zero (S := S512x2048) hz, View.ld_unit_zero (S := S512x128) hz, View.ld_unit_zero (S := S1x2048) hz]

theorem out_C (hc0 : ¬cond0_0 i) (hc1 : cond0_1 i) (xs0 : Vec F S512x2048 .f32) (xs1 : Vec F S512x128 .f32) :
    out0_C_6 c i arg2 harg2 arg3 harg3 arg4 harg4 arg5 harg5 arg6 harg6 arg7 harg7 arg8 harg8 arg9 harg9 arg10 harg10 hc0 hc1 x0 x1 x2 x3 x4 xs0 xs1 = k0_pay5 xs1 x2 (k0_pay4 x0 xs1 xs0 x3) x4 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x2048) hz, View.readCov_unit_zero (S := S512x2048) _ hz]
  simp only [View.readAt_eq_ld, harg2.read_unread, harg4.read_unread, harg5.read_unread, harg6.read_unread, harg9.read_unread, harg10.read_unread, View.ld_unit_zero (S := S512x3584) hz, View.ld_unit_zero (S := S3584x2048) hz, View.ld_unit_zero (S := S512x2048) hz, View.ld_unit_zero (S := S512x128) hz, View.ld_unit_zero (S := S1x2048) hz]

theorem scol_B (hc0 : ¬cond0_0 i) (hc1 : ¬cond0_1 i) (xs0 : Vec F S512x2048 .f32) (xs1 : Vec F S512x128 .f32) :
    sout0_B_1 c i arg2 harg2 arg3 harg3 arg4 harg4 arg5 harg5 arg6 harg6 arg7 harg7 arg8 harg8 arg9 harg9 arg10 harg10 hc0 hc1 x0 x1 x2 x3 x4 xs0 xs1 = xs1 := rfl

theorem scol_C (hc0 : ¬cond0_0 i) (hc1 : cond0_1 i) (xs0 : Vec F S512x2048 .f32) (xs1 : Vec F S512x128 .f32) :
    sout0_C_1 c i arg2 harg2 arg3 harg3 arg4 harg4 arg5 harg5 arg6 harg6 arg7 harg7 arg8 harg8 arg9 harg9 arg10 harg10 hc0 hc1 x0 x1 x2 x3 x4 xs0 xs1 = xs1 := rfl

end Cert.DownBlock

end
-- ==== Proof.DownArray.lean ====
/-
  The arrays the down projection ends with: every code is the code of its entry under its row's scale, and every result
  entry is `h + (sum of codes × weights over all 10752 columns) × (row scale × column scale)`.
-/
module

public import proofs.«01_k».proof.Proof.DownBlock
public import proofs.«01_k».proof.Proof.DownPure

@[expose] public section

set_option maxRecDepth 16384

noncomputable section

namespace Cert.DownArray

open Cert.DownIdeal Cert.DownIdeal.Gen Cert.DownIdeal.Value Idealize.ShloMosaic Idealize.ShloMosaic.TcCoe Idealize.SL.Sem
open Cert.DownPure

variable (m : (ℓ : Loc nD τ sig) → Buf (Elt Ideal) ℓ) (c : Dev nD)

/-! ## The mathematics over whole arrays -/

/-- The scale of matrix row `r`: lane `r % 128` of statistics row `r / 128`. -/
def rowScale (sc : Vec Ideal S128x128 .f32) (r : Fin 16384) : EReal :=
  sc (ix2 ⟨r.val / 128, by omega⟩ ⟨r.val % 128, Nat.mod_lt _ (by decide)⟩)

/-- The code of entry `(r, k)`. -/
def codeAt (act : Vec Ideal S16384x10752 .f32) (sc : Vec Ideal S128x128 .f32) (r : Fin 16384) (k : Fin 10752) : BitVec 8 :=
  code (act (ix2 r k)) (rowScale sc r)

/-- The result entry `(r, n)`. -/
def outAt (act : Vec Ideal S16384x10752 .f32) (sc : Vec Ideal S128x128 .f32) (h : Vec Ideal S16384x2048 .f32)
    (w : Vec Ideal S10752x2048 .i8) (s : Vec Ideal S2048 .f32) (r : Fin 16384) (n : Fin 2048) : EReal :=
  h (ix2 r n) + (∑ k : Fin 10752, num (codeAt act sc r k) * num (w (ix2 k n))) * (rowScale sc r * s (ix1 n))

/-! ## The blocks a point reads -/

abbrev actA : Vec Ideal S16384x10752 .f32 := m ((c : Thread nD τ).loc main_arg0)
abbrev scA : Vec Ideal S128x128 .f32 := m ((c : Thread nD τ).loc main_arg1)
abbrev hA : Vec Ideal S16384x2048 .f32 := m ((c : Thread nD τ).loc main_arg2)
abbrev wA : Vec Ideal S10752x2048 .i8 := m ((c : Thread nD τ).loc main_arg3)
abbrev sA : Vec Ideal S2048 .f32 := m ((c : Thread nD τ).loc main_arg4)

theorem N96 : cfg0.N = 96 := N_0

/-- The matrix row of row `r` of the block point `n` works on. -/
def row (n : Nat) (hn : n < cfg0.N) (r : Fin 512) : Fin 16384 :=
  ⟨512 * (n / 3) + r.val, by have h := lt_of_lt_of_eq hn N96; omega⟩

/-- The matrix column of column `k` of that block. -/
def kcol (n : Nat) (k : Fin 3584) : Fin 10752 := ⟨3584 * (n % 3) + k.val, by omega⟩

theorem idx0 : ∀ t : Fin cfg0.N, win0_0.index t (0 : Fin 2) = t.val / 3 ∧ win0_0.index t (1 : Fin 2) = t.val % 3 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val / 3 ∧ win0_2.index t (1 : Fin 2) = 0 :=
  (by decide +kernel : ∀ t : Fin grid0.N, _)
theorem idx3 : ∀ t : Fin cfg0.N, win0_3.index t (0 : Fin 2) = t.val % 3 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem coord0 : ∀ t : Fin cfg0.N, (grid0.coords t 0).val = t.val / 3 :=
  (by decide +kernel : ∀ t : Fin grid0.N, _)

theorem blk0 (t : Fin cfg0.N) (r : Fin 512) (k : Fin 3584) :
    (iblk m c 0 t : Vec Ideal S512x3584 .f32) (ix2 r k)
      = actA m c (ix2 (row t.val t.isLt r) (kcol t.val k)) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t 0 * 512 + 1 * r.val = 512 * (t.val / 3) + r.val; rw [e0]; omega
  | ⟨1, _⟩ => show win0_0.index t 1 * 3584 + 1 * k.val = 3584 * (t.val % 3) + k.val; rw [e1]; omega

theorem blk1 (t : Fin cfg0.N) : (iblk m c 1 t : Vec Ideal S128x128 .f32) = scA m c := by
  obtain ⟨e0, e1⟩ := idx1 t
  funext i
  unfold iblk
  rw [View.read_apply]
  show V m c main_arg1 _ = _
  rw [V_main_arg1]
  congr 1
  funext a
  apply Fin.ext
  match a with
  | ⟨0, _⟩ => show win0_1.index t 0 * 128 + 1 * (i 0).val = (i 0).val; rw [e0]; omega
  | ⟨1, _⟩ => show win0_1.index t 1 * 128 + 1 * (i 1).val = (i 1).val; rw [e1]; omega

theorem blk2 (t : Fin cfg0.N) (r : Fin 512) (n : Fin 2048) :
    (iblk m c 2 t : Vec Ideal S512x2048 .f32) (ix2 r n)
      = hA m c (ix2 (row t.val t.isLt r) n) := by
  obtain ⟨e0, e1⟩ := idx2 t
  unfold iblk
  rw [View.read_apply]
  show V m c main_arg2 _ = _
  rw [V_main_arg2]
  congr 1
  funext a
  apply Fin.ext
  match a with
  | ⟨0, _⟩ => show win0_2.index t 0 * 512 + 1 * r.val = 512 * (t.val / 3) + r.val; rw [e0]; omega
  | ⟨1, _⟩ => show win0_2.index t 1 * 2048 + 1 * n.val = n.val; rw [e1]; omega

theorem blk3 (t : Fin cfg0.N) (k : Fin 3584) (n : Fin 2048) :
    (iblk m c 3 t : Vec Ideal S3584x2048 .i8) (ix2 k n) = wA m c (ix2 (kcol t.val k) n) := by
  obtain ⟨e0, e1⟩ := idx3 t
  unfold iblk
  rw [View.read_apply]
  show V m c main_arg3 _ = _
  rw [V_main_arg3]
  congr 1
  funext a
  apply Fin.ext
  match a with
  | ⟨0, _⟩ => show win0_3.index t 0 * 3584 + 1 * k.val = 3584 * (t.val % 3) + k.val; rw [e0]; omega
  | ⟨1, _⟩ => show win0_3.index t 1 * 2048 + 1 * n.val = n.val; rw [e1]; omega

theorem V_v0 (n : Fin 2048) : (V m c main_v0 : Vec Ideal S1x2048 .f32) (ix2 0 n) = sA m c (ix1 n) := by
  entry_read
  pointwise

theorem blk4 (t : Fin cfg0.N) (n : Fin 2048) :
    (iblk m c 4 t : Vec Ideal S1x2048 .f32) (ix2 0 n) = sA m c (ix1 n) := by
  obtain ⟨e0, e1⟩ := idx4 t
  rw [← V_v0 m c n]
  unfold iblk
  rw [View.read_apply]
  show V m c main_v0 _ = _
  congr 1
  funext a
  apply Fin.ext
  match a with
  | ⟨0, _⟩ => show win0_4.index t 0 * 1 + 1 * 0 = 0; rw [e0]
  | ⟨1, _⟩ => show win0_4.index t 1 * 2048 + 1 * n.val = n.val; rw [e1]; omega

/-! ## What one point does to the carried blocks -/

theorem col_row (b : Nat) (hb : b < 32) (sc : Vec Ideal S128x128 .f32) (r : Fin 512) (l : Fin 128) :
    DownBlock.col sc b hb (ix2 r l) = rowScale sc ⟨512 * b + r.val, by omega⟩ := by
  unfold DownBlock.col
  rw [K.col_apply]
  have key : ∀ q : Fin 4, (![DownBlock.statRow sc (4 * b + 0) (by omega), DownBlock.statRow sc (4 * b + 1) (by omega), DownBlock.statRow sc (4 * b + 2) (by omega), DownBlock.statRow sc (4 * b + 3) (by omega)] : Fin 4 → Vec Ideal S1x128 .f32) q
      = DownBlock.statRow sc (4 * b + q.val) (by omega) := by
    intro q; fin_cases q <;> rfl
  rw [key]
  unfold DownBlock.statRow rowScale
  congr 1
  funext a
  apply Fin.ext
  match a with
  | ⟨0, _⟩ => show 4 * b + r.val / 128 = (512 * b + r.val) / 128; omega
  | ⟨1, _⟩ => show r.val % 128 = (512 * b + r.val) % 128; omega

/-- Four blocks a point leaves: codes, results, accumulator, scales. -/
abbrev St := Vec Ideal S512x3584 .i8 × Vec Ideal S512x2048 .bf16 × Vec Ideal S512x2048 .f32 × Vec Ideal S512x128 .f32

theorem row_coord (t : Fin cfg0.N) (r : Fin 512) (h : 512 * (grid0.coords t 0).val + r.val < 16384) :
    (⟨512 * (grid0.coords t 0).val + r.val, h⟩ : Fin 16384) = row t.val t.isLt r :=
  Fin.ext (congrArg (fun b => 512 * b + r.val) (coord0 t))

theorem first_col (t : Fin cfg0.N) (a : St) (h : t.val % 3 = 0) (r : Fin 512) (l : Fin 128) :
    (stAt0 m c t.val t.isLt a).2.2.2 (ix2 r l) = rowScale (scA m c) (row t.val t.isLt r) := by
  rw [stAt0_A m c t a h (by omega)]
  dsimp only
  rw [DownBlock.scol_A, blk1, col_row, row_coord]

theorem first_codes (t : Fin cfg0.N) (a : St) (h : t.val % 3 = 0) (r : Fin 512) (k : Fin 3584) :
    (stAt0 m c t.val t.isLt a).1 (ix2 r k) = codeAt (actA m c) (scA m c) (row t.val t.isLt r) (kcol t.val k) := by
  rw [stAt0_A m c t a h (by omega)]
  dsimp only
  rw [DownBlock.codes_A, K.codes_apply, blk1, col_row, row_coord, blk0]
  rfl

/-- The part of a result's sum that point `n` adds. -/
def part (n : Nat) (hn : n < cfg0.N) (r : Fin 512) (l : Fin 2048) : EReal :=
  ∑ k : Fin 3584, num (codeAt (actA m c) (scA m c) (row n hn r) (kcol n k)) * num (wA m c (ix2 (kcol n k) l))

theorem first_acc (t : Fin cfg0.N) (a : St) (h : t.val % 3 = 0) (r : Fin 512) (l : Fin 2048) :
    (stAt0 m c t.val t.isLt a).2.2.1 (ix2 r l) = part m c t.val t.isLt r l := by
  rw [stAt0_A m c t a h (by omega)]
  dsimp only
  rw [DownBlock.acc_A, K.acc_apply, K.zero_apply, zero_add]
  unfold part
  refine Finset.sum_congr rfl fun k _ => ?_
  rw [K.codes_apply, blk1, col_row, row_coord, blk0, blk3]
  rfl

theorem later_col (t : Fin cfg0.N) (a : St) (h : ¬t.val % 3 = 0) :
    (stAt0 m c t.val t.isLt a).2.2.2 = a.2.2.2 := by
  by_cases h1 : t.val % 3 = 2
  · rw [stAt0_C m c t a h h1]; dsimp only; rw [DownBlock.scol_C]
  · rw [stAt0_B m c t a h h1]; dsimp only; rw [DownBlock.scol_B]

theorem later_codes (t : Fin cfg0.N) (a : St) (h : ¬t.val % 3 = 0) :
    (stAt0 m c t.val t.isLt a).1 = k0_pay3 (iblk m c 0 t) a.2.2.2 := by
  by_cases h1 : t.val % 3 = 2
  · rw [stAt0_C m c t a h h1]; dsimp only; rw [DownBlock.codes_C]
  · rw [stAt0_B m c t a h h1]; dsimp only; rw [DownBlock.codes_B]

theorem later_acc (t : Fin cfg0.N) (a : St) (h : ¬t.val % 3 = 0) :
    (stAt0 m c t.val t.isLt a).2.2.1 = k0_pay4 (iblk m c 0 t) a.2.2.2 a.2.2.1 (iblk m c 3 t) := by
  by_cases h1 : t.val % 3 = 2
  · rw [stAt0_C m c t a h h1]; dsimp only; rw [DownBlock.acc_C]
  · rw [stAt0_B m c t a h h1]; dsimp only; rw [DownBlock.acc_B]

theorem last_out (t : Fin cfg0.N) (a : St) (h : t.val % 3 = 2) :
    (stAt0 m c t.val t.isLt a).2.1
      = k0_pay5 a.2.2.2 (iblk m c 2 t) (k0_pay4 (iblk m c 0 t) a.2.2.2 a.2.2.1 (iblk m c 3 t)) (iblk m c 4 t) := by
  rw [stAt0_C m c t a (by omega) h]; dsimp only; rw [DownBlock.out_C]

/-! ## The blocks after every point -/

theorem outs_first (n : Nat) (hn : n < cfg0.N) (h : n % 3 = 0) : ∃ a : St, outsAt0 m c n hn = stAt0 m c n hn a := by
  cases n with
  | zero => exact ⟨junk0, outsAt0_zero m c hn⟩
  | succ n => exact ⟨_, outsAt0_succ m c n hn⟩

theorem row_succ (n : Nat) (hn : n + 1 < cfg0.N) (h : ¬(n + 1) % 3 = 0) (r : Fin 512) :
    row (n + 1) hn r = row n (Nat.lt_of_succ_lt hn) r := by
  unfold row
  apply Fin.ext
  show 512 * ((n + 1) / 3) + r.val = 512 * (n / 3) + r.val
  omega

theorem col_at (n : Nat) : ∀ (hn : n < cfg0.N) (r : Fin 512) (l : Fin 128),
    (outsAt0 m c n hn).2.2.2 (ix2 r l) = rowScale (scA m c) (row n hn r) := by
  induction n with
  | zero =>
    intro hn r l
    rw [outsAt0_zero m c hn]
    exact first_col m c ⟨0, hn⟩ _ rfl r l
  | succ n ih =>
    intro hn r l
    rw [outsAt0_succ m c n hn]
    by_cases h : (n + 1) % 3 = 0
    · exact first_col m c ⟨n + 1, hn⟩ _ h r l
    · rw [later_col m c ⟨n + 1, hn⟩ _ h, ih, row_succ n hn h]

theorem codes_at (n : Nat) (hn : n < cfg0.N) (r : Fin 512) (k : Fin 3584) :
    (outsAt0 m c n hn).1 (ix2 r k) = codeAt (actA m c) (scA m c) (row n hn r) (kcol n k) := by
  by_cases h : n % 3 = 0
  · obtain ⟨a, e⟩ := outs_first m c n hn h
    rw [e]
    exact first_codes m c ⟨n, hn⟩ a h r k
  · cases n with
    | zero => exact absurd rfl h
    | succ n =>
      rw [outsAt0_succ m c n hn, later_codes m c ⟨n + 1, hn⟩ _ h, K.codes_apply, col_at, blk0]
      unfold codeAt
      rw [row_succ n hn h]

theorem acc_first (n : Nat) (hn : n < cfg0.N) (h : n % 3 = 0) (r : Fin 512) (l : Fin 2048) :
    (outsAt0 m c n hn).2.2.1 (ix2 r l) = part m c n hn r l := by
  obtain ⟨a, e⟩ := outs_first m c n hn h
  rw [e]
  exact first_acc m c ⟨n, hn⟩ a h r l

theorem acc_step (n : Nat) (hn : n + 1 < cfg0.N) (h : ¬(n + 1) % 3 = 0) (r : Fin 512) (l : Fin 2048) :
    k0_pay4 (F := Ideal) (iblk m c 0 ⟨n + 1, hn⟩) (outsAt0 m c n (Nat.lt_of_succ_lt hn)).2.2.2 (outsAt0 m c n (Nat.lt_of_succ_lt hn)).2.2.1 (iblk m c 3 ⟨n + 1, hn⟩) (ix2 r l)
      = (outsAt0 m c n (Nat.lt_of_succ_lt hn)).2.2.1 (ix2 r l) + part m c (n + 1) hn r l := by
  rw [K.acc_apply]
  unfold part
  refine congrArg (_ + ·) (Finset.sum_congr rfl fun k _ => ?_)
  rw [K.codes_apply, col_at, blk0, blk3]
  unfold codeAt
  rw [row_succ n hn h]

theorem acc_later (n : Nat) (hn : n + 1 < cfg0.N) (h : ¬(n + 1) % 3 = 0) (r : Fin 512) (l : Fin 2048) :
    (outsAt0 m c (n + 1) hn).2.2.1 (ix2 r l) = (outsAt0 m c n (Nat.lt_of_succ_lt hn)).2.2.1 (ix2 r l) + part m c (n + 1) hn r l := by
  rw [← acc_step m c n hn h, outsAt0_succ m c n hn, later_acc m c ⟨n + 1, hn⟩ _ h]

/-- The sum over all 10752 columns is the sum of the three stretches' sums. -/
theorem parts_sum (i : Nat) (hi : 3 * i + 2 < cfg0.N) (r : Fin 512) (l : Fin 2048) :
    part m c (3 * i) (by omega) r l + part m c (3 * i + 1) (by omega) r l + part m c (3 * i + 2) hi r l
      = ∑ k : Fin 10752, num (codeAt (actA m c) (scA m c) (row (3 * i + 2) hi r) k) * num (wA m c (ix2 k l)) := by
  have e := Fin.sum_univ_tiles 3 3584 (rfl : (10752 : Nat) = 3 * 3584) (fun k : Fin 10752 => num (codeAt (actA m c) (scA m c) (row (3 * i + 2) hi r) k) * num (wA m c (ix2 k l)))
  rw [e, Fin.sum_univ_three]
  have hp : ∀ (j : Fin 3) (hj : 3 * i + j.val < cfg0.N), part m c (3 * i + j.val) hj r l
      = ∑ t : Fin 3584, num (codeAt (actA m c) (scA m c) (row (3 * i + 2) hi r) ⟨j.val * 3584 + t.val, by omega⟩) * num (wA m c (ix2 ⟨j.val * 3584 + t.val, by omega⟩ l)) := by
    intro j hj
    unfold part
    refine Finset.sum_congr rfl fun k _ => ?_
    have e1 : row (3 * i + j.val) hj r = row (3 * i + 2) hi r := by
      apply Fin.ext
      show 512 * ((3 * i + j.val) / 3) + r.val = 512 * ((3 * i + 2) / 3) + r.val
      omega
    have e2 : kcol (3 * i + j.val) k = ⟨j.val * 3584 + k.val, by omega⟩ := by
      apply Fin.ext
      show 3584 * ((3 * i + j.val) % 3) + k.val = j.val * 3584 + k.val
      omega
    rw [e1, e2]
  have h0 := hp 0 (show 3 * i + 0 < cfg0.N by omega)
  have h1 := hp 1 (show 3 * i + 1 < cfg0.N by omega)
  have h2 := hp 2 hi
  exact congrArg₂ (· + ·) (congrArg₂ (· + ·) h0 h1) h2

theorem out_at (i : Nat) (hi : 3 * i + 2 < cfg0.N) (r : Fin 512) (l : Fin 2048) :
    (outsAt0 m c (3 * i + 2) hi).2.1 (ix2 r l)
      = outAt (actA m c) (scA m c) (hA m c) (wA m c) (sA m c) (row (3 * i + 2) hi r) l := by
  rw [outsAt0_succ m c (3 * i + 1) hi, last_out m c ⟨3 * i + 1 + 1, hi⟩ _ (by show (3 * i + 1 + 1) % 3 = 2; omega), K.out_apply,
    acc_step m c (3 * i + 1) hi (by omega), acc_later m c (3 * i) (by omega) (by omega), acc_first m c (3 * i) (by omega) (by omega),
    parts_sum m c i hi, col_at, blk2, blk4]
  unfold outAt
  rw [row_succ (3 * i + 1) hi (by omega)]

theorem out_last (n : Nat) (hn : n < cfg0.N) (h : n % 3 = 2) (r : Fin 512) (l : Fin 2048) :
    (outsAt0 m c n hn).2.1 (ix2 r l)
      = outAt (actA m c) (scA m c) (hA m c) (wA m c) (sA m c) (row n hn r) l := by
  obtain ⟨i, rfl⟩ : ∃ i, n = 3 * i + 2 := ⟨n / 3, by omega⟩
  exact out_at m c i hn r l

/-! ## The arrays -/

theorem codes_array (i : Fin 16384) (k : Fin 10752) : (G5 m c : Vec Ideal S16384x10752 .i8) (ix2 i k) = codeAt (actA m c) (scA m c) i k := by
  have hp : pt5Of (ix2 i k) = 3 * (i.val / 512) + k.val / 3584 := by
    show 3 * (i.val / 512 - 0) + 1 * (k.val / 3584 - 0) = _
    omega
  have hlt : pt5Of (ix2 i k) < cfg0.N := by rw [hp, N96]; omega
  have e := codes_at m c (pt5Of (ix2 i k)) hlt ⟨i.val % 512, by omega⟩ ⟨k.val % 3584, by omega⟩
  rw [outsAt0_sweep] at e
  unfold G5
  rw [dif_pos hlt]
  refine Eq.trans ?_ (e.trans ?_)
  · have hl : loc5Of (ix2 i k) = ix2 (⟨i.val % 512, by omega⟩ : Fin 512) (⟨k.val % 3584, by omega⟩ : Fin 3584) := by
      funext a
      apply Fin.ext
      match a with
      | ⟨0, _⟩ => rfl
      | ⟨1, _⟩ => rfl
    rw [hl]
  · congr 1
    · apply Fin.ext
      show 512 * (pt5Of (ix2 i k) / 3) + i.val % 512 = i.val
      rw [hp]; omega
    · apply Fin.ext
      show 3584 * (pt5Of (ix2 i k) % 3) + k.val % 3584 = k.val
      rw [hp]; omega

theorem out_array (i : Fin 16384) (l : Fin 2048) :
    (G6 m c : Vec Ideal S16384x2048 .bf16) (ix2 i l) = outAt (actA m c) (scA m c) (hA m c) (wA m c) (sA m c) i l := by
  have hp : pt6Of (ix2 i l) = 3 * (i.val / 512) + 2 := by
    show 3 * (1 * (i.val / 512 - 0) + 1 * (l.val / 2048 - 0)) + 2 = _
    omega
  have hlt : pt6Of (ix2 i l) < cfg0.N := by rw [hp, N96]; omega
  have e := out_last m c (pt6Of (ix2 i l)) hlt (by rw [hp]; omega) ⟨i.val % 512, by omega⟩ l
  rw [outsAt0_sweep] at e
  unfold G6
  rw [dif_pos hlt]
  refine Eq.trans ?_ (e.trans ?_)
  · have hl : loc6Of (ix2 i l) = ix2 (⟨i.val % 512, by omega⟩ : Fin 512) l := by
      funext a
      apply Fin.ext
      match a with
      | ⟨0, _⟩ => rfl
      | ⟨1, _⟩ => show l.val % 2048 = l.val; omega
    rw [hl]
  · congr 1
    apply Fin.ext
    show 512 * (pt6Of (ix2 i l) / 3) + i.val % 512 = i.val
    rw [hp]; omega

end Cert.DownArray

end
-- ==== Proof.DownRefValue.lean ====
/-
  The arrays the reference of the down projection ends with.
-/
module

public import proofs.«01_k».proof.Proof.DownPure
public import proofs.«01_k».proof.Proof.DownArray
public import proofs.«01_k».proof.Proof.Gen.DownRefIdeal.Value

@[expose] public section

set_option maxRecDepth 16384

noncomputable section

namespace Cert.DownRefValue

open Cert.DownRefIdeal Cert.DownRefIdeal.Gen Cert.DownRefIdeal.Value Idealize.ShloMosaic Idealize.ShloMosaic.TcCoe Idealize.SL.Sem
open Cert.DownPure
open Cert.DownArray (rowScale codeAt outAt)

variable (m : (ℓ : Loc nD τ sig) → Buf (Elt Ideal) ℓ) (c : Dev nD)

abbrev actA : Vec Ideal S16384x10752 .f32 := m ((c : Thread nD τ).loc main_arg0)
abbrev scA : Vec Ideal S128x128 .f32 := m ((c : Thread nD τ).loc main_arg1)
abbrev hA : Vec Ideal S16384x2048 .f32 := m ((c : Thread nD τ).loc main_arg2)
abbrev wA : Vec Ideal S10752x2048 .i8 := m ((c : Thread nD τ).loc main_arg3)
abbrev sA : Vec Ideal S2048 .f32 := m ((c : Thread nD τ).loc main_arg4)

/-- The one point of a program without a grid. -/
abbrev t₀ : Fin cfg0.N := ⟨0, by decide⟩

theorem hz : (![0, 0] : Fin 2 → Nat) = fun _ => 0 := funext fun a => by fin_cases a <;> rfl

theorem whole5 (f : Vec Ideal S16384x10752 .i8) : ((cfg0.win 5).blk t₀).view.read (Elt Ideal) f = f :=
  Memref.read_access_unit_zero (Elt Ideal) main_v2_0 (funext fun a => by fin_cases a <;> rfl) (fun a => by fin_cases a <;> decide) f

theorem whole6 (f : Vec Ideal S16384x2048 .bf16) : ((cfg0.win 6).blk t₀).view.read (Elt Ideal) f = f :=
  Memref.read_access_unit_zero (Elt Ideal) main_v2_1 (funext fun a => by fin_cases a <;> rfl) (fun a => by fin_cases a <;> decide) f

theorem blk0 : (iblk m c 0 t₀ : Vec Ideal S16384x10752 .f32) = actA m c := by
  unfold iblk
  rw [V_main_arg0]
  exact Memref.read_access_unit_zero (Elt Ideal) main_arg0 (funext fun a => by fin_cases a <;> rfl) (fun a => by fin_cases a <;> decide) _

theorem blk1 : (iblk m c 1 t₀ : Vec Ideal S16384x1 .f32) = V m c main_v0 := by
  unfold iblk
  exact Memref.read_access_unit_zero (Elt Ideal) main_v0 (funext fun a => by fin_cases a <;> rfl) (fun a => by fin_cases a <;> decide) _

theorem blk2 : (iblk m c 2 t₀ : Vec Ideal S16384x2048 .f32) = hA m c := by
  unfold iblk
  rw [V_main_arg2]
  exact Memref.read_access_unit_zero (Elt Ideal) main_arg2 (funext fun a => by fin_cases a <;> rfl) (fun a => by fin_cases a <;> decide) _

theorem blk3 : (iblk m c 3 t₀ : Vec Ideal S10752x2048 .i8) = wA m c := by
  unfold iblk
  rw [V_main_arg3]
  exact Memref.read_access_unit_zero (Elt Ideal) main_arg3 (funext fun a => by fin_cases a <;> rfl) (fun a => by fin_cases a <;> decide) _

theorem blk4 : (iblk m c 4 t₀ : Vec Ideal S1x2048 .f32) = V m c main_v1 := by
  unfold iblk
  exact Memref.read_access_unit_zero (Elt Ideal) main_v1 (funext fun a => by fin_cases a <;> rfl) (fun a => by fin_cases a <;> decide) _

theorem V_v0 (r : Fin 16384) : (V m c main_v0 : Vec Ideal S16384x1 .f32) (ix2 r 0) = rowScale (scA m c) r := by
  entry_read
  pointwise
  rfl

theorem V_v1 (n : Fin 2048) : (V m c main_v1 : Vec Ideal S1x2048 .f32) (ix2 0 n) = sA m c (ix1 n) := by
  entry_read
  pointwise

theorem codes_array (i : Fin 16384) (k : Fin 10752) :
    ((dats m 0 c).arrAt 5 cfg0.N : Vec Ideal S16384x10752 .i8) (ix2 i k) = codeAt (actA m c) (scA m c) i k := by
  have e := blocks5 m c t₀ rfl
  rw [whole5, flushed5] at e
  rw [e]
  show out0_5 (iblk m c 0 t₀) (iblk m c 1 t₀) (iblk m c 2 t₀) (iblk m c 3 t₀) (iblk m c 4 t₀) (ix2 i k) = _
  unfold out0_5
  rw [View.canon_unit_zero hz, View.ld_unit_zero hz, View.ld_unit_zero hz, R.codes_apply, blk0, blk1, V_v0]
  rfl

theorem out_array (i : Fin 16384) (l : Fin 2048) :
    ((dats m 0 c).arrAt 6 cfg0.N : Vec Ideal S16384x2048 .bf16) (ix2 i l) = outAt (actA m c) (scA m c) (hA m c) (wA m c) (sA m c) i l := by
  have e := blocks6 m c t₀ rfl
  rw [whole6, flushed6] at e
  rw [e]
  show out0_6 (iblk m c 0 t₀) (iblk m c 1 t₀) (iblk m c 2 t₀) (iblk m c 3 t₀) (iblk m c 4 t₀) (ix2 i l) = _
  unfold out0_6
  rw [View.canon_unit_zero hz]
  simp only [View.ld_unit_zero (S := S16384x10752) hz, View.ld_unit_zero (S := S16384x1) hz, View.ld_unit_zero (S := S16384x2048) hz, View.ld_unit_zero (S := S10752x2048) hz, View.ld_unit_zero (S := S1x2048) hz]
  rw [R.out_apply, blk0, blk1, blk2, blk3, blk4, V_v0, V_v1]
  rfl

end Cert.DownRefValue

end
-- ==== Proof.DownClaim.lean ====
/-
  The down projection and its reference leave the same codes and the same result.
-/
module

public import proofs.«01_k».proof.Defs
public import proofs.«01_k».proof.Proof.DownRefValue
public import Idealize.ShloMosaic.Lib.Claim

@[expose] public section

set_option maxRecDepth 16384

noncomputable section

namespace Cert.DownClaim

open Idealize.ShloMosaic Idealize.ShloMosaic.TcCoe Idealize.SL.Sem

/-- The kernel's code array as a function of its arguments. -/
theorem kernel_codes (m : (ℓ : Loc Cert.DownIdeal.nD Cert.DownIdeal.τ Cert.DownIdeal.sig) → Buf (Elt Ideal) ℓ) (c : Dev Cert.DownIdeal.nD) :
    Cert.DownIdeal.Value.G5 (F := Ideal) m c
      = fun j => DownArray.codeAt (DownArray.actA m c) (DownArray.scA m c) (j 0) (j 1) := by
  funext j
  have e : j = ix2 (j 0) (j 1) := by funext a; match a with | ⟨0, _⟩ => rfl | ⟨1, _⟩ => rfl
  rw [e]
  exact DownArray.codes_array m c (j 0) (j 1)

/-- The kernel's result array as a function of its arguments. -/
theorem kernel_out (m : (ℓ : Loc Cert.DownIdeal.nD Cert.DownIdeal.τ Cert.DownIdeal.sig) → Buf (Elt Ideal) ℓ) (c : Dev Cert.DownIdeal.nD) :
    Cert.DownIdeal.Value.G6 (F := Ideal) m c
      = fun j => DownArray.outAt (DownArray.actA m c) (DownArray.scA m c) (DownArray.hA m c) (DownArray.wA m c) (DownArray.sA m c) (j 0) (j 1) := by
  funext j
  have e : j = ix2 (j 0) (j 1) := by funext a; match a with | ⟨0, _⟩ => rfl | ⟨1, _⟩ => rfl
  rw [e]
  exact DownArray.out_array m c (j 0) (j 1)

/-- The reference's code array as a function of its arguments. -/
theorem reference_codes (m : (ℓ : Loc Cert.DownRefIdeal.nD Cert.DownRefIdeal.τ Cert.DownRefIdeal.sig) → Buf (Elt Ideal) ℓ) (c : Dev Cert.DownRefIdeal.nD) :
    (Cert.DownRefIdeal.Gen.dats (F := Ideal) m 0 c).arrAt 5 Cert.DownRefIdeal.cfg0.N
      = fun j => DownArray.codeAt (DownRefValue.actA m c) (DownRefValue.scA m c) (j 0) (j 1) := by
  funext j
  have e : j = ix2 (j 0) (j 1) := by funext a; match a with | ⟨0, _⟩ => rfl | ⟨1, _⟩ => rfl
  rw [e]
  exact DownRefValue.codes_array m c (j 0) (j 1)

/-- The reference's result array as a function of its arguments. -/
theorem reference_out (m : (ℓ : Loc Cert.DownRefIdeal.nD Cert.DownRefIdeal.τ Cert.DownRefIdeal.sig) → Buf (Elt Ideal) ℓ) (c : Dev Cert.DownRefIdeal.nD) :
    (Cert.DownRefIdeal.Gen.dats (F := Ideal) m 0 c).arrAt 6 Cert.DownRefIdeal.cfg0.N
      = fun j => DownArray.outAt (DownRefValue.actA m c) (DownRefValue.scA m c) (DownRefValue.hA m c) (DownRefValue.wA m c) (DownRefValue.sA m c) (j 0) (j 1) := by
  funext j
  have e : j = ix2 (j 0) (j 1) := by funext a; match a with | ⟨0, _⟩ => rfl | ⟨1, _⟩ => rfl
  rw [e]
  exact DownRefValue.out_array m c (j 0) (j 1)

theorem algebraic : Cert.algebraic_DownIdeal_DownRefIdeal (hDownIdeal := Cert.DownIdeal.Gen.facts) (hDownRefIdeal := Cert.DownRefIdeal.Gen.facts) := by
  intro m g m' g' _ hargs
  refine ⟨fun c j => DownArray.codeAt (DownArray.actA m c) (DownArray.scA m c) (j 0) (j 1),
    fun c j => DownArray.outAt (DownArray.actA m c) (DownArray.scA m c) (DownArray.hA m c) (DownArray.wA m c) (DownArray.sA m c) (j 0) (j 1), ?_, ?_⟩
  · refine (θ_run (Cert.DownIdeal.defs (F := Ideal)) _ _).mono (fun r h c => ?_) (Cert.DownIdeal.Value.run (F := Ideal) m g)
    obtain ⟨h5, h6, h0⟩ := h c
    exact ⟨h5.trans (kernel_codes m c), h6.trans (kernel_out m c), h0⟩
  · refine (θ_run (Cert.DownRefIdeal.defs (F := Ideal)) _ _).mono (fun r h c => ?_) (Cert.DownRefIdeal.Value.run_blocks (F := Ideal) m' g')
    obtain ⟨h5, h6, h0⟩ := h c
    obtain ⟨a0, a1, a2, a3, a4⟩ := hargs c
    have e0 : DownRefValue.actA m' c = DownArray.actA m c := a0
    have e1 : DownRefValue.scA m' c = DownArray.scA m c := a1
    have e2 : DownRefValue.hA m' c = DownArray.hA m c := a2
    have e3 : DownRefValue.wA m' c = DownArray.wA m c := a3
    have e4 : DownRefValue.sA m' c = DownArray.sA m c := a4
    refine ⟨(h5.trans (reference_codes m' c)).trans ?_, (h6.trans (reference_out m' c)).trans ?_, h0⟩
    · rw [e0, e1]; rfl
    · rw [e0, e1, e2, e3, e4]; rfl

end Cert.DownClaim

end
-- ==== Proof.OutShared.lean ====
/-
  The output projection `Out`: the buffers the run of its body is stated over.
-/
module

public import proofs.«01_k».proof.Proof.Gen.Out.Frame
public import proofs.«01_k».proof.Proof.Gen.Out.Skeleton
public import Idealize.ShloMosaic.Lib.Pipeline.FrameBody
public import Idealize.ShloMosaic.Lib.Ring
public import Idealize.ShloMosaic.Lib.Tactic
public import Idealize.ShloMosaic.Lib.WordCmp

@[expose] public section

-- The cover checks walk long axes one step per coordinate,
-- so the recursion limit is raised.
set_option maxRecDepth 16384

noncomputable section

namespace Cert.Out.Run

open Cert.Out.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers that the runs of the body are stated over -/

/-- One staging buffer of output window 6, through which its contents are stated (any would do). -/
abbrev VO0_6 : View sig .tc .vmem S512x2048 .f32 := (Memref.whole cc0_stg6_0 : Memref sig .tc .vmem S512x2048 .f32).view
/-- One staging buffer of output window 7, through which its contents are stated (any would do). -/
abbrev VO0_7 : View sig .tc .vmem S512x2048 .i8 := (Memref.whole cc0_stg7_0 : Memref sig .tc .vmem S512x2048 .i8).view
/-- Each window's staging buffer at point `t`, and that it is a whole buffer. -/
abbrev ms0_0 (t : Fin cfg0.N) : Memref sig .tc .vmem S512x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x2048 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
/-- The scratch buffers, which are passed beside the windows. -/
abbrev scM0_0 : Memref sig .tc .vmem S512x2048 .bf16 := Memref.whole cc0_scratch0

/-- The part of the invariant that owns the scratch, buffer by buffer, each at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Out.Run

end
-- ==== Proof.OutCase.lean ====
/-
  The output projection `Out`: the run of its body.
-/
module

public import proofs.«01_k».proof.Proof.OutShared

@[expose] public section

-- The cover checks walk long axes one step per coordinate,
-- so the recursion limit is raised.
set_option maxRecDepth 16384

noncomputable section

namespace Cert.Out.Run

open Cert.Out.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The proof term is large, so the step limit is raised.
set_option maxHeartbeats 1000000 in
/-- What the body's stores leave in each output, as lists of pieces with the last store first, together with the run of
    the body: from staging buffers that hold the input blocks the body reaches its end with the inputs unchanged and those
    pieces written. -/
noncomputable def kernelRun0_A (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) :
    Σ' (L6 : List (View.Piece (Elt F) S512x2048 .f32)), Σ' (L7 : List (View.Piece (Elt F) S512x2048 .i8)), { LT0 : List (View.Piece (Elt F) S512x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ f, arg10.view.loc (c : Thread nD τ) ↦[arg10.view.set]{fullShare} arg10.view.writes (Elt F) f LT0)) -∗ K ⟨⟩))
          ⊢ wp frame (wpE (defs₀ (F := F)) Variants.none c none) E (cc0_outproj i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_outproj_eq_skeleton]; unfold cc0_outproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _, _; isplitr; swap; · iexact H8
      ipureintro; rfl
    iexists _; iexact HS0

end Cert.Out.Run

end
-- ==== Proof.OutFrame.lean ====
/-
  The output projection `Out`: what its body leaves, the run of the whole program and its frame.
-/
module

public import proofs.«01_k».proof.Proof.OutCase
public import Idealize.ShloMosaic.Lib.Claim

@[expose] public section

-- The cover checks walk long axes one step per coordinate,
-- so the recursion limit is raised.
set_option maxRecDepth 16384

noncomputable section

namespace Cert.Out.Run

open Cert.Out.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores into output 6 cover its block. -/
theorem cover0_A_6 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) (y : S512x2048.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5).1 S512x256.size (by sl_kernel_rfl) y

/-- What the body leaves in output 6: the stored pieces read back. -/
def out0_A_6 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) : Vec F S512x2048 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3 x4 x5).1)

/-- The stores into output 7 cover its block. -/
theorem cover0_A_7 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) (y : S512x2048.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5).2.1 S512x2048.size (by sl_kernel_rfl) y

/-- What the body leaves in output 7: the stored pieces read back. -/
def out0_A_7 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) : Vec F S512x2048 .i8 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4 x5).2.1)

/-! ## What the outputs hold after each point -/

/-- What the first two outputs hold after the body at point `t`. -/
def outsAt0 (c : Dev nD) (t : Fin cfg0.N) : Vec F S512x2048 .f32 × Vec F S512x2048 .i8 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))

/-! ## The pipeline's proof data -/

/-- The output window of whose contents the frame says nothing: the scales. -/
def forgets0 : Fin 9 → Bool := fun w => w.val == 8
theorem forgets0_6 : forgets0 (6 : Fin 9) = false := by decide
theorem forgets0_7 : forgets0 (7 : Fin 9) = false := by decide

/-- The proof data of the pipeline on core `c`: the arrays as the call finds them, each input buffer at its block after
    the body at point `t`, and the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2
    | ⟨8, h⟩ => Pipeline.Dat.unnamed (cfg := cfg0) ⟨8, h⟩ t
  Φ _ := Pipeline.ΦA spec0 c
  q _ := fullShare
  owed _ := 0

/-- The arrays of the proof data are those the call finds, stated so that `V` need not be unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 800000 in
/-- The body at any point: the input buffers hold their blocks, the run of the body applies, and the scratch is handed
    over and taken back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_6 out0_A_7; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  iintro ⟨H0, H1, H2, H3, H4, H5, ⟨%e6, H6⟩, ⟨%e7, H7⟩, H8, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _)
  iexact H8

/-- The body that the pipeline runs at point `t`, as `bodyAt0` spells it. -/
theorem defs₀_row (t : Fin cfg0.N) :
    defs₀ (F := F) .tc cfg0.body (cfg0.bodyArgs t (cfg0.slots t)) = bodyAt0 t := by
  unfold defs₀; rw [Defs.onTc_tc]

/-- The same in the form that the pipeline rule asks for, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- Finding the implicit arguments takes unfolding plain definitions in the types,
-- which this option allows.
set_option backward.isDefEq.respectTransparency.types false in
/-- The run of the whole program, with every semaphore counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every weakly fair execution of the program ends, the arrays end as the proof data
    say, and every other buffer is unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments after a run: a staged input ends as the call found it, an array that no window stages is untouched. -/
theorem frame_of_rel (rdat : (c : Dev nD) → Pipeline.RDat τ (Elt F) Unit ℕ (UR sig nD τ) ℕ cfg0 c)
    (hA : ∀ c w, (rdat c).A w = V m c (Pipeline.arrRef spec0 w)) {r : PUnit × MemSt nD τ sig (Elt F)}
    (h : Pipeline.RDat.FramePost cfg0 rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((hA c 0).trans (V_main_arg0 m c)),
    (h.arr_in c 1 rfl).trans ((hA c 1).trans (V_main_arg1 m c)),
    (h.arr_in c 2 rfl).trans ((hA c 2).trans (V_main_arg2 m c)),
    (h.arr_in c 3 rfl).trans ((hA c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The same without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => frame_of_rel m _ (A_eq m) h c) (run_main m ρ)

/-- The frame: the program ends from any memory and leaves its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Out.Run

end
-- ==== Proof.OutIdealShared.lean ====
/-
  The output projection `OutIdeal`: the buffers the run of its body is stated over.
-/
module

public import proofs.«01_k».proof.Proof.Gen.OutIdeal.Frame
public import proofs.«01_k».proof.Proof.Gen.OutIdeal.Skeleton
public import Idealize.ShloMosaic.Lib.Pipeline.FrameBody
public import Idealize.ShloMosaic.Lib.Ring
public import Idealize.ShloMosaic.Lib.Tactic
public import Idealize.ShloMosaic.Lib.WordCmp

@[expose] public section

-- The cover checks walk long axes one step per coordinate,
-- so the recursion limit is raised.
set_option maxRecDepth 16384

noncomputable section

namespace Cert.OutIdeal.Run

open Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers that the runs of the body are stated over -/

/-- One staging buffer of output window 6, through which its contents are stated (any would do). -/
abbrev VO0_6 : View sig .tc .vmem S512x2048 .f32 := (Memref.whole cc0_stg6_0 : Memref sig .tc .vmem S512x2048 .f32).view
/-- One staging buffer of output window 7, through which its contents are stated (any would do). -/
abbrev VO0_7 : View sig .tc .vmem S512x2048 .i8 := (Memref.whole cc0_stg7_0 : Memref sig .tc .vmem S512x2048 .i8).view
/-- One staging buffer of output window 8, through which its contents are stated (any would do). -/
abbrev VO0_8 : View sig .tc .vmem S128x128 .f32 := (Memref.whole cc0_stg8_0 : Memref sig .tc .vmem S128x128 .f32).view
/-- Each window's staging buffer at point `t`, and that it is a whole buffer. -/
abbrev ms0_0 (t : Fin cfg0.N) : Memref sig .tc .vmem S512x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x2048 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
/-- The scratch buffers, which are passed beside the windows. -/
abbrev scM0_0 : Memref sig .tc .vmem S512x2048 .bf16 := Memref.whole cc0_scratch0

/-- The part of the invariant that owns the scratch, buffer by buffer, each at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.OutIdeal.Run

end
-- ==== Proof.OutIdealCase.lean ====
/-
  The output projection `OutIdeal`: the run of its body.
-/
module

public import proofs.«01_k».proof.Proof.OutIdealShared

@[expose] public section

-- The cover checks walk long axes one step per coordinate,
-- so the recursion limit is raised.
set_option maxRecDepth 16384

noncomputable section

namespace Cert.OutIdeal.Run

open Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The proof term is large, so the step limit is raised.
set_option maxHeartbeats 1000000 in
/-- What the body's stores leave in each output, as lists of pieces with the last store first, together with the run of
    the body: from staging buffers that hold the input blocks the body reaches its end with the inputs unchanged and those
    pieces written. -/
noncomputable def kernelRun0_A (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) :
    Σ' (L6 : List (View.Piece (Elt F) S512x2048 .f32)), Σ' (L7 : List (View.Piece (Elt F) S512x2048 .i8)), Σ' (L8 : List (View.Piece (Elt F) S128x128 .f32)), { LT0 : List (View.Piece (Elt F) S512x2048 .bf16) //
      ∀ (E : Set ℕ) (y8 : Vec F S128x128 .f32) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare y8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread y8) L8) ∗ (∃ f, arg10.view.loc (c : Thread nD τ) ↦[arg10.view.set]{fullShare} arg10.view.writes (Elt F) f LT0)) -∗ K ⟨⟩))
          ⊢ wp frame (wpE (defs₀ (F := F)) Variants.none c none) E (cc0_outproj i arg1 harg1 arg2 harg2 arg3 harg3 arg4 harg4 arg5 harg5 arg6 harg6 arg7 harg7 arg8 harg8 arg9 harg9 arg10 harg10) K } := by
  refine ⟨?_, ?_, ?_, ?_, fun E y8 K => ?run⟩
  case run =>
    simp only [cc0_outproj_eq_skeleton]; unfold cc0_outproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexact H8
    iexists _; iexact HS0

end Cert.OutIdeal.Run

end
-- ==== Proof.OutIdealFrame.lean ====
/-
  The output projection `OutIdeal`: what its body leaves, the run of the whole program and its frame.
-/
module

public import proofs.«01_k».proof.Proof.OutIdealCase
public import proofs.«01_k».proof.Proof.Rows
public import proofs.«01_k».proof.Proof.Relational
public import Idealize.ShloMosaic.Lib.Claim

@[expose] public section

-- The cover checks walk long axes one step per coordinate,
-- so the recursion limit is raised.
set_option maxRecDepth 16384

noncomputable section

namespace Cert.OutIdeal.Run

open Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores into output 6 cover its block. -/
theorem cover0_A_6 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) (y : S512x2048.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5).1 S512x256.size (by sl_kernel_rfl) y

/-- What the body leaves in output 6: the stored pieces read back. -/
def out0_A_6 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) : Vec F S512x2048 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3 x4 x5).1)

/-- The stores into output 7 cover its block. -/
theorem cover0_A_7 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) (y : S512x2048.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5).2.1 S512x2048.size (by sl_kernel_rfl) y

/-- What the body leaves in output 7: the stored pieces read back. -/
def out0_A_7 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) : Vec F S512x2048 .i8 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4 x5).2.1)

/-- What the run leaves in output 8's staging buffer: the rows it stores read back, anything elsewhere. -/
def out0_A_8 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32) : Vec F S128x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 x0 x1 x2 x3 x4 x5).2.2.1)

/-- Over any view and any contents, the run's pieces for output 8 are the four rows `4 * i₀ … 4 * i₀ + 3`; every other row
    stays as it was. -/
theorem rows_A_8 (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
    (x0 : Vec F S512x2048 .i8) (x1 : Vec F S128x128 .f32) (x2 : Vec F S512x2048 .bf16) (x3 : Vec F S2048x2048 .i8) (x4 : Vec F S1x2048 .f32) (x5 : Vec F S1x2048 .f32)
    (v : View sig .tc .vmem S128x128 .f32) (f : v.ty.Contents (Elt F)) (y : S128x128.Idx) :
    v.read (Elt F) (v.writes (Elt F) f (kernelRun0_A c i arg1 harg1 arg2 harg2 arg3 harg3 arg4 harg4 arg5 harg5 arg6 harg6 arg7 harg7 arg8 harg8 arg9 harg9 arg10 harg10 x0 x1 x2 x3 x4 x5).2.2.1) y
      = if 4 * (i 0).val ≤ (y 0).val ∧ (y 0).val < 4 * (i 0).val + 4 then out0_A_8 c i arg1 harg1 arg2 harg2 arg3 harg3 arg4 harg4 arg5 harg5 arg6 harg6 arg7 harg7 arg8 harg8 arg9 harg9 arg10 harg10 x0 x1 x2 x3 x4 x5 y else v.read (Elt F) f y := by
  unfold out0_A_8 kernelRun0_A
  dsimp only
  have o := k0_off1_eq i
  refine (Cert.Rows.four_rows_list v f (4 * (i 0).val) (o 0) (o 1) (o 2) (o 3) y).trans ?_
  by_cases h : 4 * (i 0).val ≤ (y 0).val ∧ (y 0).val < 4 * (i 0).val + 4
  · rw [dif_pos h, if_pos h]
    refine Eq.symm ((Cert.Rows.four_rows_list VO0_8 VO0_8.junk (4 * (i 0).val) (o 0) (o 1) (o 2) (o 3) y).trans ?_)
    rw [dif_pos h]
  · rw [dif_neg h, if_neg h]

/-! ## What the outputs hold after each point -/

/-- What the first two outputs hold after the body at point `t`. -/
def outsAt0 (c : Dev nD) (t : Fin cfg0.N) : Vec F S512x2048 .f32 × Vec F S512x2048 .i8 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))

/-! ## The pipeline's proof data -/

/-- The windows held to a predicate, the three outputs. -/
def marked0 : Fin 9 → Bool := fun w => decide (6 ≤ w.val)

/-- The four rows of scales that point `t` stores (the other rows of this array mean nothing). -/
def scalesAt (c : Dev nD) (t : Fin cfg0.N) : Vec F S128x128 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)

/-- The contents `X` of the third output hold the scales of the first `n` points. -/
def HoldsRows (c : Dev nD) (n : ℕ) (X : Vec F S128x128 .f32) : Prop :=
  ∀ t : Fin cfg0.N, t.val < n → ∀ y : S128x128.Idx,
    4 * t.val ≤ (y 0).val → (y 0).val < 4 * t.val + 4 → X y = scalesAt m c t y

/-- What the body leaves in an output at point `t`: the first two outputs whole, of the third the rows stored so far. -/
def left0 (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => X = (outsAt0 m c t).1
  | ⟨7, _⟩ => fun X => X = (outsAt0 m c t).2
  | ⟨8, _⟩ => fun X => HoldsRows m c (t.val + 1) X

/-- The proof data of the pipeline on core `c`: the arrays as the call finds them, each input buffer at its block after
    the body at point `t`, and the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The arrays of the proof data are those the call finds, stated so that `V` need not be unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The grid coordinate of point `t`. -/
theorem coord0 (t : Fin cfg0.N) : (grid0.coords t 0).val = t.val :=
  (by decide +kernel : ∀ t : Fin grid0.N, (grid0.coords t 0).val = t.val) t

/-- Before a point the third output holds the rows of the points before it. -/
theorem holds_of_finds (c : Dev nD) (t : Fin cfg0.N) (Y : Vec F S128x128 .f32)
    (h : ((dats m 0 c).toRRel marked0 (left0 m c)).Finds 8 t Y) : HoldsRows m c t.val Y := by
  have hN : t.val < 32 := lt_of_lt_of_eq t.isLt (show cfg0.N = 32 from N_0)
  by_cases hz : t.val = 0
  · intro t' hlt
    rw [hz] at hlt
    exact absurd hlt (Nat.not_lt_zero _)
  · have hp : (cfg0.win 8).flush ⟨t.val - 1, Nat.lt_of_le_of_lt (Nat.sub_le _ _) t.isLt⟩ = false := by
      rw [← Bool.not_eq_true]
      intro hf
      have := (flush0_8 _).mp hf
      dsimp only at this
      omega
    have := Cert.Relational.finds_prev (dats m 0 c) marked0 (left0 m c) (w := 8) rfl rfl hz hp h
    have e : t.val - 1 + 1 = t.val := by omega
    have h' : HoldsRows m c (t.val - 1 + 1) Y := this
    rwa [e] at h'

/-- A point adds its four rows and leaves the others. -/
theorem holds_next (c : Dev nD) (t : Fin cfg0.N) (Y : Vec F S128x128 .f32) (h : HoldsRows m c t.val Y) :
    HoldsRows m c (t.val + 1) ((ms0_8 t).view.read (Elt F) ((ms0_8 t).view.writes (Elt F) ((hs0_8 t).unread Y)
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t)).2.2.1)) := by
  intro t' hlt y ha hb
  rw [rows_A_8, coord0, (hs0_8 t).read_unread]
  by_cases e : t' = t
  · subst e
    rw [if_pos ⟨ha, hb⟩]
    rfl
  · have : t'.val ≠ t.val := fun h => e (Fin.ext h)
    rw [if_neg (by omega)]
    exact h t' (by omega) y ha hb

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel marked0 (left0 m c)).Finds 6 t Y⌝ ∗ owns (c : Thread nD τ) (ms0_6 t) fullShare Y)
    ∗ (∃ Y, ⌜((dats m 0 c).toRRel marked0 (left0 m c)).Finds 7 t Y⌝ ∗ owns (c : Thread nD τ) (ms0_7 t) fullShare Y)
    ∗ (∃ Y, ⌜((dats m 0 c).toRRel marked0 (left0 m c)).Finds 8 t Y⌝ ∗ owns (c : Thread nD τ) (ms0_8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜left0 m c 6 t X⌝ ∗ owns (c : Thread nD τ) (ms0_6 t) fullShare X)
    ∗ (∃ X, ⌜left0 m c 7 t X⌝ ∗ owns (c : Thread nD τ) (ms0_7 t) fullShare X)
    ∗ (∃ X, ⌜left0 m c 8 t X⌝ ∗ owns (c : Thread nD τ) (ms0_8 t) fullShare X))

set_option maxHeartbeats 800000 in
/-- The body at any point: the input buffers hold their blocks, the run of the body applies, and the scratch is handed
    over and taken back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, %_hd6, H6⟩, ⟨%d7, %_hd7, H7⟩, ⟨%d8, %hd8, H8⟩⟩
  have hY := holds_of_finds m c t d8 hd8
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)).2.2.2.2 Set.univ d8 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS0]; · iexact HS0
  iintro ⟨H0, H1, H2, H3, H4, H5, ⟨%e6, H6⟩, ⟨%e7, H7⟩, H8, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap
    · unfold owns; iexists _; isplitr
      swap; · iexact H6
      ipureintro; rfl
    ipureintro
    show _ = (outsAt0 m c t).1
    unfold outsAt0
    dsimp only
    unfold out0_A_6
    exact View.read_writes_of_cover _ _ _ _ _ (cover0_A_6 c _ _ _ _ _ _ _ _ _ _ _ _ _ _ _ _ _ _ _ _ _ _ _ _ _ _ _)
  isplitl [H7]
  · iexists _; isplitr
    swap
    · unfold owns; iexists _; isplitr
      swap; · iexact H7
      ipureintro; rfl
    ipureintro
    show _ = (outsAt0 m c t).2
    unfold outsAt0
    dsimp only
    unfold out0_A_7
    exact View.read_writes_of_cover _ _ _ _ _ (cover0_A_7 c _ _ _ _ _ _ _ _ _ _ _ _ _ _ _ _ _ _ _ _ _ _ _ _ _ _ _)
  iexists _; isplitr
  swap
  · unfold owns; iexists _; isplitr
    swap; · iexact H8
    ipureintro; rfl
  ipureintro
  exact holds_next m c t d8 hY

/-- The body that the pipeline runs at point `t`, as `bodyAt0` spells it. -/
theorem defs₀_row (t : Fin cfg0.N) :
    defs₀ (F := F) .tc cfg0.body (cfg0.bodyArgs t (cfg0.slots t)) = bodyAt0 t := by
  unfold defs₀; rw [Defs.onTc_tc]

/-- The same in the form that the pipeline rule asks for, at every point. -/
theorem body_obligation (c : Dev nD) : BodyObligationRel (dats (F := F) m 0 c) (defs₀ (F := F)) Variants.none () Set.univ marked0 (left0 m c) := fun t => by
  rw [bigSep_W0, bigSep_W0, defs₀_row]
  exact triple_restated (sound_body m c t) rfl .rfl fun _ => .rfl

/-! ## The run and the frame -/

-- Finding the implicit arguments takes unfolding plain definitions in the types,
-- which this option allows.
set_option backward.isDefEq.respectTransparency.types false in
/-- The run of the whole program, with every semaphore counter at zero at its end. -/
theorem run_main_quiescent : θ_run defs (onTc (τ := τ) (main (F := F))) (s₀ m ρ) (fun r => (Pipeline.RDat.FramePost (cfgs 0) (fun c => (dats m 0 c).toRRel marked0 (left0 m c)) (V m)) r ∧ r.2.sem = fun _ => 0) :=
  Cert.Relational.run_rel cfgs (dats m) (0 : Fin 1) launch0 defs₀ Variants.none marked0 (left0 m) m ρ main
    (hbody := fun c => body_obligation m c) (hshare := fun c => (dats m 0 c).share_full fun _ => rfl)
    (howed := fun _ _ => rfl) (V := V m) (hmain := hmain m Variants.none) (hA := A_eq m) (hin := fun _ => .rfl) (hout := fun _ => .rfl)

/-- From any memory with zero counters every weakly fair execution of the program ends, the arrays end as the proof data
    say, and every other buffer is unchanged. -/
theorem run_main : θ_run defs (onTc (τ := τ) (main (F := F))) (s₀ m ρ) (Pipeline.RDat.FramePost (cfgs 0) (fun c => (dats m 0 c).toRRel marked0 (left0 m c)) (V m)) :=
  (θ_run defs _ _).mono (fun _ h => h.1) (run_main_quiescent m ρ)

/-- The arguments after a run: a staged input ends as the call found it, an array that no window stages is untouched. -/
theorem frame_of_rel (rdat : (c : Dev nD) → Pipeline.RDat τ (Elt F) Unit ℕ (UR sig nD τ) ℕ cfg0 c)
    (hA : ∀ c w, (rdat c).A w = V m c (Pipeline.arrRef spec0 w)) {r : PUnit × MemSt nD τ sig (Elt F)}
    (h : Pipeline.RDat.FramePost cfg0 rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((hA c 0).trans (V_main_arg0 m c)),
    (h.arr_in c 1 rfl).trans ((hA c 1).trans (V_main_arg1 m c)),
    (h.arr_in c 2 rfl).trans ((hA c 2).trans (V_main_arg2 m c)),
    (h.arr_in c 3 rfl).trans ((hA c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The same without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => frame_of_rel m _ (A_eq m) h c) (run_main m ρ)

/-- The frame: the program ends from any memory and leaves its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OutIdeal.Run

end
-- ==== Proof.OutPure.lean ====
/-
  What one block of the output projection computes, entry by entry.
-/
module

public import proofs.«01_k».proof.Proof.UpPure
public import proofs.«01_k».proof.Proof.Gen.OutIdeal.Skeleton

@[expose] public section

set_option maxRecDepth 16384

noncomputable section

namespace Cert.OutPure

open Idealize.ShloMosaic Idealize.ShloMosaic.TcCoe Idealize.SL.Sem
open Cert.DownPure (num)
open Cert.UpPure (scaleOf)

/-- The root mean square of a row of 2048 entries whose squares sum to `s`, with the small term added under the root. -/
def rmsOf (s : EReal) : EReal :=
  FloatOps.sqrt (F := Ideal) (φ := .f32) (FloatOps.addf (F := Ideal) (φ := .f32) (FloatOps.divf (F := Ideal) (φ := .f32) s (Scalar.ofBits (F := Ideal) .f32 0x45000000#32)) (Scalar.ofBits (F := Ideal) .f32 0x3727C5AC#32))

/-- The entry `h` of a row whose squares sum to `s`, normalised, times the gain `g`. -/
def normOf (h s g : EReal) : EReal := FloatOps.mulf (F := Ideal) (φ := .f32) (FloatOps.divf (F := Ideal) (φ := .f32) h (rmsOf s)) g

/-- The code of the entry `n` under the scale `s`. -/
def codeOf (n s : EReal) : BitVec 8 :=
  FloatOps.fptosi (F := Ideal) (φ := .f32) 8 (FloatOps.minimumf (F := Ideal) (φ := .f32) (Scalar.sitofp (F := Ideal) .f32 127#32) (FloatOps.maximumf (F := Ideal) (φ := .f32) (Scalar.sitofp (F := Ideal) .f32 4294967169#32) (FloatOps.roundeven (F := Ideal) (φ := .f32) (FloatOps.divf (F := Ideal) (φ := .f32) n s))))

/-- Sixteen terms in turn. -/
def sum16 (f : Fin 16 → EReal) : EReal := (((((((((((((((f 0 + f 1) + f 2) + f 3) + f 4) + f 5) + f 6) + f 7) + f 8) + f 9) + f 10) + f 11) + f 12) + f 13) + f 14) + f 15)

theorem sum16_eq (f : Fin 16 → EReal) : sum16 f = ∑ q : Fin 16, f q := by
  unfold sum16
  simp only [Fin.sum_univ_castSucc, Fin.sum_univ_zero, zero_add]
  rfl

theorem combine8_eq (g : Fin 8 → EReal) : SublaneAllReduce.combine8 (fun a b : EReal => a + b) g = ∑ q : Fin 8, g q := by
  rw [Fin.sum_univ_eight]
  unfold SublaneAllReduce.combine8
  dsimp only
  ac_rfl

/-- A sum over `a * b` terms in `a` stretches of `b`. -/
theorem sum_split (a b N : ℕ) (hN : a * b = N) (f : Fin N → EReal) :
    ∑ c : Fin b, ∑ q : Fin a, f ⟨b * q.val + c.val, by
      have := q.isLt; have := c.isLt
      calc b * q.val + c.val < b * q.val + b := by omega
        _ = b * (q.val + 1) := by ring
        _ ≤ b * a := Nat.mul_le_mul_left _ (by omega)
        _ = N := by rw [Nat.mul_comm]; exact hN⟩ = ∑ n : Fin N, f n := by
  subst hN
  rw [Finset.sum_comm]
  refine (Fintype.sum_prod_type' _).symm.trans ?_
  refine Fintype.sum_equiv finProdFinEquiv _ _ fun x => ?_
  refine congrArg f (Fin.ext ?_)
  show b * x.1.val + x.2.val = x.2.val + b * x.1.val
  omega

namespace K
open Cert.OutIdeal Cert.OutIdeal.Gen

/-! ## The projection and its residual -/

/-- The column block of the scales: in row `r` every lane holds lane `r % 128` of statistics row `r / 128`. -/
theorem col_apply (v0 v1 v2 v3 : Vec Ideal S1x128 .f32) (r : Fin 512) (l : Fin 256) :
    k0_pay4 (F := Ideal) v0 v1 v2 v3 (ix2 r l)
      = (![v0, v1, v2, v3] ⟨r.val / 128, by omega⟩) (ix2 0 ⟨r.val % 128, Nat.mod_lt _ (by decide)⟩) := by
  have one : ∀ v : Vec Ideal S1x128 .f32, ∀ a b : Fin 128,
      transpose S128x128 [1, 0] (concatenate S128x128 0 (List.replicate 16 (⟨S8x128, broadcastTo S8x128 (shapeCast S1x128 v shapeCasts_S1x128_S1x128) broadcasts_S1x128_S8x128⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128 (ix2 a b)
        = v (ix2 0 a) := by
    intro v a b
    have e := Columns.stack_apply (broadcastTo S8x128 (shapeCast S1x128 v shapeCasts_S1x128_S1x128) broadcasts_S1x128_S8x128) concatenates_S8x128_S8x128_S8x128_S8x128_S8x128_S8x128_S8x128_S8x128_S8x128_S8x128_S8x128_S8x128_S8x128_S8x128_S8x128_S8x128_S128x128_d0 b a
    generalize concatenate _ _ _ _ = st at e ⊢
    pointwise at e ⊢
    exact e
  have four := Columns.blocks_apply (M := 512) 4 (fun n => transpose S128x128 [1, 0] (concatenate S128x128 0 (List.replicate 16 (⟨S8x128, broadcastTo S8x128 (shapeCast S1x128 (![v0, v1, v2, v3] n) shapeCasts_S1x128_S1x128) broadcasts_S1x128_S8x128⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128)
    concatenates_S128x128_S128x128_S128x128_S128x128_S512x128_d0 r ⟨l.val % 128, Nat.mod_lt _ (by decide)⟩ ⟨r.val / 128, by omega⟩ rfl
  rw [one] at four
  rw [← four]
  unfold k0_pay4
  exact Columns.wide_apply (n := 256) 2 _ concatenates_S512x128_S512x128_S512x256_d1 r l

/-- One stretch of 256 columns of a block. -/
def chunk (v : Vec Ideal S512x256 .f32) (lhs : Vec Ideal S512x2048 .bf16) (w : Vec Ideal S2048x256 .i8) (x : Vec Ideal S512x256 .bf16)
    (s : Vec Ideal S1x256 .f32) : FVec Ideal S512x256 .f32 := k0_pay5 (F := Ideal) v lhs w x s

theorem chunk_apply (v : Vec Ideal S512x256 .f32) (lhs : Vec Ideal S512x2048 .bf16) (w : Vec Ideal S2048x256 .i8) (x : Vec Ideal S512x256 .bf16)
    (s : Vec Ideal S1x256 .f32) (r : Fin 512) (n : Fin 256) :
    chunk v lhs w x s (ix2 r n)
      = x (ix2 r n) + (∑ k : Fin 2048, lhs (ix2 r k) * num (w (ix2 k n))) * (v (ix2 r n) * s (ix2 0 n)) := by
  unfold chunk
  pointwise [k0_pay5]
  rfl

/-! ## The sum of the squares of a row -/

/-- The lane-wise sum of the sixteen stretches of 128 columns. -/
def lanes (w : FVec Ideal S512x2048 .f32) : FVec Ideal S512x128 .f32 :=
  (addf (addf (addf (addf (addf (addf (addf (addf (addf (addf (addf (addf (addf (addf (addf (extractStridedSlice S512x128 ![0, 0] w slices_S512x2048_o0_0_S512x128)
    (extractStridedSlice S512x128 ![0, 128] w slices_S512x2048_o0_128_S512x128))
    (extractStridedSlice S512x128 ![0, 256] w slices_S512x2048_o0_256_S512x128))
    (extractStridedSlice S512x128 ![0, 384] w slices_S512x2048_o0_384_S512x128))
    (extractStridedSlice S512x128 ![0, 512] w slices_S512x2048_o0_512_S512x128))
    (extractStridedSlice S512x128 ![0, 640] w slices_S512x2048_o0_640_S512x128))
    (extractStridedSlice S512x128 ![0, 768] w slices_S512x2048_o0_768_S512x128))
    (extractStridedSlice S512x128 ![0, 896] w slices_S512x2048_o0_896_S512x128))
    (extractStridedSlice S512x128 ![0, 1024] w slices_S512x2048_o0_1024_S512x128))
    (extractStridedSlice S512x128 ![0, 1152] w slices_S512x2048_o0_1152_S512x128))
    (extractStridedSlice S512x128 ![0, 1280] w slices_S512x2048_o0_1280_S512x128))
    (extractStridedSlice S512x128 ![0, 1408] w slices_S512x2048_o0_1408_S512x128))
    (extractStridedSlice S512x128 ![0, 1536] w slices_S512x2048_o0_1536_S512x128))
    (extractStridedSlice S512x128 ![0, 1664] w slices_S512x2048_o0_1664_S512x128))
    (extractStridedSlice S512x128 ![0, 1792] w slices_S512x2048_o0_1792_S512x128))
    (extractStridedSlice S512x128 ![0, 1920] w slices_S512x2048_o0_1920_S512x128))

theorem lanes_apply (w : FVec Ideal S512x2048 .f32) (r : Fin 512) (l : Fin 128) :
    lanes w (ix2 r l) = ∑ q : Fin 16, w (ix2 r ⟨128 * q.val + l.val, by omega⟩) := by
  rw [← sum16_eq fun q : Fin 16 => w (ix2 r ⟨128 * q.val + l.val, by omega⟩)]
  unfold lanes sum16
  pointwise

/-- The sum of the sixteen eight-row slices of a square. -/
def slices (w : FVec Ideal S128x128 .f32) : FVec Ideal S8x128 .f32 :=
  (addf (addf (addf (addf (addf (addf (addf (addf (addf (addf (addf (addf (addf (addf (addf (extractStridedSlice S8x128 ![0, 0] w slices_S128x128_o0_0_S8x128)
    (extractStridedSlice S8x128 ![8, 0] w slices_S128x128_o8_0_S8x128))
    (extractStridedSlice S8x128 ![16, 0] w slices_S128x128_o16_0_S8x128))
    (extractStridedSlice S8x128 ![24, 0] w slices_S128x128_o24_0_S8x128))
    (extractStridedSlice S8x128 ![32, 0] w slices_S128x128_o32_0_S8x128))
    (extractStridedSlice S8x128 ![40, 0] w slices_S128x128_o40_0_S8x128))
    (extractStridedSlice S8x128 ![48, 0] w slices_S128x128_o48_0_S8x128))
    (extractStridedSlice S8x128 ![56, 0] w slices_S128x128_o56_0_S8x128))
    (extractStridedSlice S8x128 ![64, 0] w slices_S128x128_o64_0_S8x128))
    (extractStridedSlice S8x128 ![72, 0] w slices_S128x128_o72_0_S8x128))
    (extractStridedSlice S8x128 ![80, 0] w slices_S128x128_o80_0_S8x128))
    (extractStridedSlice S8x128 ![88, 0] w slices_S128x128_o88_0_S8x128))
    (extractStridedSlice S8x128 ![96, 0] w slices_S128x128_o96_0_S8x128))
    (extractStridedSlice S8x128 ![104, 0] w slices_S128x128_o104_0_S8x128))
    (extractStridedSlice S8x128 ![112, 0] w slices_S128x128_o112_0_S8x128))
    (extractStridedSlice S8x128 ![120, 0] w slices_S128x128_o120_0_S8x128))

/-- The eight rows of a slice, summed into one that every row holds. -/
def rolled (x : FVec Ideal S8x128 .f32) : FVec Ideal S8x128 .f32 :=
  (addf (addf (addf x (dynamicRotate 0 4#32 none x rotates_S8x128_d0)) (dynamicRotate 0 2#32 none (addf x (dynamicRotate 0 4#32 none x rotates_S8x128_d0)) rotates_S8x128_d0)) (dynamicRotate 0 1#32 none (addf (addf x (dynamicRotate 0 4#32 none x rotates_S8x128_d0)) (dynamicRotate 0 2#32 none (addf x (dynamicRotate 0 4#32 none x rotates_S8x128_d0)) rotates_S8x128_d0)) rotates_S8x128_d0))

theorem slices_apply (w : FVec Ideal S128x128 .f32) (k : Fin 8) (l : Fin 128) :
    slices w (ix2 k l) = ∑ q : Fin 16, w (ix2 ⟨8 * q.val + k.val, by omega⟩ l) := by
  rw [← sum16_eq fun q : Fin 16 => w (ix2 ⟨8 * q.val + k.val, by omega⟩ l)]
  unfold slices sum16
  pointwise

theorem rolled_apply (x : FVec Ideal S8x128 .f32) (k : Fin 8) (l : Fin 128) : rolled x (ix2 k l) = ∑ q : Fin 8, x (ix2 q l) := by
  rw [← combine8_eq]
  exact SublaneAllReduce.sublaneAllReduce_apply (fun a b : EReal => a + b) rotates_S8x128_d0 x k l

theorem square_apply (w : FVec Ideal S128x128 .f32) (k : Fin 8) (l : Fin 128) :
    rolled (slices (transpose S128x128 [1, 0] w transposes_S128x128_p1_0_S128x128)) (ix2 k l) = ∑ c : Fin 128, w (ix2 l c) := by
  rw [rolled_apply]
  have t : ∀ a b : Fin 128, transpose S128x128 [1, 0] w transposes_S128x128_p1_0_S128x128 (ix2 a b) = w (ix2 b a) := by
    intro a b
    pointwise
  simp only [slices_apply, t]
  exact sum_split 16 8 128 rfl fun c => w (ix2 l c)

/-- The sums of the rows of the `q`-th square. -/
def total (v : FVec Ideal S512x128 .f32) (q : Fin 4) : FVec Ideal S8x128 .f32 :=
  ![rolled (slices (transpose S128x128 [1, 0] (extractStridedSlice S128x128 ![0, 0] v slices_S512x128_o0_0_S128x128) transposes_S128x128_p1_0_S128x128)),
    k0_pay24 (k0_pay22 v) (k0_pay23 v), k0_pay26 (k0_pay25 v), k0_pay27 v] q

theorem total_apply (v : FVec Ideal S512x128 .f32) (q : Fin 4) (k : Fin 8) (l : Fin 128) :
    total v q (ix2 k l) = ∑ c : Fin 128, v (ix2 ⟨128 * q.val + l.val, by omega⟩ c) := by
  have s : ∀ (o : Fin 4) (h : S512x128.Slices ![128 * o.val, 0] S128x128) (w : FVec Ideal S8x128 .f32),
      w = rolled (slices (transpose S128x128 [1, 0] (extractStridedSlice S128x128 ![128 * o.val, 0] v h) transposes_S128x128_p1_0_S128x128)) →
      w (ix2 k l) = ∑ c : Fin 128, v (ix2 ⟨128 * o.val + l.val, by omega⟩ c) := by
    intro o h w hw
    rw [hw, square_apply]
    refine Finset.sum_congr rfl fun c _ => ?_
    pointwise
  match q with
  | 0 => exact s 0 slices_S512x128_o0_0_S128x128 _ rfl
  | 1 => exact s 1 slices_S512x128_o128_0_S128x128 _ rfl
  | 2 => exact s 2 slices_S512x128_o256_0_S128x128 _ rfl
  | 3 => exact s 3 slices_S512x128_o384_0_S128x128 _ rfl

/-- The sums of the squares of the rows of the `q`-th quarter of a block. -/
def squares (v : FVec Ideal S512x2048 .f32) (q : Fin 4) : FVec Ideal S8x128 .f32 := total (lanes (mulf v v)) q

theorem squares_apply (v : FVec Ideal S512x2048 .f32) (q : Fin 4) (k : Fin 8) (l : Fin 128) :
    squares v q (ix2 k l) = ∑ n : Fin 2048, v (ix2 ⟨128 * q.val + l.val, by omega⟩ n) * v (ix2 ⟨128 * q.val + l.val, by omega⟩ n) := by
  unfold squares
  rw [total_apply]
  simp only [lanes_apply]
  exact sum_split 16 128 2048 rfl fun n => v (ix2 ⟨128 * q.val + l.val, by omega⟩ n) * v (ix2 ⟨128 * q.val + l.val, by omega⟩ n)

theorem squares_pay (v : FVec Ideal S512x2048 .f32) :
    k0_pay21 (k0_pay19 v) (k0_pay20 v) = squares v 0 ∧ k0_pay24 (k0_pay22 (k0_pay18 v)) (k0_pay23 (k0_pay18 v)) = squares v 1
      ∧ k0_pay26 (k0_pay25 (k0_pay18 v)) = squares v 2 ∧ k0_pay27 (k0_pay18 v) = squares v 3 := by
  have e : k0_pay18 v = lanes (mulf v v) := by
    unfold k0_pay18 k0_pay16
    dsimp only
    rw [shapeCast_self]
    rfl
  refine ⟨?_, ?_, ?_, ?_⟩
  · unfold k0_pay20 k0_pay19
    rw [e]
    rfl
  · rw [e]; rfl
  · rw [e]; rfl
  · rw [e]; rfl

/-! ## The normalised entries -/

/-- The stack of sixteen copies of a row of eight equal rows, turned. -/
theorem turned (x : FVec Ideal S8x128 .f32) (a b : Fin 128) :
    transpose S128x128 [1, 0] (concatenate S128x128 0 (List.replicate 16 (⟨S8x128, x⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128 (ix2 a b)
      = x (ix2 ⟨b.val % 8, Nat.mod_lt _ (by decide)⟩ a) := by
  have e := Columns.stack_apply x concatenates_S8x128_S8x128_S8x128_S8x128_S8x128_S8x128_S8x128_S8x128_S8x128_S8x128_S8x128_S8x128_S8x128_S8x128_S8x128_S8x128_S128x128_d0 b a
  generalize concatenate _ _ _ _ = st at e ⊢
  pointwise at e ⊢
  exact e

/-- Four turned stacks below each other, sixteen times side by side. -/
def wide (f : Fin 4 → FVec Ideal S8x128 .f32) : FVec Ideal S512x2048 .f32 :=
  concatenate S512x2048 1 (List.replicate 16 (⟨S512x128, concatenate S512x128 0 (List.ofFn fun n : Fin 4 => (⟨S128x128, transpose S128x128 [1, 0] (concatenate S128x128 0 (List.replicate 16 (⟨S8x128, f n⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128⟩ : (s : Shape) × (s.Idx → EReal))) concatenates_S128x128_S128x128_S128x128_S128x128_S512x128_d0⟩ : (s : Shape) × (s.Idx → EReal))) concatenates_S512x128_S512x128_S512x128_S512x128_S512x128_S512x128_S512x128_S512x128_S512x128_S512x128_S512x128_S512x128_S512x128_S512x128_S512x128_S512x128_S512x2048_d1

theorem wide_apply (f : Fin 4 → FVec Ideal S8x128 .f32) (r : Fin 512) (n : Fin 2048) :
    wide f (ix2 r n) = f ⟨r.val / 128, by omega⟩ (ix2 ⟨n.val % 128 % 8, Nat.mod_lt _ (by decide)⟩ ⟨r.val % 128, Nat.mod_lt _ (by decide)⟩) := by
  unfold wide
  rw [Columns.wide_apply (n := 2048) 16]
  rw [Columns.blocks_apply (M := 512) 4 (fun n => transpose S128x128 [1, 0] (concatenate S128x128 0 (List.replicate 16 (⟨S8x128, f n⟩ : (s : Shape) × (s.Idx → EReal))) concatenates_S8x128_S8x128_S8x128_S8x128_S8x128_S8x128_S8x128_S8x128_S8x128_S8x128_S8x128_S8x128_S8x128_S8x128_S8x128_S8x128_S128x128_d0) transposes_S128x128_p1_0_S128x128)
    concatenates_S128x128_S128x128_S128x128_S128x128_S512x128_d0 r ⟨n.val % 128, Nat.mod_lt _ (by decide)⟩ ⟨r.val / 128, by omega⟩ rfl]
  exact turned _ _ _

/-- The root mean squares from the sums of squares. -/
def rms (x : FVec Ideal S8x128 .f32) : FVec Ideal S8x128 .f32 :=
  sqrt (addf (divf x (broadcast S8x128 (Scalar.ofBits (F := Ideal) .f32 0x45000000#32))) (broadcast S8x128 (Scalar.ofBits (F := Ideal) .f32 0x3727C5AC#32)))

/-- The normalised block, as the body computes it. -/
def nrm (v : FVec Ideal S512x2048 .f32) (g : Vec Ideal S1x2048 .f32) : FVec Ideal S512x2048 .f32 :=
  k0_pay30 (k0_pay16 v) (k0_pay17 g) (squares v 2) (squares v 3) (k0_pay28 (squares v 0)) (k0_pay29 (squares v 1)) (Scalar.ofBits .f32 0x45000000#32)

theorem nrm_apply (v : FVec Ideal S512x2048 .f32) (g : Vec Ideal S1x2048 .f32) (r : Fin 512) (n : Fin 2048) :
    nrm v g (ix2 r n) = normOf (v (ix2 r n)) (∑ k : Fin 2048, v (ix2 r k) * v (ix2 r k)) (g (ix2 0 n)) := by
  have e : nrm v g = mulf (divf v (wide fun q => rms (squares v q))) (broadcastTo S512x2048 g broadcasts_S1x2048_S512x2048) := by
    unfold nrm k0_pay16 k0_pay17
    rw [shapeCast_self, shapeCast_self]
    rfl
  have w : wide (fun q => rms (squares v q)) (ix2 r n) = rmsOf (∑ k : Fin 2048, v (ix2 r k) * v (ix2 r k)) := by
    rw [wide_apply]
    show rmsOf (squares v _ (ix2 _ _)) = _
    rw [squares_apply]
    have : (⟨128 * (r.val / 128) + r.val % 128, by omega⟩ : Fin 512) = r := Fin.ext (by show 128 * (r.val / 128) + r.val % 128 = r.val; omega)
    dsimp only
    rw [this]
  have b : broadcastTo S512x2048 g broadcasts_S1x2048_S512x2048 (ix2 r n) = g (ix2 0 n) := by pointwise
  rw [e]
  unfold normOf
  rw [← w, ← b]
  rfl

/-! ## The largest magnitude of a row -/

/-- The lane-wise larger of the sixteen stretches of 128 columns. -/
def lanesMax (w : FVec Ideal S512x2048 .f32) : FVec Ideal S512x128 .f32 :=
  (maximumf (maximumf (maximumf (maximumf (maximumf (maximumf (maximumf (maximumf (maximumf (maximumf (maximumf (maximumf (maximumf (maximumf (maximumf (extractStridedSlice S512x128 ![0, 0] w slices_S512x2048_o0_0_S512x128)
    (extractStridedSlice S512x128 ![0, 128] w slices_S512x2048_o0_128_S512x128))
    (extractStridedSlice S512x128 ![0, 256] w slices_S512x2048_o0_256_S512x128))
    (extractStridedSlice S512x128 ![0, 384] w slices_S512x2048_o0_384_S512x128))
    (extractStridedSlice S512x128 ![0, 512] w slices_S512x2048_o0_512_S512x128))
    (extractStridedSlice S512x128 ![0, 640] w slices_S512x2048_o0_640_S512x128))
    (extractStridedSlice S512x128 ![0, 768] w slices_S512x2048_o0_768_S512x128))
    (extractStridedSlice S512x128 ![0, 896] w slices_S512x2048_o0_896_S512x128))
    (extractStridedSlice S512x128 ![0, 1024] w slices_S512x2048_o0_1024_S512x128))
    (extractStridedSlice S512x128 ![0, 1152] w slices_S512x2048_o0_1152_S512x128))
    (extractStridedSlice S512x128 ![0, 1280] w slices_S512x2048_o0_1280_S512x128))
    (extractStridedSlice S512x128 ![0, 1408] w slices_S512x2048_o0_1408_S512x128))
    (extractStridedSlice S512x128 ![0, 1536] w slices_S512x2048_o0_1536_S512x128))
    (extractStridedSlice S512x128 ![0, 1664] w slices_S512x2048_o0_1664_S512x128))
    (extractStridedSlice S512x128 ![0, 1792] w slices_S512x2048_o0_1792_S512x128))
    (extractStridedSlice S512x128 ![0, 1920] w slices_S512x2048_o0_1920_S512x128))

theorem lanesMax_le (w : FVec Ideal S512x2048 .f32) (r : Fin 512) (l : Fin 128) (b : EReal) :
    lanesMax w (ix2 r l) ≤ b ↔ ∀ q : Fin 16, w (ix2 r ⟨128 * q.val + l.val, by omega⟩) ≤ b := by
  have e : lanesMax w (ix2 r l) = Cert.UpPure.K.max16 fun q : Fin 16 => w (ix2 r ⟨128 * q.val + l.val, by omega⟩) := by
    unfold lanesMax Cert.UpPure.K.max16
    pointwise
  rw [e, Cert.UpPure.K.max16_le]

/-- The larger of the sixteen eight-row slices of a square. -/
def slicesMax (w : FVec Ideal S128x128 .f32) : FVec Ideal S8x128 .f32 :=
  (maximumf (maximumf (maximumf (maximumf (maximumf (maximumf (maximumf (maximumf (maximumf (maximumf (maximumf (maximumf (maximumf (maximumf (maximumf (extractStridedSlice S8x128 ![0, 0] w slices_S128x128_o0_0_S8x128)
    (extractStridedSlice S8x128 ![8, 0] w slices_S128x128_o8_0_S8x128))
    (extractStridedSlice S8x128 ![16, 0] w slices_S128x128_o16_0_S8x128))
    (extractStridedSlice S8x128 ![24, 0] w slices_S128x128_o24_0_S8x128))
    (extractStridedSlice S8x128 ![32, 0] w slices_S128x128_o32_0_S8x128))
    (extractStridedSlice S8x128 ![40, 0] w slices_S128x128_o40_0_S8x128))
    (extractStridedSlice S8x128 ![48, 0] w slices_S128x128_o48_0_S8x128))
    (extractStridedSlice S8x128 ![56, 0] w slices_S128x128_o56_0_S8x128))
    (extractStridedSlice S8x128 ![64, 0] w slices_S128x128_o64_0_S8x128))
    (extractStridedSlice S8x128 ![72, 0] w slices_S128x128_o72_0_S8x128))
    (extractStridedSlice S8x128 ![80, 0] w slices_S128x128_o80_0_S8x128))
    (extractStridedSlice S8x128 ![88, 0] w slices_S128x128_o88_0_S8x128))
    (extractStridedSlice S8x128 ![96, 0] w slices_S128x128_o96_0_S8x128))
    (extractStridedSlice S8x128 ![104, 0] w slices_S128x128_o104_0_S8x128))
    (extractStridedSlice S8x128 ![112, 0] w slices_S128x128_o112_0_S8x128))
    (extractStridedSlice S8x128 ![120, 0] w slices_S128x128_o120_0_S8x128))

/-- The eight rows of a slice, reduced to one that every row holds. -/
def rolledMax (x : FVec Ideal S8x128 .f32) : FVec Ideal S8x128 .f32 :=
  (maximumf (maximumf (maximumf x (dynamicRotate 0 4#32 none x rotates_S8x128_d0)) (dynamicRotate 0 2#32 none (maximumf x (dynamicRotate 0 4#32 none x rotates_S8x128_d0)) rotates_S8x128_d0)) (dynamicRotate 0 1#32 none (maximumf (maximumf x (dynamicRotate 0 4#32 none x rotates_S8x128_d0)) (dynamicRotate 0 2#32 none (maximumf x (dynamicRotate 0 4#32 none x rotates_S8x128_d0)) rotates_S8x128_d0)) rotates_S8x128_d0))

theorem squareMax_le (w : FVec Ideal S128x128 .f32) (k : Fin 8) (l : Fin 128) (b : EReal) :
    rolledMax (slicesMax (transpose S128x128 [1, 0] w transposes_S128x128_p1_0_S128x128)) (ix2 k l) ≤ b ↔ ∀ c : Fin 128, w (ix2 l c) ≤ b :=
  Cert.UpPure.K.square_le w k l b

/-- The largest entries of the rows of the `q`-th square. -/
def top (v : FVec Ideal S512x128 .f32) (q : Fin 4) : FVec Ideal S8x128 .f32 :=
  ![k0_pay33 (transpose S128x128 [1, 0] (extractStridedSlice S128x128 ![0, 0] v slices_S512x128_o0_0_S128x128) transposes_S128x128_p1_0_S128x128),
    k0_pay37 (k0_pay34 v) (k0_pay35 v) (k0_pay36 v), k0_pay40 (k0_pay38 v) (k0_pay39 v), k0_pay41 v] q

theorem top_le (v : FVec Ideal S512x128 .f32) (q : Fin 4) (k : Fin 8) (l : Fin 128) (b : EReal) :
    top v q (ix2 k l) ≤ b ↔ ∀ c : Fin 128, v (ix2 ⟨128 * q.val + l.val, by omega⟩ c) ≤ b := by
  have s : ∀ (o : Fin 4) (h : S512x128.Slices ![128 * o.val, 0] S128x128) (w : FVec Ideal S8x128 .f32),
      w = rolledMax (slicesMax (transpose S128x128 [1, 0] (extractStridedSlice S128x128 ![128 * o.val, 0] v h) transposes_S128x128_p1_0_S128x128)) →
      (w (ix2 k l) ≤ b ↔ ∀ c : Fin 128, v (ix2 ⟨128 * o.val + l.val, by omega⟩ c) ≤ b) := by
    intro o h w hw
    rw [hw, squareMax_le]
    refine forall_congr' fun c => ?_
    have : extractStridedSlice S128x128 ![128 * o.val, 0] v h (ix2 l c) = v (ix2 ⟨128 * o.val + l.val, by omega⟩ c) := by
      pointwise
    rw [this]
  match q with
  | 0 => exact s 0 slices_S512x128_o0_0_S128x128 _ rfl
  | 1 => exact s 1 slices_S512x128_o128_0_S128x128 _ rfl
  | 2 => exact s 2 slices_S512x128_o256_0_S128x128 _ rfl
  | 3 => exact s 3 slices_S512x128_o384_0_S128x128 _ rfl

/-- The largest magnitudes of the rows of the `q`-th quarter of a block. -/
def tops (v : FVec Ideal S512x2048 .f32) (q : Fin 4) : FVec Ideal S8x128 .f32 := top (lanesMax (absf v)) q

theorem tops_le (v : FVec Ideal S512x2048 .f32) (q : Fin 4) (k : Fin 8) (l : Fin 128) (b : EReal) :
    tops v q (ix2 k l) ≤ b ↔ ∀ n : Fin 2048, max (v (ix2 ⟨128 * q.val + l.val, by omega⟩ n)) (-v (ix2 ⟨128 * q.val + l.val, by omega⟩ n)) ≤ b := by
  unfold tops
  rw [top_le]
  simp only [lanesMax_le]
  constructor
  · intro h n
    have := h ⟨n.val % 128, Nat.mod_lt _ (by decide)⟩ ⟨n.val / 128, by omega⟩
    have e : (⟨128 * (n.val / 128) + n.val % 128, by omega⟩ : Fin 2048) = n := Fin.ext (by show 128 * (n.val / 128) + n.val % 128 = n.val; omega)
    rw [← e]; exact this
  · intro h c p
    exact h _

/-! ## The scales and the codes -/

/-- The scales from the largest magnitudes. -/
def scales (x : FVec Ideal S8x128 .f32) : FVec Ideal S8x128 .f32 :=
  select (cmpf .oeq x (broadcast S8x128 (Scalar.ofBits (F := Ideal) .f32 0x00000000#32))) (broadcast S8x128 (Scalar.ofBits (F := Ideal) .f32 0x3F800000#32)) (divf x (broadcast S8x128 (Scalar.ofBits (F := Ideal) .f32 0x42FE0000#32)))

/-- The row of scales of the `q`-th quarter of a block, as it is stored. -/
def scaleRow (t : Fin 4 → FVec Ideal S8x128 .f32) (q : Fin 4) : FVec Ideal S1x128 .f32 :=
  ![k0_pay49 (k0_pay42 (t 0)), k0_pay50 (t 1) (k0_pay43 (t 1)) k0_pay44, k0_pay1 (k0_pay46 (t 2)), k0_pay2 (k0_pay47 (t 3))] q

theorem scaleRow_apply (t : Fin 4 → FVec Ideal S8x128 .f32) (q : Fin 4) (l : Fin 128) : scaleRow t q (ix2 0 l) = scaleOf (t q (ix2 0 l)) := by
  have s : ∀ x : FVec Ideal S8x128 .f32, extractStridedSlice S1x128 ![0, 0] (scales x) slices_S8x128_o0_0_S1x128 (ix2 0 l) = scaleOf (x (ix2 0 l)) := by
    intro x
    have : extractStridedSlice S1x128 ![0, 0] (scales x) slices_S8x128_o0_0_S1x128 (ix2 0 l) = scales x (ix2 0 l) := by
      generalize scales x = y
      pointwise
    rw [this]
    rfl
  match q with
  | 0 => exact s (t 0)
  | 1 => exact s (t 1)
  | 2 => exact s (t 2)
  | 3 => exact s (t 3)

/-- The codes of a block, from its normalised entries and the largest magnitudes of its rows. -/
def codes (v : FVec Ideal S512x2048 .f32) (t : Fin 4 → FVec Ideal S8x128 .f32) : IVec S512x2048 8 :=
  k0_pay48 v (t 1) (t 2) (t 3) (k0_pay42 (t 0)) (k0_pay43 (t 1)) k0_pay44

theorem codes_apply (v : FVec Ideal S512x2048 .f32) (t : Fin 4 → FVec Ideal S8x128 .f32) (r : Fin 512) (n : Fin 2048) :
    codes v t (ix2 r n) = codeOf (v (ix2 r n)) (scaleOf (t ⟨r.val / 128, by omega⟩ (ix2 ⟨n.val % 128 % 8, Nat.mod_lt _ (by decide)⟩ ⟨r.val % 128, Nat.mod_lt _ (by decide)⟩))) := by
  have e : codes v t (ix2 r n) = codeOf (v (ix2 r n)) (wide (fun q => scales (t q)) (ix2 r n)) := rfl
  rw [e, wide_apply]
  rfl

end K

end Cert.OutPure

end
-- ==== Proof.OutBlock.lean ====
/-
  What the body of the output projection leaves at a grid point, from the blocks it reads.
-/
module

public import proofs.«01_k».proof.Proof.OutPure
public import proofs.«01_k».proof.Proof.Tiles
public import proofs.«01_k».proof.Proof.OutIdealFrame

@[expose] public section

set_option maxRecDepth 16384

noncomputable section

namespace Cert.OutBlock

open Cert.OutIdeal Cert.OutIdeal.Gen Cert.OutIdeal.Run Idealize.ShloMosaic Idealize.ShloMosaic.TcCoe Idealize.SL.Sem
open Cert.OutPure.K

variable (c : Dev nD) (i : grid0.Coords) (arg1 : Memref sig .tc .vmem S512x2048 .i8) (harg1 : arg1.IsWhole) (arg2 : Memref sig .tc .vmem S128x128 .f32) (harg2 : arg2.IsWhole) (arg3 : Memref sig .tc .vmem S512x2048 .bf16) (harg3 : arg3.IsWhole) (arg4 : Memref sig .tc .vmem S2048x2048 .i8) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .i8) (harg8 : arg8.IsWhole) (arg9 : Memref sig .tc .vmem S128x128 .f32) (harg9 : arg9.IsWhole) (arg10 : Memref sig .tc .vmem S512x2048 .bf16) (harg10 : arg10.IsWhole)
variable (x0 : Vec Ideal S512x2048 .i8) (x1 : Vec Ideal S128x128 .f32) (x2 : Vec Ideal S512x2048 .bf16) (x3 : Vec Ideal S2048x2048 .i8) (x4 : Vec Ideal S1x2048 .f32) (x5 : Vec Ideal S1x2048 .f32)

theorem hz : (![0, 0] : Fin 2 → Nat) = fun _ => 0 := funext fun a => by fin_cases a <;> rfl

/-- Row `k` of the 128 × 128 statistics. -/
def statRow (x1 : Vec Ideal S128x128 .f32) (k : Nat) (hk : k < 128) : Vec Ideal S1x128 .f32 := fun j => x1 (ix2 ⟨k, hk⟩ (j 1))

/-- The column block of the scales of the rows of block `b`. -/
def col (x1 : Vec Ideal S128x128 .f32) (b : Nat) (hb : b < 32) : Vec Ideal S512x256 .f32 :=
  k0_pay4 (statRow x1 (4 * b + 0) (by omega)) (statRow x1 (4 * b + 1) (by omega)) (statRow x1 (4 * b + 2) (by omega)) (statRow x1 (4 * b + 3) (by omega))

theorem coord_lt (i : grid0.Coords) : (i 0).val < 32 := (i 0).isLt

/-- A row of the statistics loaded at the row the grid coordinate and `k` name. -/
theorem row_eq (k : Fin 4) (inb) :
    View.readAt (Elt Ideal) arg2.view (Rect.unit (s := S128x128) (k0_off1 i (BitVec.ofNat 32 k.val)) S1x128.size inb).toLoadRect (harg2.unread x1)
      = statRow x1 (4 * (i 0).val + k.val) (by have := coord_lt i; omega) := by
  rw [View.readAt_eq_ld, harg2.read_unread]
  funext j
  show x1 ((Rect.unit (s := S128x128) (k0_off1 i (BitVec.ofNat 32 k.val)) S1x128.size inb).idx j) = x1 (ix2 ⟨_, _⟩ (j 1))
  congr 1
  funext a
  apply Fin.ext
  have e0 : k0_off1 i (BitVec.ofNat 32 k.val) 0 = 4 * (i 0).val + k.val := congrFun (k0_off1_eq i k) 0
  have e1 : k0_off1 i (BitVec.ofNat 32 k.val) 1 = 0 := congrFun (k0_off1_eq i k) 1
  match a with
  | ⟨0, _⟩ =>
    have hj : (j 0).val < 1 := (j 0).isLt
    show k0_off1 i (BitVec.ofNat 32 k.val) 0 + 1 * (j 0).val = 4 * (i 0).val + k.val
    omega
  | ⟨1, _⟩ =>
    show k0_off1 i (BitVec.ofNat 32 k.val) 1 + 1 * (j 1).val = (j 1).val
    omega

/-- The `q`-th stretch of 256 columns of an array of 2048 columns. -/
def cut {R : Nat} {e : EltTy} (x : Vec Ideal ⟨2, ![R, 2048]⟩ e) (q : Fin 8) : Vec Ideal ⟨2, ![R, 256]⟩ e :=
  fun j => x (ix2 (j 0) ⟨256 * q.val + (j 1).val, by have h : (j 1).val < 256 := (j 1).isLt; omega⟩)

theorem cut_eq {R : Nat} {e : EltTy} (a : Memref sig .tc .vmem ⟨2, ![R, 2048]⟩ e) (ha : a.IsWhole) (x : Vec Ideal ⟨2, ![R, 2048]⟩ e) (q : Fin 8) (o : Nat) (ho : o = 256 * q.val) (inb) :
    View.readAt (Elt Ideal) a.view (Rect.unit (s := ⟨2, ![R, 2048]⟩) ![0, o] ![R, 256] inb).toLoadRect (ha.unread x) = cut x q := by
  rw [View.readAt_eq_ld, ha.read_unread]
  funext j
  show x ((Rect.unit (s := ⟨2, ![R, 2048]⟩) ![0, o] ![R, 256] inb).idx j) = x (ix2 (j 0) ⟨_, _⟩)
  congr 1
  funext b
  apply Fin.ext
  match b with
  | ⟨0, _⟩ => show 0 + 1 * (j 0).val = (j 0).val; omega
  | ⟨1, _⟩ => show o + 1 * (j 1).val = 256 * q.val + (j 1).val; omega

theorem whole_eq {S : Shape} {e : EltTy} (a : Memref sig .tc .vmem S e) (ha : a.IsWhole) (x : Vec Ideal S e) {off : Fin S.rank → Nat} (h : off = fun _ => 0) (inb) :
    View.readAt (Elt Ideal) a.view (Rect.unit (s := S) off S.size inb).toLoadRect (ha.unread x) = x := by
  rw [View.readAt_eq_ld, ha.read_unread, View.ld_unit_zero h]

/-- The `q`-th stretch of a block. -/
def part (v : Vec Ideal S512x256 .f32) (q : Fin 8) : Vec Ideal S512x256 .f32 :=
  chunk v (k0_pay3 x0) (cut x3 q) (cut x2 q) (cut x4 q)

/-- Eight stretches of 256 columns side by side. -/
def tiles (w : Fin 8 → Vec Ideal S512x256 .f32) : Vec Ideal S512x2048 .f32 :=
  fun y => w ⟨(y 1).val / 256, Tiles.tileH_lt y⟩ (Tiles.innerH y)

/-- A block of the projection and its residual. -/
def blockH (v : Vec Ideal S512x256 .f32) : Vec Ideal S512x2048 .f32 := tiles (part x0 x2 x3 x4 v)

/-- The stretches stored are the stretches of the block. -/
theorem colpart (q : Fin 8) {v0 v1 v2 v3 u0 u1 u2 u3 : Vec Ideal S1x128 .f32} (h0 : v0 = u0) (h1 : v1 = u1) (h2 : v2 = u2) (h3 : v3 = u3) :
    k0_pay5 (k0_pay4 v0 v1 v2 v3) (k0_pay3 x0) (cut x3 q) (cut x2 q) (cut x4 q) = part x0 x2 x3 x4 (k0_pay4 u0 u1 u2 u3) q := by
  rw [h0, h1, h2, h3]
  rfl

/-- A load of the whole buffer after the eight stores. -/
theorem full_read (a : Memref sig .tc .vmem S512x2048 .f32) {w0 w1 w2 w3 w4 w5 w6 w7 : Tiles.TileH.Idx → Elt Ideal .f32} {inb0 inb1 inb2 inb3 inb4 inb5 inb6 inb7} (inb) :
    a.view.readCov (Val := Elt Ideal) [Tiles.pieceH 1792 inb7 w7, Tiles.pieceH 1536 inb6 w6, Tiles.pieceH 1280 inb5 w5, Tiles.pieceH 1024 inb4 w4, Tiles.pieceH 768 inb3 w3, Tiles.pieceH 512 inb2 w2, Tiles.pieceH 256 inb1 w1, Tiles.pieceH 0 inb0 w0] (Rect.unit (s := S512x2048) ![0, 0] S512x2048.size inb).toLoadRect
      = tiles ![w0, w1, w2, w3, w4, w5, w6, w7] := by
  unfold View.readCov
  rw [View.readAt_eq_ld, View.ld_unit_zero hz]
  funext y
  exact Tiles.eight_tiles a.view _ (![w0, w1, w2, w3, w4, w5, w6, w7] : Fin 8 → Tiles.TileH.Idx → Elt Ideal .f32) rfl rfl rfl rfl rfl rfl rfl rfl y

/-- The normalised block as the body names its steps. -/
theorem nrm_pay (H : FVec Ideal S512x2048 .f32) (g : Vec Ideal S1x2048 .f32) :
    (k0_pay30 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)) = nrm H g := by
  obtain ⟨e0, e1, e2, e3⟩ := squares_pay H
  rw [e0, e1, e2, e3]
  rfl

theorem max_pay (H : FVec Ideal S512x2048 .f32) (g : Vec Ideal S1x2048 .f32) :
    (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)) = lanesMax (absf (nrm H g)) := by
  obtain ⟨e0, e1, e2, e3⟩ := squares_pay H
  rw [e0, e1, e2, e3]
  rfl

theorem max0_pay (H : FVec Ideal S512x2048 .f32) (g : Vec Ideal S1x2048 .f32) :
    (k0_pay32 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)) = transpose S128x128 [1, 0] (extractStridedSlice S128x128 ![0, 0] (lanesMax (absf (nrm H g))) slices_S512x128_o0_0_S128x128) transposes_S128x128_p1_0_S128x128 := by
  obtain ⟨e0, e1, e2, e3⟩ := squares_pay H
  rw [e0, e1, e2, e3]
  rfl

theorem codes_pay (H : FVec Ideal S512x2048 .f32) (g : Vec Ideal S1x2048 .f32) :
    k0_pay48 (k0_pay30 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)) (k0_pay37 (k0_pay34 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay35 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay36 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)))) (k0_pay40 (k0_pay38 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay39 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)))) (k0_pay41 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay42 (k0_pay33 (k0_pay32 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)))) (k0_pay43 (k0_pay37 (k0_pay34 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay35 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay36 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))))) k0_pay44
      = codes (nrm H g) (tops (nrm H g)) := by
  rw [nrm_pay, max_pay, max0_pay]
  rfl

theorem rows_pay (H : FVec Ideal S512x2048 .f32) (g : Vec Ideal S1x2048 .f32) :
    (![k0_pay49 (k0_pay42 (k0_pay33 (k0_pay32 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)))), k0_pay50 (k0_pay37 (k0_pay34 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay35 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay36 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32)))) (k0_pay43 (k0_pay37 (k0_pay34 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay35 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay36 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))))) k0_pay44, k0_pay1 (k0_pay46 (k0_pay40 (k0_pay38 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))) (k0_pay39 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))))), k0_pay2 (k0_pay47 (k0_pay41 (k0_pay31 (k0_pay16 H) (k0_pay17 g) (k0_pay26 (k0_pay25 (k0_pay18 H))) (k0_pay27 (k0_pay18 H)) (k0_pay28 (k0_pay21 (k0_pay19 H) (k0_pay20 H))) (k0_pay29 (k0_pay24 (k0_pay22 (k0_pay18 H)) (k0_pay23 (k0_pay18 H)))) (Scalar.ofBits .f32 0x45000000#32))))] : Fin 4 → FVec Ideal S1x128 .f32)
      = scaleRow (tops (nrm H g)) := by
  rw [max_pay, max0_pay]
  funext q
  match q with
  | 0 => rfl
  | 1 => rfl
  | 2 => rfl
  | 3 => rfl

/-- The projection and its residual. -/
theorem h_A (y : S512x2048.Idx) : out0_A_6 c i arg1 harg1 arg2 harg2 arg3 harg3 arg4 harg4 arg5 harg5 arg6 harg6 arg7 harg7 arg8 harg8 arg9 harg9 arg10 harg10 x0 x1 x2 x3 x4 x5 y = blockH x0 x2 x3 x4 (col x1 (i 0).val (coord_lt i)) y := by
  unfold out0_A_6 kernelRun0_A
  dsimp only
  sl_unfold_run_names
  refine Tiles.eight_tiles VO0_6 _ (part x0 x2 x3 x4 (col x1 (i 0).val (coord_lt i))) ?_ ?_ ?_ ?_ ?_ ?_ ?_ ?_ y
  · rw [View.readCov_unit_zero (S := S512x2048) arg10.view hz, whole_eq arg1 harg1 x0 hz, cut_eq arg3 harg3 x2 0 0 rfl, cut_eq arg4 harg4 x3 0 0 rfl, cut_eq arg5 harg5 x4 0 0 rfl]
    exact colpart x0 x2 x3 x4 0 (row_eq i arg2 harg2 x1 0 _) (row_eq i arg2 harg2 x1 1 _) (row_eq i arg2 harg2 x1 2 _) (row_eq i arg2 harg2 x1 3 _)
  · rw [View.readCov_unit_zero (S := S512x2048) arg10.view hz, whole_eq arg1 harg1 x0 hz, cut_eq arg3 harg3 x2 1 256 rfl, cut_eq arg4 harg4 x3 1 256 rfl, cut_eq arg5 harg5 x4 1 256 rfl]
    exact colpart x0 x2 x3 x4 1 (row_eq i arg2 harg2 x1 0 _) (row_eq i arg2 harg2 x1 1 _) (row_eq i arg2 harg2 x1 2 _) (row_eq i arg2 harg2 x1 3 _)
  · rw [View.readCov_unit_zero (S := S512x2048) arg10.view hz, whole_eq arg1 harg1 x0 hz, cut_eq arg3 harg3 x2 2 512 rfl, cut_eq arg4 harg4 x3 2 512 rfl, cut_eq arg5 harg5 x4 2 512 rfl]
    exact colpart x0 x2 x3 x4 2 (row_eq i arg2 harg2 x1 0 _) (row_eq i arg2 harg2 x1 1 _) (row_eq i arg2 harg2 x1 2 _) (row_eq i arg2 harg2 x1 3 _)
  · rw [View.readCov_unit_zero (S := S512x2048) arg10.view hz, whole_eq arg1 harg1 x0 hz, cut_eq arg3 harg3 x2 3 768 rfl, cut_eq arg4 harg4 x3 3 768 rfl, cut_eq arg5 harg5 x4 3 768 rfl]
    exact colpart x0 x2 x3 x4 3 (row_eq i arg2 harg2 x1 0 _) (row_eq i arg2 harg2 x1 1 _) (row_eq i arg2 harg2 x1 2 _) (row_eq i arg2 harg2 x1 3 _)
  · rw [View.readCov_unit_zero (S := S512x2048) arg10.view hz, whole_eq arg1 harg1 x0 hz, cut_eq arg3 harg3 x2 4 1024 rfl, cut_eq arg4 harg4 x3 4 1024 rfl, cut_eq arg5 harg5 x4 4 1024 rfl]
    exact colpart x0 x2 x3 x4 4 (row_eq i arg2 harg2 x1 0 _) (row_eq i arg2 harg2 x1 1 _) (row_eq i arg2 harg2 x1 2 _) (row_eq i arg2 harg2 x1 3 _)
  · rw [View.readCov_unit_zero (S := S512x2048) arg10.view hz, whole_eq arg1 harg1 x0 hz, cut_eq arg3 harg3 x2 5 1280 rfl, cut_eq arg4 harg4 x3 5 1280 rfl, cut_eq arg5 harg5 x4 5 1280 rfl]
    exact colpart x0 x2 x3 x4 5 (row_eq i arg2 harg2 x1 0 _) (row_eq i arg2 harg2 x1 1 _) (row_eq i arg2 harg2 x1 2 _) (row_eq i arg2 harg2 x1 3 _)
  · rw [View.readCov_unit_zero (S := S512x2048) arg10.view hz, whole_eq arg1 harg1 x0 hz, cut_eq arg3 harg3 x2 6 1536 rfl, cut_eq arg4 harg4 x3 6 1536 rfl, cut_eq arg5 harg5 x4 6 1536 rfl]
    exact colpart x0 x2 x3 x4 6 (row_eq i arg2 harg2 x1 0 _) (row_eq i arg2 harg2 x1 1 _) (row_eq i arg2 harg2 x1 2 _) (row_eq i arg2 harg2 x1 3 _)
  · rw [View.readCov_unit_zero (S := S512x2048) arg10.view hz, whole_eq arg1 harg1 x0 hz, cut_eq arg3 harg3 x2 7 1792 rfl, cut_eq arg4 harg4 x3 7 1792 rfl, cut_eq arg5 harg5 x4 7 1792 rfl]
    exact colpart x0 x2 x3 x4 7 (row_eq i arg2 harg2 x1 0 _) (row_eq i arg2 harg2 x1 1 _) (row_eq i arg2 harg2 x1 2 _) (row_eq i arg2 harg2 x1 3 _)

/-- The eight stretches as they are stored. -/
theorem tiles_eq {v0 v1 v2 v3 u0 u1 u2 u3 : Vec Ideal S1x128 .f32} (h0 : v0 = u0) (h1 : v1 = u1) (h2 : v2 = u2) (h3 : v3 = u3) :
    tiles ![k0_pay5 (k0_pay4 v0 v1 v2 v3) (k0_pay3 x0) (cut x3 0) (cut x2 0) (cut x4 0), k0_pay5 (k0_pay4 v0 v1 v2 v3) (k0_pay3 x0) (cut x3 1) (cut x2 1) (cut x4 1), k0_pay5 (k0_pay4 v0 v1 v2 v3) (k0_pay3 x0) (cut x3 2) (cut x2 2) (cut x4 2), k0_pay5 (k0_pay4 v0 v1 v2 v3) (k0_pay3 x0) (cut x3 3) (cut x2 3) (cut x4 3), k0_pay5 (k0_pay4 v0 v1 v2 v3) (k0_pay3 x0) (cut x3 4) (cut x2 4) (cut x4 4), k0_pay5 (k0_pay4 v0 v1 v2 v3) (k0_pay3 x0) (cut x3 5) (cut x2 5) (cut x4 5), k0_pay5 (k0_pay4 v0 v1 v2 v3) (k0_pay3 x0) (cut x3 6) (cut x2 6) (cut x4 6), k0_pay5 (k0_pay4 v0 v1 v2 v3) (k0_pay3 x0) (cut x3 7) (cut x2 7) (cut x4 7)]
      = blockH x0 x2 x3 x4 (k0_pay4 u0 u1 u2 u3) := by
  rw [h0, h1, h2, h3]
  refine congrArg tiles (funext fun q => ?_)
  fin_cases q <;> rfl

theorem codes_congr {H H' : FVec Ideal S512x2048 .f32} {g g' : Vec Ideal S1x2048 .f32} (hH : H = H') (hg : g = g') :
    codes (nrm H g) (tops (nrm H g)) = codes (nrm H' g') (tops (nrm H' g')) := by
  rw [hH, hg]

theorem rows_congr {H H' : FVec Ideal S512x2048 .f32} {g g' : Vec Ideal S1x2048 .f32} (hH : H = H') (hg : g = g') :
    scaleRow (tops (nrm H g)) = scaleRow (tops (nrm H' g')) := by
  rw [hH, hg]

/-- The codes. -/
theorem codes_A : out0_A_7 c i arg1 harg1 arg2 harg2 arg3 harg3 arg4 harg4 arg5 harg5 arg6 harg6 arg7 harg7 arg8 harg8 arg9 harg9 arg10 harg10 x0 x1 x2 x3 x4 x5 = codes (nrm (blockH x0 x2 x3 x4 (col x1 (i 0).val (coord_lt i))) x5) (tops (nrm (blockH x0 x2 x3 x4 (col x1 (i 0).val (coord_lt i))) x5)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_run_names
  rw [View.canon_unit_zero (S := S512x2048) hz, full_read arg7]
  refine (codes_pay _ _).trans ?_
  refine codes_congr ?_ (whole_eq arg6 harg6 x5 hz _)
  rw [View.readCov_unit_zero (S := S512x2048) arg10.view hz, whole_eq arg1 harg1 x0 hz, cut_eq arg3 harg3 x2 0 0 rfl, cut_eq arg4 harg4 x3 0 0 rfl, cut_eq arg5 harg5 x4 0 0 rfl, cut_eq arg3 harg3 x2 1 256 rfl, cut_eq arg4 harg4 x3 1 256 rfl, cut_eq arg5 harg5 x4 1 256 rfl, cut_eq arg3 harg3 x2 2 512 rfl, cut_eq arg4 harg4 x3 2 512 rfl, cut_eq arg5 harg5 x4 2 512 rfl, cut_eq arg3 harg3 x2 3 768 rfl, cut_eq arg4 harg4 x3 3 768 rfl, cut_eq arg5 harg5 x4 3 768 rfl, cut_eq arg3 harg3 x2 4 1024 rfl, cut_eq arg4 harg4 x3 4 1024 rfl, cut_eq arg5 harg5 x4 4 1024 rfl, cut_eq arg3 harg3 x2 5 1280 rfl, cut_eq arg4 harg4 x3 5 1280 rfl, cut_eq arg5 harg5 x4 5 1280 rfl, cut_eq arg3 harg3 x2 6 1536 rfl, cut_eq arg4 harg4 x3 6 1536 rfl, cut_eq arg5 harg5 x4 6 1536 rfl, cut_eq arg3 harg3 x2 7 1792 rfl, cut_eq arg4 harg4 x3 7 1792 rfl, cut_eq arg5 harg5 x4 7 1792 rfl]
  exact tiles_eq x0 x2 x3 x4 (row_eq i arg2 harg2 x1 0 _) (row_eq i arg2 harg2 x1 1 _) (row_eq i arg2 harg2 x1 2 _) (row_eq i arg2 harg2 x1 3 _)

/-- The scales. -/
theorem scales_A (y : S128x128.Idx) (h : 4 * (i 0).val ≤ (y 0).val ∧ (y 0).val < 4 * (i 0).val + 4) :
    out0_A_8 c i arg1 harg1 arg2 harg2 arg3 harg3 arg4 harg4 arg5 harg5 arg6 harg6 arg7 harg7 arg8 harg8 arg9 harg9 arg10 harg10 x0 x1 x2 x3 x4 x5 y
      = scaleRow (tops (nrm (blockH x0 x2 x3 x4 (col x1 (i 0).val (coord_lt i))) x5)) ⟨(y 0).val - 4 * (i 0).val, by omega⟩ (ix2 0 (y 1)) := by
  unfold out0_A_8 kernelRun0_A
  dsimp only
  sl_unfold_run_names
  refine (Cert.Rows.four_rows_list VO0_8 _ (4 * (i 0).val) (k0_off1_eq i 0) (k0_off1_eq i 1) (k0_off1_eq i 2) (k0_off1_eq i 3) y).trans ?_
  rw [dif_pos h]
  rw [full_read arg7]
  refine (congrFun (congrFun (rows_pay _ _) _) _).trans ?_
  refine congrFun (congrFun (rows_congr ?_ (whole_eq arg6 harg6 x5 hz _)) _) _
  rw [View.readCov_unit_zero (S := S512x2048) arg10.view hz, whole_eq arg1 harg1 x0 hz, cut_eq arg3 harg3 x2 0 0 rfl, cut_eq arg4 harg4 x3 0 0 rfl, cut_eq arg5 harg5 x4 0 0 rfl, cut_eq arg3 harg3 x2 1 256 rfl, cut_eq arg4 harg4 x3 1 256 rfl, cut_eq arg5 harg5 x4 1 256 rfl, cut_eq arg3 harg3 x2 2 512 rfl, cut_eq arg4 harg4 x3 2 512 rfl, cut_eq arg5 harg5 x4 2 512 rfl, cut_eq arg3 harg3 x2 3 768 rfl, cut_eq arg4 harg4 x3 3 768 rfl, cut_eq arg5 harg5 x4 3 768 rfl, cut_eq arg3 harg3 x2 4 1024 rfl, cut_eq arg4 harg4 x3 4 1024 rfl, cut_eq arg5 harg5 x4 4 1024 rfl, cut_eq arg3 harg3 x2 5 1280 rfl, cut_eq arg4 harg4 x3 5 1280 rfl, cut_eq arg5 harg5 x4 5 1280 rfl, cut_eq arg3 harg3 x2 6 1536 rfl, cut_eq arg4 harg4 x3 6 1536 rfl, cut_eq arg5 harg5 x4 6 1536 rfl, cut_eq arg3 harg3 x2 7 1792 rfl, cut_eq arg4 harg4 x3 7 1792 rfl, cut_eq arg5 harg5 x4 7 1792 rfl]
  exact tiles_eq x0 x2 x3 x4 (row_eq i arg2 harg2 x1 0 _) (row_eq i arg2 harg2 x1 1 _) (row_eq i arg2 harg2 x1 2 _) (row_eq i arg2 harg2 x1 3 _)

end Cert.OutBlock

end
-- ==== Proof.OutPureRef.lean ====
/-
  What the reference of the output projection computes, entry by entry.
-/
module

public import proofs.«01_k».proof.Proof.OutPure
public import proofs.«01_k».proof.Proof.Gen.OutRefIdeal.Skeleton

@[expose] public section

set_option maxRecDepth 16384

noncomputable section

namespace Cert.OutPure

open Idealize.ShloMosaic Idealize.ShloMosaic.TcCoe Idealize.SL.Sem
open Cert.DownPure (num)
open Cert.UpPure (scaleOf)

namespace R
open Cert.OutRefIdeal Cert.OutRefIdeal.Gen

/-- One entry of the projection and its residual. -/
theorem h_apply (c : Vec Ideal S16384x2048 .i8) (s : Vec Ideal S16384x1 .f32) (x : Vec Ideal S16384x2048 .bf16) (w : Vec Ideal S2048x2048 .i8) (sw : Vec Ideal S1x2048 .f32)
    (r : Fin 16384) (n : Fin 2048) :
    k0_pay2 (F := Ideal) c s x w sw (ix2 r n)
      = x (ix2 r n) + (∑ k : Fin 2048, num (c (ix2 r k)) * num (w (ix2 k n))) * (s (ix2 r 0) * sw (ix2 0 n)) := by
  pointwise [k0_pay2]
  rfl

/-- The sums of the squares of the rows. -/
def squares (h : FVec Ideal S16384x2048 .f32) : FVec Ideal S16384 .f32 :=
  multiReduction .add [1] S16384 (mulf h h) 0x00000000#32 reduces_S16384x2048_S16384 (.inl rfl) rfl

theorem squares_apply (h : FVec Ideal S16384x2048 .f32) (r : Fin 16384) : squares h (ix1 r) = ∑ n : Fin 2048, h (ix2 r n) * h (ix2 r n) := by
  unfold squares
  pointwise

/-- The root mean squares as a column. -/
def rms (v : FVec Ideal S16384 .f32) : FVec Ideal S16384x1 .f32 :=
  sqrt (addf (divf (shapeCast S16384x1 v shapeCasts_S16384_S16384x1) (broadcast S16384x1 (Scalar.ofBits (F := Ideal) .f32 0x45000000#32))) (broadcast S16384x1 (Scalar.ofBits (F := Ideal) .f32 0x3727C5AC#32)))

theorem column (v : FVec Ideal S16384 .f32) (r : Fin 16384) : shapeCast S16384x1 v shapeCasts_S16384_S16384x1 (ix2 r 0) = v (ix1 r) := by pointwise

theorem rms_apply (v : FVec Ideal S16384 .f32) (r : Fin 16384) : rms v (ix2 r 0) = rmsOf (v (ix1 r)) := by
  unfold rms rmsOf
  rw [← column v r]
  rfl

theorem spread (v : FVec Ideal S16384x1 .f32) (r : Fin 16384) (n : Fin 2048) : broadcastTo S16384x2048 v broadcasts_S16384x1_S16384x2048 (ix2 r n) = v (ix2 r 0) := by pointwise

/-- The normalised entries of an array `h` with the gains `g`. -/
def nrm (h : FVec Ideal S16384x2048 .f32) (g : Vec Ideal S1x2048 .f32) : FVec Ideal S16384x2048 .f32 :=
  mulf (divf h (broadcastTo S16384x2048 (rms (squares h)) broadcasts_S16384x1_S16384x2048)) (broadcastTo S16384x2048 (shapeCast S1x2048 g shapeCasts_S1x2048_S1x2048) broadcasts_S1x2048_S16384x2048)

theorem n_eq (c : Vec Ideal S16384x2048 .i8) (s : Vec Ideal S16384x1 .f32) (x : Vec Ideal S16384x2048 .bf16) (w : Vec Ideal S2048x2048 .i8) (sw g : Vec Ideal S1x2048 .f32) :
    k0_pay3 (F := Ideal) c s x w sw g = nrm (k0_pay2 (F := Ideal) c s x w sw) g := rfl

theorem nrm_apply (h : FVec Ideal S16384x2048 .f32) (g : Vec Ideal S1x2048 .f32) (r : Fin 16384) (n : Fin 2048) :
    nrm h g (ix2 r n) = normOf (h (ix2 r n)) (∑ k : Fin 2048, h (ix2 r k) * h (ix2 r k)) (g (ix2 0 n)) := by
  have a := spread (rms (squares h)) r n
  rw [rms_apply, squares_apply] at a
  have b : broadcastTo S16384x2048 (shapeCast S1x2048 g shapeCasts_S1x2048_S1x2048) broadcasts_S1x2048_S16384x2048 (ix2 r n) = g (ix2 0 n) := by pointwise
  unfold nrm normOf
  rw [← a, ← b]
  rfl

/-- One normalised entry. -/
theorem n_apply (c : Vec Ideal S16384x2048 .i8) (s : Vec Ideal S16384x1 .f32) (x : Vec Ideal S16384x2048 .bf16) (w : Vec Ideal S2048x2048 .i8) (sw g : Vec Ideal S1x2048 .f32)
    (r : Fin 16384) (n : Fin 2048) :
    k0_pay3 (F := Ideal) c s x w sw g (ix2 r n)
      = normOf (k0_pay2 (F := Ideal) c s x w sw (ix2 r n)) (∑ k : Fin 2048, k0_pay2 (F := Ideal) c s x w sw (ix2 r k) * k0_pay2 (F := Ideal) c s x w sw (ix2 r k)) (g (ix2 0 n)) := by
  rw [n_eq, nrm_apply]

/-- The largest magnitude in a row of the reference. -/
def rowMax (a : FVec Ideal S16384x2048 .f32) : FVec Ideal S16384 .f32 :=
  multiReduction .maximumf [1] S16384 (absf a) 0xFF800000#32 reduces_S16384x2048_S16384 (.inl rfl) rfl

theorem rowMax_eq (a : FVec Ideal S16384x2048 .f32) (r : Fin 16384) :
    rowMax a (ix1 r) = Finset.univ.fold max (Ideal.ofBits FTy.f32 0xFF800000#32) fun n : Fin 2048 => max (a (ix2 r n)) (-a (ix2 r n)) := by
  unfold rowMax
  pointwise
  rfl

theorem rowMax_le (a : FVec Ideal S16384x2048 .f32) (r : Fin 16384) (b : EReal) :
    rowMax a (ix1 r) ≤ b ↔ ∀ n : Fin 2048, max (a (ix2 r n)) (-a (ix2 r n)) ≤ b := by
  rw [rowMax_eq]
  exact Cert.UpPure.R.fold_max_le _ _ b (Cert.UpPure.R.bot_word ▸ bot_le)

/-- The scales of the rows from their largest magnitudes. -/
def scales (v : FVec Ideal S16384 .f32) : FVec Ideal S16384x1 .f32 :=
  select (cmpf .oeq (shapeCast S16384x1 v shapeCasts_S16384_S16384x1) (broadcast S16384x1 (Scalar.ofBits (F := Ideal) .f32 0x00000000#32))) (broadcast S16384x1 (Scalar.ofBits (F := Ideal) .f32 0x3F800000#32)) (divf (shapeCast S16384x1 v shapeCasts_S16384_S16384x1) (broadcast S16384x1 (Scalar.ofBits (F := Ideal) .f32 0x42FE0000#32)))

theorem scales_eq (c : Vec Ideal S16384x2048 .i8) (s : Vec Ideal S16384x1 .f32) (x : Vec Ideal S16384x2048 .bf16) (w : Vec Ideal S2048x2048 .i8) (sw g : Vec Ideal S1x2048 .f32) :
    k0_pay4 (F := Ideal) c s x w sw g = scales (rowMax (k0_pay3 (F := Ideal) c s x w sw g)) := rfl

theorem scales_apply (v : FVec Ideal S16384 .f32) (r : Fin 16384) : scales v (ix2 r 0) = scaleOf (v (ix1 r)) := by
  unfold scales scaleOf
  rw [← column v r]
  rfl

/-- One scale of the reference. -/
theorem scale_apply (c : Vec Ideal S16384x2048 .i8) (s : Vec Ideal S16384x1 .f32) (x : Vec Ideal S16384x2048 .bf16) (w : Vec Ideal S2048x2048 .i8) (sw g : Vec Ideal S1x2048 .f32)
    (r : Fin 16384) :
    k0_pay4 (F := Ideal) c s x w sw g (ix2 r 0) = scaleOf (rowMax (k0_pay3 (F := Ideal) c s x w sw g) (ix1 r)) := by
  rw [scales_eq, scales_apply]

theorem codes_apply (n s : FVec Ideal S16384x2048 .f32) (j : S16384x2048.Idx) : k0_pay1 (F := Ideal) n s j = codeOf (n j) (s j) := rfl

theorem wide_eq (c : Vec Ideal S16384x2048 .i8) (s : Vec Ideal S16384x1 .f32) (x : Vec Ideal S16384x2048 .bf16) (w : Vec Ideal S2048x2048 .i8) (sw g : Vec Ideal S1x2048 .f32) :
    k0_pay5 (F := Ideal) c s x w sw g = broadcastTo S16384x2048 (k0_pay4 (F := Ideal) c s x w sw g) broadcasts_S16384x1_S16384x2048 := rfl

/-- One code of the reference. -/
theorem code_apply (c : Vec Ideal S16384x2048 .i8) (s : Vec Ideal S16384x1 .f32) (x : Vec Ideal S16384x2048 .bf16) (w : Vec Ideal S2048x2048 .i8) (sw g : Vec Ideal S1x2048 .f32)
    (r : Fin 16384) (n : Fin 2048) :
    k0_pay1 (F := Ideal) (k0_pay3 (F := Ideal) c s x w sw g) (k0_pay5 (F := Ideal) c s x w sw g) (ix2 r n)
      = codeOf (k0_pay3 (F := Ideal) c s x w sw g (ix2 r n)) (scaleOf (rowMax (k0_pay3 (F := Ideal) c s x w sw g) (ix1 r))) := by
  rw [codes_apply, wide_eq, spread, scale_apply]

end R

end Cert.OutPure

end
-- ==== Proof.OutArray.lean ====
/-
  The output projection, its residual and its normalised codes over whole arrays: what the run of the call leaves.
-/
module

public import proofs.«01_k».proof.Proof.OutBlock
public import proofs.«01_k».proof.Proof.OutPureRef
public import proofs.«01_k».proof.Proof.UpArray

@[expose] public section

set_option maxRecDepth 16384

noncomputable section

namespace Cert.OutArray

open Cert.OutIdeal Cert.OutIdeal.Gen Cert.OutIdeal.Run Idealize.ShloMosaic Idealize.ShloMosaic.TcCoe Idealize.SL.Sem
open Idealize.ShloMosaic.Pipeline (Dat)
open Cert.DownPure (num)
open Cert.UpPure (scaleOf)
open Cert.UpArray (rowScale)
open Cert.OutPure (normOf codeOf)

variable (m : (ℓ : Loc nD τ sig) → Buf (Elt Ideal) ℓ) (c : Dev nD)

/-! ## The mathematics over whole arrays -/

/-- The entry `(r, n)` of the residual plus the projection. -/
def hAt (x : Vec Ideal S16384x2048 .i8) (sc : Vec Ideal S128x128 .f32) (res : Vec Ideal S16384x2048 .bf16) (w : Vec Ideal S2048x2048 .i8) (s : Vec Ideal S2048 .f32)
    (r : Fin 16384) (n : Fin 2048) : EReal :=
  res (ix2 r n) + (∑ k : Fin 2048, num (x (ix2 r k)) * num (w (ix2 k n))) * (rowScale sc r * s (ix1 n))

/-- The normalised entry `(r, n)` of an array. -/
def nAt (h : Fin 16384 → Fin 2048 → EReal) (g : Vec Ideal S2048 .f32) (r : Fin 16384) (n : Fin 2048) : EReal :=
  normOf (h r n) (∑ k : Fin 2048, h r k * h r k) (g (ix1 n))

/-- The scale of row `r` of an array of normalised entries. -/
def scaleAt (a : Fin 16384 → Fin 2048 → EReal) (r : Fin 16384) : EReal :=
  scaleOf (OutPure.R.rowMax (fun j : S16384x2048.Idx => a (j 0) (j 1)) (ix1 r))

/-- The code of the entry `(r, n)` of such an array. -/
def codeAt (a : Fin 16384 → Fin 2048 → EReal) (r : Fin 16384) (n : Fin 2048) : BitVec 8 := codeOf (a r n) (scaleAt a r)

/-! ## The blocks a point reads -/

abbrev xA : Vec Ideal S16384x2048 .i8 := m ((c : Thread nD τ).loc main_arg0)
abbrev scA : Vec Ideal S128x128 .f32 := m ((c : Thread nD τ).loc main_arg1)
abbrev rA : Vec Ideal S16384x2048 .bf16 := m ((c : Thread nD τ).loc main_arg2)
abbrev wA : Vec Ideal S2048x2048 .i8 := m ((c : Thread nD τ).loc main_arg3)
abbrev swA : Vec Ideal S2048 .f32 := m ((c : Thread nD τ).loc main_arg4)
abbrev gA : Vec Ideal S2048 .f32 := m ((c : Thread nD τ).loc main_arg5)

/-- The first result of the call's arguments. -/
abbrev hM (r : Fin 16384) (n : Fin 2048) : EReal := hAt (xA m c) (scA m c) (rA m c) (wA m c) (swA m c) r n

/-- Its normalised entries. -/
abbrev nM (r : Fin 16384) (n : Fin 2048) : EReal := nAt (hM m c) (gA m c) r n

theorem N32 : cfg0.N = 32 := N_0

/-- The matrix row of row `r` of the block point `t` works on. -/
def row (t : Fin cfg0.N) (r : Fin 512) : Fin 16384 :=
  ⟨512 * t.val + r.val, by have h := lt_of_lt_of_eq t.isLt N32; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

theorem blk0 (t : Fin cfg0.N) (r : Fin 512) (k : Fin 2048) :
    (iblk m c 0 t : Vec Ideal S512x2048 .i8) (ix2 r k) = xA m c (ix2 (row t r) k) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [e0]; omega
  | ⟨1, _⟩ => show win0_0.index t 1 * 2048 + 1 * k.val = k.val; rw [e1]; omega

theorem blk1 (t : Fin cfg0.N) : (iblk m c 1 t : Vec Ideal S128x128 .f32) = scA m c := by
  obtain ⟨e0, e1⟩ := idx1 t
  funext i
  unfold iblk
  rw [View.read_apply]
  show V m c main_arg1 _ = _
  rw [V_main_arg1]
  congr 1
  funext a
  apply Fin.ext
  match a with
  | ⟨0, _⟩ => show win0_1.index t 0 * 128 + 1 * (i 0).val = (i 0).val; rw [e0]; omega
  | ⟨1, _⟩ => show win0_1.index t 1 * 128 + 1 * (i 1).val = (i 1).val; rw [e1]; omega

theorem blk2 (t : Fin cfg0.N) (r : Fin 512) (k : Fin 2048) :
    (iblk m c 2 t : Vec Ideal S512x2048 .bf16) (ix2 r k) = rA m c (ix2 (row t r) k) := by
  obtain ⟨e0, e1⟩ := idx2 t
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [e0]; omega
  | ⟨1, _⟩ => show win0_2.index t 1 * 2048 + 1 * k.val = k.val; rw [e1]; omega

theorem blk3 (t : Fin cfg0.N) : (iblk m c 3 t : Vec Ideal S2048x2048 .i8) = wA m c := by
  obtain ⟨e0, e1⟩ := idx3 t
  funext i
  unfold iblk
  rw [View.read_apply]
  show V m c main_arg3 _ = _
  rw [V_main_arg3]
  congr 1
  funext a
  apply Fin.ext
  match a with
  | ⟨0, _⟩ => show win0_3.index t 0 * 2048 + 1 * (i 0).val = (i 0).val; rw [e0]; omega
  | ⟨1, _⟩ => show win0_3.index t 1 * 2048 + 1 * (i 1).val = (i 1).val; rw [e1]; omega

theorem V_v0 (n : Fin 2048) : (V m c main_v0 : Vec Ideal S1x2048 .f32) (ix2 0 n) = swA m c (ix1 n) := by
  entry_read
  pointwise

theorem blk4 (t : Fin cfg0.N) (n : Fin 2048) :
    (iblk m c 4 t : Vec Ideal S1x2048 .f32) (ix2 0 n) = swA m c (ix1 n) := by
  obtain ⟨e0, e1⟩ := idx4 t
  rw [← V_v0 m c n]
  unfold iblk
  rw [View.read_apply]
  show V m c main_v0 _ = _
  congr 1
  funext a
  apply Fin.ext
  match a with
  | ⟨0, _⟩ => show win0_4.index t 0 * 1 + 1 * 0 = 0; rw [e0]
  | ⟨1, _⟩ => show win0_4.index t 1 * 2048 + 1 * n.val = n.val; rw [e1]; omega

theorem V_v1 (n : Fin 2048) : (V m c main_v1 : Vec Ideal S1x2048 .f32) (ix2 0 n) = gA m c (ix1 n) := by
  entry_read
  pointwise

theorem blk5 (t : Fin cfg0.N) (n : Fin 2048) :
    (iblk m c 5 t : Vec Ideal S1x2048 .f32) (ix2 0 n) = gA m c (ix1 n) := by
  obtain ⟨e0, e1⟩ := idx5 t
  rw [← V_v1 m c n]
  unfold iblk
  rw [View.read_apply]
  show V m c main_v1 _ = _
  congr 1
  funext a
  apply Fin.ext
  match a with
  | ⟨0, _⟩ => show win0_5.index t 0 * 1 + 1 * 0 = 0; rw [e0]
  | ⟨1, _⟩ => show win0_5.index t 1 * 2048 + 1 * n.val = n.val; rw [e1]; omega

/-! ## What a point computes -/

theorem lhs_entry (x : Vec Ideal S512x2048 .i8) (r : Fin 512) (k : Fin 2048) : k0_pay3 x (ix2 r k) = num (x (ix2 r k)) := by
  unfold k0_pay3
  rw [shapeCast_self]
  rfl

theorem col_row (b : Nat) (hb : b < 32) (sc : Vec Ideal S128x128 .f32) (r : Fin 512) (l : Fin 256) :
    OutBlock.col sc b hb (ix2 r l) = rowScale sc ⟨512 * b + r.val, by omega⟩ := by
  unfold OutBlock.col
  rw [OutPure.K.col_apply]
  have key : ∀ q : Fin 4, (![OutBlock.statRow sc (4 * b + 0) (by omega), OutBlock.statRow sc (4 * b + 1) (by omega), OutBlock.statRow sc (4 * b + 2) (by omega), OutBlock.statRow sc (4 * b + 3) (by omega)] : Fin 4 → Vec Ideal S1x128 .f32) q
      = OutBlock.statRow sc (4 * b + q.val) (by omega) := by
    intro q; fin_cases q <;> rfl
  rw [key]
  unfold OutBlock.statRow rowScale
  congr 1
  funext a
  apply Fin.ext
  match a with
  | ⟨0, _⟩ => show 4 * b + r.val / 128 = (512 * b + r.val) / 128; omega
  | ⟨1, _⟩ => show r.val % 128 = (512 * b + r.val) % 128; omega

theorem row_coord (t : Fin cfg0.N) (r : Fin 512) (h : 512 * (grid0.coords t 0).val + r.val < 16384) :
    (⟨512 * (grid0.coords t 0).val + r.val, h⟩ : Fin 16384) = row t r :=
  Fin.ext (congrArg (fun b => 512 * b + r.val) (coord0 t))

/-- The block of the projection and its residual that point `t` computes. -/
abbrev hB (t : Fin cfg0.N) : Vec Ideal S512x2048 .f32 :=
  OutBlock.blockH (iblk m c 0 t) (iblk m c 2 t) (iblk m c 3 t) (iblk m c 4 t) (OutBlock.col (iblk m c 1 t) (grid0.coords t 0).val (OutBlock.coord_lt _))

theorem h_at (t : Fin cfg0.N) (r : Fin 512) (n : Fin 2048) : hB m c t (ix2 r n) = hM m c (row t r) n := by
  have hn : (⟨256 * (n.val / 256) + n.val % 256, by omega⟩ : Fin 2048) = n := Fin.ext (Nat.div_add_mod _ _)
  show OutBlock.part (iblk m c 0 t) (iblk m c 2 t) (iblk m c 3 t) (iblk m c 4 t) _ ⟨n.val / 256, _⟩ (ix2 r ⟨n.val % 256, _⟩) = _
  unfold OutBlock.part
  rw [OutPure.K.chunk_apply]
  have hv : OutBlock.col (iblk m c 1 t) (grid0.coords t 0).val (OutBlock.coord_lt _) (ix2 r ⟨n.val % 256, Nat.mod_lt _ (by decide)⟩) = rowScale (scA m c) (row t r) := by
    rw [blk1, col_row, row_coord]
  have hl : ∀ k : Fin 2048, k0_pay3 (iblk m c 0 t) (ix2 r k) = num (xA m c (ix2 (row t r) k)) := fun k => by rw [lhs_entry, blk0]
  have hx : OutBlock.cut (iblk m c 2 t : Vec Ideal S512x2048 .bf16) ⟨n.val / 256, by omega⟩ (ix2 r ⟨n.val % 256, Nat.mod_lt _ (by decide)⟩) = rA m c (ix2 (row t r) n) :=
    (blk2 m c t r ⟨256 * (n.val / 256) + n.val % 256, by omega⟩).trans (congrArg (fun n => rA m c (ix2 (row t r) n)) hn)
  have hw : ∀ k : Fin 2048, OutBlock.cut (iblk m c 3 t : Vec Ideal S2048x2048 .i8) ⟨n.val / 256, by omega⟩ (ix2 k ⟨n.val % 256, Nat.mod_lt _ (by decide)⟩) = wA m c (ix2 k n) :=
    fun k => (congrFun (blk3 m c t) (ix2 k ⟨256 * (n.val / 256) + n.val % 256, by omega⟩)).trans (congrArg (fun n => wA m c (ix2 k n)) hn)
  have hs : OutBlock.cut (iblk m c 4 t : Vec Ideal S1x2048 .f32) ⟨n.val / 256, by omega⟩ (ix2 0 ⟨n.val % 256, Nat.mod_lt _ (by decide)⟩) = swA m c (ix1 n) :=
    (blk4 m c t ⟨256 * (n.val / 256) + n.val % 256, by omega⟩).trans (congrArg (fun n => swA m c (ix1 n)) hn)
  simp only [hl, hv, hx, hw, hs]
  rfl

/-- The normalised block that point `t` computes. -/
abbrev nB (t : Fin cfg0.N) : Vec Ideal S512x2048 .f32 := OutPure.K.nrm (hB m c t) (iblk m c 5 t)

theorem n_at (t : Fin cfg0.N) (r : Fin 512) (n : Fin 2048) : nB m c t (ix2 r n) = nM m c (row t r) n := by
  refine (OutPure.K.nrm_apply _ _ r n).trans ?_
  simp only [h_at, blk5]
  rfl

theorem max_at (t : Fin cfg0.N) (q : Fin 4) (k : Fin 8) (l : Fin 128) :
    OutPure.K.tops (nB m c t) q (ix2 k l)
      = OutPure.R.rowMax (fun j : S16384x2048.Idx => nM m c (j 0) (j 1)) (ix1 (row t ⟨128 * q.val + l.val, by omega⟩)) := by
  refine eq_of_forall_ge_iff fun b => ?_
  rw [OutPure.K.tops_le, OutPure.R.rowMax_le]
  simp only [n_at]
  exact Iff.rfl

theorem code_at (t : Fin cfg0.N) (r : Fin 512) (n : Fin 2048) :
    OutPure.K.codes (nB m c t) (OutPure.K.tops (nB m c t)) (ix2 r n) = codeAt (nM m c) (row t r) n := by
  rw [OutPure.K.codes_apply, max_at, n_at]
  have e : (⟨128 * (r.val / 128) + r.val % 128, by omega⟩ : Fin 512) = r := Fin.ext (Nat.div_add_mod _ _)
  exact congrArg (fun r' : Fin 512 => codeOf (nM m c (row t r) n) (scaleOf (OutPure.R.rowMax (fun j : S16384x2048.Idx => nM m c (j 0) (j 1)) (ix1 (row t r'))))) e

theorem left_h (t : Fin cfg0.N) (y : S512x2048.Idx) : (outsAt0 m c t).1 y = hM m c (row t (y 0)) (y 1) := by
  unfold outsAt0
  dsimp only
  rw [OutBlock.h_A]
  have e : y = ix2 (y 0) (y 1) := by funext a; match a with | ⟨0, _⟩ => rfl | ⟨1, _⟩ => rfl
  exact (congrArg (hB m c t) e).trans (h_at m c t (y 0) (y 1))

theorem left_c (t : Fin cfg0.N) (y : S512x2048.Idx) : (outsAt0 m c t).2 y = codeAt (nM m c) (row t (y 0)) (y 1) := by
  unfold outsAt0
  dsimp only
  rw [OutBlock.codes_A]
  have e : y = ix2 (y 0) (y 1) := by funext a; match a with | ⟨0, _⟩ => rfl | ⟨1, _⟩ => rfl
  exact (congrArg (OutPure.K.codes (nB m c t) (OutPure.K.tops (nB m c t))) e).trans (code_at m c t (y 0) (y 1))

theorem scales_at (t : Fin cfg0.N) (y : S128x128.Idx) (h : 4 * t.val ≤ (y 0).val) (h' : (y 0).val < 4 * t.val + 4) (R : Fin 16384)
    (hR : R.val = 128 * (y 0).val + (y 1).val) : scalesAt m c t y = scaleAt (nM m c) R := by
  have hc := coord0 t
  have hy1 : (y 1).val < 128 := (y 1).isLt
  have hs : 4 * (grid0.coords t 0).val ≤ (y 0).val ∧ (y 0).val < 4 * (grid0.coords t 0).val + 4 := by rw [hc]; exact ⟨h, h'⟩
  have e : scalesAt m c t y = OutPure.K.scaleRow (OutPure.K.tops (nB m c t)) ⟨(y 0).val - 4 * (grid0.coords t 0).val, by omega⟩ (ix2 0 (y 1)) := by
    unfold scalesAt
    exact OutBlock.scales_A _ _ _ _ _ _ _ _ _ _ _ _ _ _ _ _ _ _ _ _ _ _ _ _ _ _ _ _ y hs
  refine e.trans ((OutPure.K.scaleRow_apply _ _ (y 1 : Fin 128)).trans ?_)
  refine (congrArg scaleOf (max_at m c t _ 0 (y 1 : Fin 128))).trans ?_
  have er : row t ⟨128 * ((y 0).val - 4 * (grid0.coords t 0).val) + (y 1).val, by omega⟩ = R := by
    apply Fin.ext
    show 512 * t.val + (128 * ((y 0).val - 4 * (grid0.coords t 0).val) + (y 1).val) = R.val
    rw [hc, hR]; omega
  exact congrArg (fun i => scaleOf (OutPure.R.rowMax (fun j : S16384x2048.Idx => nM m c (j 0) (j 1)) (ix1 i))) er

/-! ## The arrays -/

/-- The first result as an array. -/
def G6 : Buf (Elt Ideal) ((c : Thread nD τ).loc main_v2_0) := fun i : S16384x2048.Idx => hM m c (i 0) (i 1)

/-- The codes as an array. -/
def G7 : Buf (Elt Ideal) ((c : Thread nD τ).loc main_v2_1) := fun i : S16384x2048.Idx => codeAt (nM m c) (i 0) (i 1)

/-- The matrix row whose scale stands at an index of the statistics. -/
def statIx (i : S128x128.Idx) : Fin 16384 :=
  ⟨128 * (i 0).val + (i 1).val, by have h0 : (i 0).val < 128 := (i 0).isLt; have h1 : (i 1).val < 128 := (i 1).isLt; omega⟩

/-- The scales as an array. -/
def G8 : Buf (Elt Ideal) ((c : Thread nD τ).loc main_v2_2) := fun i : S128x128.Idx => scaleAt (nM m c) (statIx i)

theorem mem_blk6 (t : Fin cfg0.N) (i : S16384x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v2_0).slice (win0_6.rect t)).set ↔ _
  rw [View.set_slice_whole, Rect.mem_set_unit]
  exact Iff.rfl

theorem cover6 (i : S16384x2048.Idx) : ∃ t : Fin cfg0.N, (cfg0.win 6).flush t = true ∧ i ∈ ((cfg0.win 6).blk t).view.set := by
  have hi0 : (i 0).val < 16384 := (i 0).isLt
  have hi1 : (i 1).val < 2048 := (i 1).isLt
  have ht : (i 0).val / 512 < cfg0.N := by rw [N32]; omega
  refine ⟨⟨_, ht⟩, flush0_6 _, ?_⟩
  rw [mem_blk6]
  obtain ⟨e0, e1⟩ := idx6 ⟨_, ht⟩
  have f0 : win0_6.index ⟨_, ht⟩ (0 : Fin 2) = (i 0).val / 512 := e0
  intro a
  match a with
  | ⟨0, _⟩ => show win0_6.index ⟨_, ht⟩ (0 : Fin 2) * 512 ≤ (i 0).val ∧ (i 0).val < win0_6.index ⟨_, ht⟩ (0 : Fin 2) * 512 + 512; rw [f0]; omega
  | ⟨1, _⟩ => show win0_6.index ⟨_, ht⟩ (1 : Fin 2) * 2048 ≤ (i 1).val ∧ (i 1).val < win0_6.index ⟨_, ht⟩ (1 : Fin 2) * 2048 + 2048; rw [e1]; omega

theorem written6 (t : Fin cfg0.N) (X : Vec Ideal S512x2048 .f32) (hX : X = (outsAt0 m c t).1) :
    (cfg0.win 6).cut (cfg0.grid.coords t) X = ((cfg0.win 6).blk t).view.read (Elt Ideal) (G6 m c) := by
  subst hX
  obtain ⟨e0, e1⟩ := idx6 t
  funext y
  show (outsAt0 m c t).1 ((cfg0.win 6).xinj (grid0.coords t) y) = G6 m c (((cfg0.win 6).blk t).view.emb y)
  rw [left_h]
  show hM m c _ _ = hM m c _ _
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  congr 1
  · apply Fin.ext
    rw [hb0, e0]
    show 512 * t.val + (y 0).val = _
    omega
  · apply Fin.ext
    rw [hb1, e1]
    show (y 1).val = _
    omega

theorem cover_win6 (i : ((cfg0.win 6).arr.view.loc (c.tc : Thread nD τ)).2.ty.Idx) :
    ∃ t : Fin cfg0.N, (cfg0.win 6).flush t = true ∧ i ∈ ((cfg0.win 6).blk t).view.set := by
  exact cover6 i

theorem mem_blk7 (t : Fin cfg0.N) (i : S16384x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v2_1).slice (win0_7.rect t)).set ↔ _
  rw [View.set_slice_whole, Rect.mem_set_unit]
  exact Iff.rfl

theorem cover7 (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  have ht : (i 0).val / 512 < cfg0.N := by rw [N32]; omega
  refine ⟨⟨_, ht⟩, flush0_7 _, ?_⟩
  rw [mem_blk7]
  obtain ⟨e0, e1⟩ := idx7 ⟨_, ht⟩
  have f0 : win0_7.index ⟨_, ht⟩ (0 : Fin 2) = (i 0).val / 512 := e0
  intro a
  match a with
  | ⟨0, _⟩ => show win0_7.index ⟨_, ht⟩ (0 : Fin 2) * 512 ≤ (i 0).val ∧ (i 0).val < win0_7.index ⟨_, ht⟩ (0 : Fin 2) * 512 + 512; rw [f0]; omega
  | ⟨1, _⟩ => show win0_7.index ⟨_, ht⟩ (1 : Fin 2) * 2048 ≤ (i 1).val ∧ (i 1).val < win0_7.index ⟨_, ht⟩ (1 : Fin 2) * 2048 + 2048; rw [e1]; omega

theorem written7 (t : Fin cfg0.N) (X : Vec Ideal S512x2048 .i8) (hX : X = (outsAt0 m c t).2) :
    (cfg0.win 7).cut (cfg0.grid.coords t) X = ((cfg0.win 7).blk t).view.read (Elt Ideal) (G7 m c) := by
  subst hX
  obtain ⟨e0, e1⟩ := idx7 t
  funext y
  show (outsAt0 m c t).2 ((cfg0.win 7).xinj (grid0.coords t) y) = G7 m c (((cfg0.win 7).blk t).view.emb y)
  rw [left_c]
  show codeAt (nM m c) _ _ = codeAt (nM m c) _ _
  have hb0 : (((cfg0.win 7).blk t).view.emb y 0).val = win0_7.index t (0 : Fin 2) * 512 + 1 * (y 0).val := rfl
  have hb1 : (((cfg0.win 7).blk t).view.emb y 1).val = win0_7.index t (1 : Fin 2) * 2048 + 1 * (y 1).val := rfl
  congr 1
  · apply Fin.ext
    rw [hb0, e0]
    show 512 * t.val + (y 0).val = _
    omega
  · apply Fin.ext
    rw [hb1, e1]
    show (y 1).val = _
    omega

theorem cover_win7 (i : ((cfg0.win 7).arr.view.loc (c.tc : Thread nD τ)).2.ty.Idx) :
    ∃ t : Fin cfg0.N, (cfg0.win 7).flush t = true ∧ i ∈ ((cfg0.win 7).blk t).view.set := by
  exact cover7 i

theorem mem_blk8 (t : Fin cfg0.N) (i : S128x128.Idx) :
    i ∈ ((cfg0.win 8).blk t).view.set ↔ ∀ a : Fin 2, win0_8.index t a * S128x128.size a ≤ (i a).val ∧ (i a).val < win0_8.index t a * S128x128.size a + S128x128.size a := by
  show i ∈ ((View.whole main_v2_2).slice (win0_8.rect t)).set ↔ _
  rw [View.set_slice_whole, Rect.mem_set_unit]
  exact Iff.rfl

theorem cover8 (i : S128x128.Idx) : ∃ t : Fin cfg0.N, (cfg0.win 8).flush t = true ∧ i ∈ ((cfg0.win 8).blk t).view.set := by
  have hi0 : (i 0).val < 128 := (i 0).isLt
  have hi1 : (i 1).val < 128 := (i 1).isLt
  have ht : 31 < cfg0.N := by rw [N32]; omega
  refine ⟨⟨31, ht⟩, (flush0_8 _).mpr rfl, ?_⟩
  rw [mem_blk8]
  obtain ⟨e0, e1⟩ := idx8 ⟨31, ht⟩
  intro a
  match a with
  | ⟨0, _⟩ => show win0_8.index ⟨31, ht⟩ (0 : Fin 2) * 128 ≤ (i 0).val ∧ (i 0).val < win0_8.index ⟨31, ht⟩ (0 : Fin 2) * 128 + 128; rw [e0]; omega
  | ⟨1, _⟩ => show win0_8.index ⟨31, ht⟩ (1 : Fin 2) * 128 ≤ (i 1).val ∧ (i 1).val < win0_8.index ⟨31, ht⟩ (1 : Fin 2) * 128 + 128; rw [e1]; omega

theorem read8 (t : Fin cfg0.N) (X : Vec Ideal S128x128 .f32) (G : Buf (Elt Ideal) ((c : Thread nD τ).loc main_v2_2))
    (h : ∀ y, X ((cfg0.win 8).xinj (grid0.coords t) y) = G (((cfg0.win 8).blk t).view.emb y)) :
    (cfg0.win 8).cut (cfg0.grid.coords t) X = ((cfg0.win 8).blk t).view.read (Elt Ideal) G :=
  funext h

theorem written8 (t : Fin cfg0.N) (hf : (cfg0.win 8).flush t = true) (X : Vec Ideal S128x128 .f32) (hX : HoldsRows m c (t.val + 1) X) :
    (cfg0.win 8).cut (cfg0.grid.coords t) X = ((cfg0.win 8).blk t).view.read (Elt Ideal) (G8 m c) := by
  have ht : t.val % 32 = 31 := (flush0_8 t).mp hf
  have hlt := lt_of_lt_of_eq t.isLt N32
  obtain ⟨e0, e1⟩ := idx8 t
  refine read8 c t X (G8 m c) fun y => ?_
  have hy0 : (y 0).val < 128 := (y 0).isLt
  have hy1 : (y 1).val < 128 := (y 1).isLt
  have ht' : (y 0).val / 4 < cfg0.N := by rw [N32]; omega
  have hb0 : (((cfg0.win 8).blk t).view.emb y 0).val = win0_8.index t (0 : Fin 2) * 128 + 1 * (y 0).val := rfl
  have hb1 : (((cfg0.win 8).blk t).view.emb y 1).val = win0_8.index t (1 : Fin 2) * 128 + 1 * (y 1).val := rfl
  have g0 : (((cfg0.win 8).xinj (grid0.coords t) y) 0).val = (y 0).val := rfl
  have g1 : (((cfg0.win 8).xinj (grid0.coords t) y) 1).val = (y 1).val := rfl
  have a2 : 4 * ((y 0).val / 4) ≤ (y 0).val := by omega
  have a3 : (y 0).val < 4 * ((y 0).val / 4) + 4 := by omega
  refine (hX ⟨_, ht'⟩ (by show (y 0).val / 4 < t.val + 1; omega) _ (le_of_le_of_eq a2 g0.symm) (lt_of_eq_of_lt g0 a3)).trans ?_
  refine scales_at m c ⟨_, ht'⟩ _ (le_of_le_of_eq a2 g0.symm) (lt_of_eq_of_lt g0 a3) _ ?_
  show 128 * (((cfg0.win 8).blk t).view.emb y 0).val + (((cfg0.win 8).blk t).view.emb y 1).val = _
  rw [hb0, hb1, g0, g1, e0, e1]
  omega

theorem cover_win8 (i : ((cfg0.win 8).arr.view.loc (c.tc : Thread nD τ)).2.ty.Idx) :
    ∃ t : Fin cfg0.N, (cfg0.win 8).flush t = true ∧ i ∈ ((cfg0.win 8).blk t).view.set := by
  exact cover8 i

set_option maxHeartbeats 4000000 in
set_option backward.isDefEq.respectTransparency.types false in
/-- The run: the first result, the codes and the scales of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2_0) = G6 m c
      ∧ r.2.mem ((c : Thread nD τ).loc main_v2_1) = G7 m c
      ∧ r.2.mem ((c : Thread nD τ).loc main_v2_2) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨Cert.Relational.arr_eq_of_cover h c 6 (G6 m c) (fun t _ X hX => written6 m c t X (Dat.toRRel_leaves (dats m 0 c) rfl hX)) (cover_win6 c),
     Cert.Relational.arr_eq_of_cover h c 7 (G7 m c) (fun t _ X hX => written7 m c t X (Dat.toRRel_leaves (dats m 0 c) rfl hX)) (cover_win7 c),
     Cert.Relational.arr_eq_of_cover h c 8 (G8 m c) (fun t hf X hX => written8 m c t hf X (Dat.toRRel_leaves (dats m 0 c) rfl hX)) (cover_win8 c),
     frame_of_rel m _ (A_eq m) h c⟩) (run_main m ρ)

end Cert.OutArray

end
-- ==== Proof.OutRefValue.lean ====
/-
  The reference of the output projection: what its run leaves.
-/
module

public import proofs.«01_k».proof.Proof.OutArray
public import proofs.«01_k».proof.Proof.Gen.OutRefIdeal.Frame

@[expose] public section

set_option maxRecDepth 16384

noncomputable section

namespace Cert.OutRefValue

open Cert.OutRefIdeal Cert.OutRefIdeal.Gen Idealize.ShloMosaic Idealize.ShloMosaic.TcCoe Idealize.SL.Sem
open Cert.DownPure (num)
open Cert.UpPure (scaleOf)
open Cert.UpArray (rowScale)
open Cert.OutPure (normOf codeOf)
open Cert.OutArray (hAt nAt scaleAt codeAt statIx)

variable (m : (ℓ : Loc nD τ sig) → Buf (Elt Ideal) ℓ) (c : Dev nD)

abbrev xA : Vec Ideal S16384x2048 .i8 := m ((c : Thread nD τ).loc main_arg0)
abbrev scA : Vec Ideal S128x128 .f32 := m ((c : Thread nD τ).loc main_arg1)
abbrev rA : Vec Ideal S16384x2048 .bf16 := m ((c : Thread nD τ).loc main_arg2)
abbrev wA : Vec Ideal S2048x2048 .i8 := m ((c : Thread nD τ).loc main_arg3)
abbrev swA : Vec Ideal S2048 .f32 := m ((c : Thread nD τ).loc main_arg4)
abbrev gA : Vec Ideal S2048 .f32 := m ((c : Thread nD τ).loc main_arg5)

/-- The first result of the arguments. -/
abbrev hM (r : Fin 16384) (n : Fin 2048) : EReal := hAt (xA m c) (scA m c) (rA m c) (wA m c) (swA m c) r n

/-- Its normalised entries. -/
abbrev nM (r : Fin 16384) (n : Fin 2048) : EReal := nAt (hM m c) (gA m c) r n

/-- The one point of a program without a grid. -/
abbrev t₀ : Fin cfg0.N := ⟨0, by decide⟩

theorem hz : (![0, 0] : Fin 2 → Nat) = fun _ => 0 := funext fun a => by fin_cases a <;> rfl

theorem ix_eta {a b : Nat} (j : (⟨2, ![a, b]⟩ : Shape).Idx) : j = ix2 (j 0) (j 1) := by
  funext x
  match x with
  | ⟨0, _⟩ => rfl
  | ⟨1, _⟩ => rfl

theorem whole6 (f : Vec Ideal S16384x2048 .f32) : ((cfg0.win 6).blk t₀).view.read (Elt Ideal) f = f :=
  Memref.read_access_unit_zero (Elt Ideal) main_v3_0 (funext fun a => by fin_cases a <;> rfl) (fun a => by fin_cases a <;> decide) f

theorem whole7 (f : Vec Ideal S16384x2048 .i8) : ((cfg0.win 7).blk t₀).view.read (Elt Ideal) f = f :=
  Memref.read_access_unit_zero (Elt Ideal) main_v3_1 (funext fun a => by fin_cases a <;> rfl) (fun a => by fin_cases a <;> decide) f

theorem whole8 (f : Vec Ideal S16384x1 .f32) : ((cfg0.win 8).blk t₀).view.read (Elt Ideal) f = f :=
  Memref.read_access_unit_zero (Elt Ideal) main_v3_2 (funext fun a => by fin_cases a <;> rfl) (fun a => by fin_cases a <;> decide) f

theorem blk0 : (iblk m c 0 t₀ : Vec Ideal S16384x2048 .i8) = xA m c := by
  unfold iblk
  rw [V_main_arg0]
  exact Memref.read_access_unit_zero (Elt Ideal) main_arg0 (funext fun a => by fin_cases a <;> rfl) (fun a => by fin_cases a <;> decide) _

theorem blk1 : (iblk m c 1 t₀ : Vec Ideal S16384x1 .f32) = V m c main_v0 := by
  unfold iblk
  exact Memref.read_access_unit_zero (Elt Ideal) main_v0 (funext fun a => by fin_cases a <;> rfl) (fun a => by fin_cases a <;> decide) _

theorem blk2 : (iblk m c 2 t₀ : Vec Ideal S16384x2048 .bf16) = rA m c := by
  unfold iblk
  rw [V_main_arg2]
  exact Memref.read_access_unit_zero (Elt Ideal) main_arg2 (funext fun a => by fin_cases a <;> rfl) (fun a => by fin_cases a <;> decide) _

theorem blk3 : (iblk m c 3 t₀ : Vec Ideal S2048x2048 .i8) = wA m c := by
  unfold iblk
  rw [V_main_arg3]
  exact Memref.read_access_unit_zero (Elt Ideal) main_arg3 (funext fun a => by fin_cases a <;> rfl) (fun a => by fin_cases a <;> decide) _

theorem blk4 : (iblk m c 4 t₀ : Vec Ideal S1x2048 .f32) = V m c main_v1 := by
  unfold iblk
  exact Memref.read_access_unit_zero (Elt Ideal) main_v1 (funext fun a => by fin_cases a <;> rfl) (fun a => by fin_cases a <;> decide) _

theorem blk5 : (iblk m c 5 t₀ : Vec Ideal S1x2048 .f32) = V m c main_v2 := by
  unfold iblk
  exact Memref.read_access_unit_zero (Elt Ideal) main_v2 (funext fun a => by fin_cases a <;> rfl) (fun a => by fin_cases a <;> decide) _

theorem V_v0 (r : Fin 16384) : (V m c main_v0 : Vec Ideal S16384x1 .f32) (ix2 r 0) = rowScale (scA m c) r := by
  show StableHlo.after hostOps0 (fun b => m (c, b)) (Proc.devRef .tc main_v0) (ix2 r 0) = _
  entry_read
  pointwise
  rfl

theorem V_v1 (n : Fin 2048) : (V m c main_v1 : Vec Ideal S1x2048 .f32) (ix2 0 n) = swA m c (ix1 n) := by
  show StableHlo.after hostOps0 (fun b => m (c, b)) (Proc.devRef .tc main_v1) (ix2 0 n) = _
  entry_read
  pointwise

theorem V_v2 (n : Fin 2048) : (V m c main_v2 : Vec Ideal S1x2048 .f32) (ix2 0 n) = gA m c (ix1 n) := by
  show StableHlo.after hostOps0 (fun b => m (c, b)) (Proc.devRef .tc main_v2) (ix2 0 n) = _
  entry_read
  pointwise

/-! ## The arrays of the one point -/

theorem idx_inj6 : ∀ t t' : Fin cfg0.N, win0_6.index t = win0_6.index t' → t = t' :=
  (by decide +kernel : ∀ t t' : Fin grid0.N, win0_6.index t = win0_6.index t' → t = t')

theorem arr6 : ((dats m 0 c).arrAt 6 cfg0.N : Vec Ideal S16384x2048 .f32)
    = out0_6 (iblk m c 0 t₀) (iblk m c 1 t₀) (iblk m c 2 t₀) (iblk m c 3 t₀) (iblk m c 4 t₀) (iblk m c 5 t₀) := by
  have e := (dats m 0 c).read_blk_arrAt_eq_flushed 6 (fun t t' _ _ hne => (cfg0.win 6).disjoint_blk fun h => hne (idx_inj6 t t' h)) cfg0.N t₀ t₀.isLt rfl
  rw [whole6] at e
  rw [e]
  show (cfg0.win 6).cut (grid0.coords t₀) ((dats m 0 c).after 6 t₀) = _
  rw [after0_6]
  rfl

theorem idx_inj7 : ∀ t t' : Fin cfg0.N, win0_7.index t = win0_7.index t' → t = t' :=
  (by decide +kernel : ∀ t t' : Fin grid0.N, win0_7.index t = win0_7.index t' → t = t')

theorem arr7 : ((dats m 0 c).arrAt 7 cfg0.N : Vec Ideal S16384x2048 .i8)
    = out0_7 (iblk m c 0 t₀) (iblk m c 1 t₀) (iblk m c 2 t₀) (iblk m c 3 t₀) (iblk m c 4 t₀) (iblk m c 5 t₀) := by
  have e := (dats m 0 c).read_blk_arrAt_eq_flushed 7 (fun t t' _ _ hne => (cfg0.win 7).disjoint_blk fun h => hne (idx_inj7 t t' h)) cfg0.N t₀ t₀.isLt rfl
  rw [whole7] at e
  rw [e]
  show (cfg0.win 7).cut (grid0.coords t₀) ((dats m 0 c).after 7 t₀) = _
  rw [after0_7]
  rfl

theorem idx_inj8 : ∀ t t' : Fin cfg0.N, win0_8.index t = win0_8.index t' → t = t' :=
  (by decide +kernel : ∀ t t' : Fin grid0.N, win0_8.index t = win0_8.index t' → t = t')

theorem arr8 : ((dats m 0 c).arrAt 8 cfg0.N : Vec Ideal S16384x1 .f32)
    = out0_8 (iblk m c 0 t₀) (iblk m c 1 t₀) (iblk m c 2 t₀) (iblk m c 3 t₀) (iblk m c 4 t₀) (iblk m c 5 t₀) := by
  have e := (dats m 0 c).read_blk_arrAt_eq_flushed 8 (fun t t' _ _ hne => (cfg0.win 8).disjoint_blk fun h => hne (idx_inj8 t t' h)) cfg0.N t₀ t₀.isLt rfl
  rw [whole8] at e
  rw [e]
  show (cfg0.win 8).cut (grid0.coords t₀) ((dats m 0 c).after 8 t₀) = _
  rw [after0_8]
  rfl

theorem h_eq (r : Fin 16384) (n : Fin 2048) :
    k0_pay2 (F := Ideal) (xA m c) (V m c main_v0) (rA m c) (wA m c) (V m c main_v1) (ix2 r n) = hM m c r n := by
  rw [OutPure.R.h_apply, V_v0, V_v1]
  rfl

theorem n_eq (r : Fin 16384) (n : Fin 2048) :
    k0_pay3 (F := Ideal) (xA m c) (V m c main_v0) (rA m c) (wA m c) (V m c main_v1) (V m c main_v2) (ix2 r n) = nM m c r n := by
  refine (OutPure.R.n_apply _ _ _ _ _ _ r n).trans ?_
  rw [V_v2]
  exact congrArg₂ (fun a b => normOf a b (gA m c (ix1 n))) (h_eq m c r n)
    (Finset.sum_congr rfl fun k _ => congrArg₂ (· * ·) (h_eq m c r k) (h_eq m c r k))

theorem n_fun : k0_pay3 (F := Ideal) (xA m c) (V m c main_v0) (rA m c) (wA m c) (V m c main_v1) (V m c main_v2) = fun j : S16384x2048.Idx => nM m c (j 0) (j 1) := by
  funext j
  exact (congrArg (k0_pay3 (F := Ideal) (xA m c) (V m c main_v0) (rA m c) (wA m c) (V m c main_v1) (V m c main_v2)) (ix_eta j)).trans (n_eq m c (j 0) (j 1))

theorem h_array (i : Fin 16384) (k : Fin 2048) :
    ((dats m 0 c).arrAt 6 cfg0.N : Vec Ideal S16384x2048 .f32) (ix2 i k) = hM m c i k := by
  rw [arr6]
  unfold out0_6
  rw [View.canon_unit_zero hz]
  simp only [View.ld_unit_zero (S := S16384x2048) hz, View.ld_unit_zero (S := S16384x1) hz, View.ld_unit_zero (S := S2048x2048) hz, View.ld_unit_zero (S := S1x2048) hz]
  rw [blk0, blk1, blk2, blk3, blk4, h_eq]

theorem code_array (i : Fin 16384) (k : Fin 2048) :
    ((dats m 0 c).arrAt 7 cfg0.N : Vec Ideal S16384x2048 .i8) (ix2 i k) = codeAt (nM m c) i k := by
  rw [arr7]
  unfold out0_7
  rw [View.canon_unit_zero hz]
  simp only [View.ld_unit_zero (S := S16384x2048) hz, View.ld_unit_zero (S := S16384x1) hz, View.ld_unit_zero (S := S2048x2048) hz, View.ld_unit_zero (S := S1x2048) hz]
  rw [blk0, blk1, blk2, blk3, blk4, blk5, OutPure.R.code_apply, n_eq, n_fun]
  rfl

theorem scale_array (i : Fin 16384) :
    ((dats m 0 c).arrAt 8 cfg0.N : Vec Ideal S16384x1 .f32) (ix2 i 0) = scaleAt (nM m c) i := by
  rw [arr8]
  unfold out0_8
  rw [View.canon_unit_zero hz]
  simp only [View.ld_unit_zero (S := S16384x2048) hz, View.ld_unit_zero (S := S16384x1) hz, View.ld_unit_zero (S := S2048x2048) hz, View.ld_unit_zero (S := S1x2048) hz]
  rw [blk0, blk1, blk2, blk3, blk4, blk5, OutPure.R.scale_apply, n_fun]
  rfl

theorem h_eq_fun : (dats m 0 c).arrAt 6 cfg0.N = (fun j : S16384x2048.Idx => hM m c (j 0) (j 1)) := by
  funext j
  exact (congrArg ((dats m 0 c).arrAt 6 cfg0.N : Vec Ideal S16384x2048 .f32) (ix_eta j)).trans (h_array m c (j 0) (j 1))

theorem code_eq_fun : (dats m 0 c).arrAt 7 cfg0.N = (fun j : S16384x2048.Idx => codeAt (nM m c) (j 0) (j 1)) := by
  funext j
  exact (congrArg ((dats m 0 c).arrAt 7 cfg0.N : Vec Ideal S16384x2048 .i8) (ix_eta j)).trans (code_array m c (j 0) (j 1))

/-! ## The reshape after the call -/

theorem tail_v4 : Pipeline.afterTail₀ cfgs (dats m) 0 (V0 m) [hostOps1] c main_v4
    = shapeCast S128x128 ((dats m 0 c).arrAt 8 cfg0.N : Vec Ideal S16384x1 .f32) shapeCasts_S16384x1_S128x128 := by
  unfold Pipeline.afterTail₀
  simp only [hostOps1, List.flatten_cons, List.flatten_nil, List.append_nil, StableHlo.after_cons, StableHlo.after_nil]
  refine (StableHlo.reshape_result main_v3_2 main_v4 rfl shapeCasts_S16384x1_S128x128 _ _ _).trans ?_
  funext i
  show shapeCast S128x128 _ _ i = _
  rw [show Pipeline.withArrays (cfgs 0).spec c (V0 m c) (fun w => (dats m 0 c).arrAt w (cfgs 0).N) main_v3_2 = (dats m 0 c).arrAt 8 cfg0.N from
    Pipeline.withArrays_arr spec0 launch0.win.arr_inj c (V0 m c) (fun w => (dats m 0 c).arrAt w cfg0.N) 8]

theorem scale_result (j : S128x128.Idx) :
    (Pipeline.afterTail₀ cfgs (dats m) 0 (V0 m) [hostOps1] c main_v4 : Vec Ideal S128x128 .f32) j = scaleAt (nM m c) (statIx j) := by
  rw [tail_v4]
  have h : shapeCast S128x128 ((dats m 0 c).arrAt 8 cfg0.N : Vec Ideal S16384x1 .f32) shapeCasts_S16384x1_S128x128 (ix2 (j 0) (j 1))
      = ((dats m 0 c).arrAt 8 cfg0.N : Vec Ideal S16384x1 .f32) (ix2 (statIx j) 0) := by
    generalize ((dats m 0 c).arrAt 8 cfg0.N : Vec Ideal S16384x1 .f32) = f
    pointwise
    exact congrArg (fun i : Fin 16384 => f (ix2 i 0)) (Fin.ext (by show (j 0).val * 128 + (j 1).val = 128 * (j 0).val + (j 1).val; omega))
  exact (congrArg (shapeCast S128x128 ((dats m 0 c).arrAt 8 cfg0.N : Vec Ideal S16384x1 .f32) shapeCasts_S16384x1_S128x128) (ix_eta j)).trans
    (h.trans (scale_array m c (statIx j)))

/-- The run: the first result, the codes and the scales of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = (fun j : S16384x2048.Idx => hM m c (j 0) (j 1))
      ∧ r.2.mem ((c : Thread nD τ).loc main_v3_1) = (fun j : S16384x2048.Idx => codeAt (nM m c) (j 0) (j 1))
      ∧ r.2.mem ((c : Thread nD τ).loc main_v4) = (fun j : S128x128.Idx => scaleAt (nM m c) (statIx j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h.1 c).1 6).trans (h_eq_fun m c),
     ((h.1 c).1 7).trans (code_eq_fun m c),
     ((h.1 c).2 main_v4 (Pipeline.mem_restRefs_of main_v4 (by decide) (by decide))).trans (funext fun j => scale_result m c j),
     h.2 c⟩)
    (θ_run_and (run_main m ρ) (unchanged m ρ))

end Cert.OutRefValue

end
-- ==== Proof.OutClaim.lean ====
/-
  The output projection and its reference leave the same sums, the same codes and the same scales.
-/
module

public import proofs.«01_k».proof.Defs
public import proofs.«01_k».proof.Proof.OutRefValue
public import Idealize.ShloMosaic.Lib.Claim

@[expose] public section

set_option maxRecDepth 16384

noncomputable section

namespace Cert.OutClaim

open Idealize.ShloMosaic Idealize.ShloMosaic.TcCoe Idealize.SL.Sem

theorem algebraic : Cert.algebraic_OutIdeal_OutRefIdeal (hOutIdeal := Cert.OutIdeal.Gen.facts) (hOutRefIdeal := Cert.OutRefIdeal.Gen.facts) := by
  intro m g m' g' _ hargs
  refine ⟨fun c => OutArray.G6 m c, fun c => OutArray.G7 m c, fun c => OutArray.G8 m c, OutArray.run m g, ?_⟩
  refine (θ_run (Cert.OutRefIdeal.defs (F := Ideal)) _ _).mono (fun r h c => ?_) (OutRefValue.run m' g')
  obtain ⟨h6, h7, h8, h0⟩ := h c
  obtain ⟨a0, a1, a2, a3, a4, a5⟩ := hargs c
  have e0 : OutRefValue.xA m' c = OutArray.xA m c := a0
  have e1 : OutRefValue.scA m' c = OutArray.scA m c := a1
  have e2 : OutRefValue.rA m' c = OutArray.rA m c := a2
  have e3 : OutRefValue.wA m' c = OutArray.wA m c := a3
  have e4 : OutRefValue.swA m' c = OutArray.swA m c := a4
  have e5 : OutRefValue.gA m' c = OutArray.gA m c := a5
  have e : OutRefValue.hM m' c = OutArray.hM m c := by
    funext r n
    unfold OutRefValue.hM
    rw [e0, e1, e2, e3, e4]
  have e' : OutRefValue.nM m' c = OutArray.nM m c := by
    funext r n
    unfold OutRefValue.nM
    rw [e, e5]
  refine ⟨h6.trans ?_, h7.trans ?_, h8.trans ?_, h0⟩
  · rw [e]; rfl
  · rw [e']; rfl
  · rw [e']; rfl

end Cert.OutClaim

end
-- ==== Proof.lean ====
/-
  The proof of `Cert.Claim`: the runs of the nine programs and, for each of the three calls, the equality of the results of
  the kernel and of its reference.
-/
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Skeleton
public import proofs.«01_k».proof.Proof.Gen.UpRefIdeal.Launch
public import proofs.«01_k».proof.Proof.Gen.UpRefIdeal.Points
public import proofs.«01_k».proof.Proof.Gen.UpRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.DownIdeal.Value
public import proofs.«01_k».proof.Proof.Gen.DownRefIdeal.Value
public import proofs.«01_k».proof.Proof.UpFrame
public import proofs.«01_k».proof.Proof.UpIdealFrame
public import proofs.«01_k».proof.Proof.UpClaim
public import proofs.«01_k».proof.Proof.DownClaim
public import proofs.«01_k».proof.Proof.OutFrame
public import proofs.«01_k».proof.Proof.OutIdealFrame
public import proofs.«01_k».proof.Proof.OutClaim
public import Idealize.ShloMosaic.Adequacy
public import Idealize.ShloMosaic.Init

@[expose] public section

noncomputable section

namespace Cert.Proof

open Idealize.ShloMosaic Idealize.SL.Sem Cert.Down

theorem claim : Cert.Claim := ⟨Cert.Up.Gen.facts, Cert.UpIdeal.Gen.facts, Cert.UpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  fun m g _ => Cert.Up.Run.frame m g, fun m g _ => Cert.UpIdeal.Run.frame m g, fun m g _ => Cert.UpRefIdeal.Gen.frame m g,
  fun m g _ => Cert.Down.Gen.frame m g, fun m g _ => Cert.DownIdeal.Gen.frame m g, fun m g _ => Cert.DownRefIdeal.Gen.frame m g,
  fun m g _ => Cert.Out.Run.frame m g, fun m g _ => Cert.OutIdeal.Run.frame m g, fun m g _ => Cert.OutRefIdeal.Gen.frame m g,
  trivial, Cert.UpClaim.algebraic, trivial, Cert.DownClaim.algebraic, trivial, Cert.OutClaim.algebraic⟩

end Cert.Proof

end
